-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0_0) = v0 c
          ∧ r.2.mem ((c.tc : Thread Cert.UpRefIdeal.nD Cert.UpRefIdeal.τ).loc Cert.UpRefIdeal.main_v0_1) = v1 c
          ∧ r.2.mem ((c.tc : Thread Cert.UpRefIdeal.nD Cert.UpRefIdeal.τ).loc Cert.UpRefIdeal.main_v0_2) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v0_0) = v0 c
          ∧ r.2.mem ((c.tc : Thread Cert.NormRefIdeal.nD Cert.NormRefIdeal.τ).loc Cert.NormRefIdeal.main_v0_1) = v1 c
          ∧ r.2.mem ((c.tc : Thread Cert.NormRefIdeal.nD Cert.NormRefIdeal.τ).loc Cert.NormRefIdeal.main_v0_2) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)) →
    ∃ (v0 : (c : Dev Cert.OprojIdeal.nD) → Buf (Elt Ideal) ((c.tc : Thread Cert.OprojIdeal.nD Cert.OprojIdeal.τ).loc Cert.OprojIdeal.main_v0_0)) (v1 : (c : Dev Cert.OprojIdeal.nD) → Buf (Elt Ideal) ((c.tc : Thread Cert.OprojIdeal.nD Cert.OprojIdeal.τ).loc Cert.OprojIdeal.main_v0_1)) (v2 : (c : Dev Cert.OprojIdeal.nD) → Buf (Elt Ideal) ((c.tc : Thread Cert.OprojIdeal.nD Cert.OprojIdeal.τ).loc Cert.OprojIdeal.main_v0_2)) (v3 : (c : Dev Cert.OprojIdeal.nD) → Buf (Elt Ideal) ((c.tc : Thread Cert.OprojIdeal.nD Cert.OprojIdeal.τ).loc Cert.OprojIdeal.main_v0_3)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0_0) = v0 c
          ∧ r.2.mem ((c.tc : Thread Cert.OprojIdeal.nD Cert.OprojIdeal.τ).loc Cert.OprojIdeal.main_v0_1) = v1 c
          ∧ r.2.mem ((c.tc : Thread Cert.OprojIdeal.nD Cert.OprojIdeal.τ).loc Cert.OprojIdeal.main_v0_2) = v2 c
          ∧ r.2.mem ((c.tc : Thread Cert.OprojIdeal.nD Cert.OprojIdeal.τ).loc Cert.OprojIdeal.main_v0_3) = v3 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v0_0) = v0 c
          ∧ r.2.mem ((c.tc : Thread Cert.OprojRefIdeal.nD Cert.OprojRefIdeal.τ).loc Cert.OprojRefIdeal.main_v0_1) = v1 c
          ∧ r.2.mem ((c.tc : Thread Cert.OprojRefIdeal.nD Cert.OprojRefIdeal.τ).loc Cert.OprojRefIdeal.main_v0_2) = v2 c
          ∧ r.2.mem ((c.tc : Thread Cert.OprojRefIdeal.nD Cert.OprojRefIdeal.τ).loc Cert.OprojRefIdeal.main_v0_3) = v3 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4))

def Claim : Prop :=
  ∃ (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hNorm : Cert.Norm.Facts) (hNormIdeal : Cert.NormIdeal.Facts) (hNormRefIdeal : Cert.NormRefIdeal.Facts) (hOproj : Cert.Oproj.Facts) (hOprojIdeal : Cert.OprojIdeal.Facts) (hOprojRefIdeal : Cert.OprojRefIdeal.Facts),
    quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Norm (hNorm := hNorm)
    ∧ quiescent_NormIdeal (hNormIdeal := hNormIdeal)
    ∧ quiescent_NormRefIdeal (hNormRefIdeal := hNormRefIdeal)
    ∧ quiescent_Oproj (hOproj := hOproj)
    ∧ quiescent_OprojIdeal (hOprojIdeal := hOprojIdeal)
    ∧ quiescent_OprojRefIdeal (hOprojRefIdeal := hOprojRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Norm_NormIdeal
    ∧ algebraic_NormIdeal_NormRefIdeal (hNormIdeal := hNormIdeal) (hNormRefIdeal := hNormRefIdeal)
    ∧ preserves_Oproj_OprojIdeal
    ∧ algebraic_OprojIdeal_OprojRefIdeal (hOprojIdeal := hOprojIdeal) (hOprojRefIdeal := hOprojRefIdeal)
-- ==== Down.lean ====
abbrev S2048x6144 : Shape := ⟨2, ![2048, 6144]⟩
abbrev S6144x4096 : Shape := ⟨2, ![6144, 4096]⟩
abbrev S48x32 : Shape := ⟨2, ![48, 32]⟩
abbrev S2048x4096 : Shape := ⟨2, ![2048, 4096]⟩
abbrev S6144x256 : Shape := ⟨2, ![6144, 256]⟩
abbrev S2048x256 : Shape := ⟨2, ![2048, 256]⟩
abbrev S1x1 : Shape := ⟨2, ![1, 1]⟩
abbrev S128x128 : Shape := ⟨2, ![128, 128]⟩
abbrev S256x256 : Shape := ⟨2, ![256, 256]⟩
abbrev S256x6144 : Shape := ⟨2, ![256, 6144]⟩

abbrev nBuf : Space → Nat
  | .hbm => 5
  | .vmem => 8
  | .smem => 1
  | _ => 0

abbrev bufTy : (tb : Table) → Fin (tcTables nBuf tb) → BufTy
  | .hbm, ⟨0, _⟩ => ⟨S2048x6144, .bf16⟩
  | .hbm, ⟨1, _⟩ => ⟨S6144x4096, .fp8e4m3⟩
  | .hbm, ⟨2, _⟩ => ⟨S48x32, .f32⟩
  | .hbm, ⟨3, _⟩ => ⟨S2048x4096, .f32⟩
  | .hbm, ⟨4, _⟩ => ⟨S2048x4096, .bf16⟩
  | .local _ .vmem, ⟨0, _⟩ => ⟨S2048x6144, .bf16⟩
  | .local _ .vmem, ⟨1, _⟩ => ⟨S6144x256, .fp8e4m3⟩
  | .local _ .vmem, ⟨2, _⟩ => ⟨S6144x256, .fp8e4m3⟩
  | .local _ .vmem, ⟨3, _⟩ => ⟨S2048x256, .f32⟩
  | .local _ .vmem, ⟨4, _⟩ => ⟨S2048x256, .f32⟩
  | .local _ .vmem, ⟨5, _⟩ => ⟨S2048x256, .bf16⟩
  | .local _ .vmem, ⟨6, _⟩ => ⟨S2048x256, .bf16⟩
  | .local _ .vmem, ⟨7, _⟩ => ⟨S6144x256, .bf16⟩
  | .local _ .smem, ⟨0, _⟩ => ⟨S48x32, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def k0_off1 (i : grid0.Coords) (c0_i32 : BitVec 32) : Fin 2 → Nat :=
  let c0 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![0, v2.toNat]
def k0_off2 (i : grid0.Coords) (c0_i32_8 : BitVec 32) : Fin 2 → Nat :=
  let c1 : Index := 1#32
  let arg0 : BitVec 32 := BitVec.ofNat 32 (i 0).val
  let c2_i32 : BitVec 32 := 2#32
  let v0 : BitVec 32 := Scalar.muli arg0 c2_i32
  let v23 : BitVec 32 := Scalar.addi v0 c0_i32_8
  let v24 : Index := Scalar.indexCast v23
  ![1, v24.toNat]
def k0_off3 (i : grid0.Coords) (c0_i32_19 : BitVec 32) : Fin 2 → Nat :=
  let c2 : Index := 2#32
  let arg0 : BitVec 32 := BitVec.ofNat 32 (i 0).val
  let c2_i32 : BitVec 32 := 2#32
  let v0 : BitVec 32 := Scalar.muli arg0 c2_i32
  let v45 : BitVec 32 := Scalar.addi v0 c0_i32_19
  let v46 : Index := Scalar.indexCast v45
  ![2, v46.toNat]
def k0_off4 (i : grid0.Coords) (c0_i32_29 : BitVec 32) : Fin 2 → Nat :=
  let c3 : Index := 3#32
  let arg0 : BitVec 32 := BitVec.ofNat 32 (i 0).val
  let c2_i32 : BitVec 32 := 2#32
  let v0 : BitVec 32 := Scalar.muli arg0 c2_i32
  let v67 : BitVec 32 := Scalar.addi v0 c0_i32_29
  let v68 : Index := Scalar.indexCast v67
  ![3, v68.toNat]
def k0_off5 (i : grid0.Coords) (c0_i32_39 : BitVec 32) : Fin 2 → Nat :=
  let c4 : Index := 4#32
  let arg0 : BitVec 32 := BitVec.ofNat 32 (i 0).val
  let c2_i32 : BitVec 32 := 2#32
  let v0 : BitVec 32 := Scalar.muli arg0 c2_i32
  let v89 : BitVec 32 := Scalar.addi v0 c0_i32_39
  let v90 : Index := Scalar.indexCast v89
  ![4, v90.toNat]
def k0_off6 (i : grid0.Coords) (c0_i32_49 : BitVec 32) : Fin 2 → Nat :=
  let c5 : Index := 5#32
  let arg0 : BitVec 32 := BitVec.ofNat 32 (i 0).val
  let c2_i32 : BitVec 32 := 2#32
  let v0 : BitVec 32 := Scalar.muli arg0 c2_i32
  let v111 : BitVec 32 := Scalar.addi v0 c0_i32_49
  let v112 : Index := Scalar.indexCast v111
  ![5, v112.toNat]
def k0_off7 (i : grid0.Coords) (c0_i32_59 : BitVec 32) : Fin 2 → Nat :=
  let c6 : Index := 6#32
  let arg0 : BitVec 32 := BitVec.ofNat 32 (i 0).val
  let c2_i32 : BitVec 32 := 2#32
  let v0 : BitVec 32 := Scalar.muli arg0 c2_i32
  let v133 : BitVec 32 := Scalar.addi v0 c0_i32_59
  let v134 : Index := Scalar.indexCast v133
  ![6, v134.toNat]
def k0_off8 (i : grid0.Coords) (c0_i32_69 : BitVec 32) : Fin 2 → Nat :=
  let c7 : Index := 7#32
  let arg0 : BitVec 32 := BitVec.ofNat 32 (i 0).val
  let c2_i32 : BitVec 32 := 2#32
  let v0 : BitVec 32 := Scalar.muli arg0 c2_i32
  let v155 : BitVec 32 := Scalar.addi v0 c0_i32_69
  let v156 : Index := Scalar.indexCast v155
  ![7, v156.toNat]
def k0_off9 (i : grid0.Coords) (c0_i32_79 : BitVec 32) : Fin 2 → Nat :=
  let c8 : Index := 8#32
  let arg0 : BitVec 32 := BitVec.ofNat 32 (i 0).val
  let c2_i32 : BitVec 32 := 2#32
  let v0 : BitVec 32 := Scalar.muli arg0 c2_i32
  let v177 : BitVec 32 := Scalar.addi v0 c0_i32_79
  let v178 : Index := Scalar.indexCast v177
  ![8, v178.toNat]
def k0_off10 (i : grid0.Coords) (c0_i32_89 : BitVec 32) : Fin 2 → Nat :=
  let c9 : Index := 9#32
  let arg0 : BitVec 32 := BitVec.ofNat 32 (i 0).val
  let c2_i32 : BitVec 32 := 2#32
  let v0 : BitVec 32 := Scalar.muli arg0 c2_i32
  let v199 : BitVec 32 := Scalar.addi v0 c0_i32_89
  let v200 : Index := Scalar.indexCast v199
  ![9, v200.toNat]
def k0_off11 (i : grid0.Coords) (c0_i32_99 : BitVec 32) : Fin 2 → Nat :=
  let c10 : Index := 10#32
  let arg0 : BitVec 32 := BitVec.ofNat 32 (i 0).val
  let c2_i32 : BitVec 32 := 2#32
  let v0 : BitVec 32 := Scalar.muli arg0 c2_i32
  let v221 : BitVec 32 := Scalar.addi v0 c0_i32_99
  let v222 : Index := Scalar.indexCast v221
  ![10, v222.toNat]
def k0_off12 (i : grid0.Coords) (c0_i32_109 : BitVec 32) : Fin 2 → Nat :=
  let c11 : Index := 11#32
  let arg0 : BitVec 32 := BitVec.ofNat 32 (i 0).val
  let c2_i32 : BitVec 32 := 2#32
  let v0 : BitVec 32 := Scalar.muli arg0 c2_i32
  let v243 : BitVec 32 := Scalar.addi v0 c0_i32_109
  let v244 : Index := Scalar.indexCast v243
  ![11, v244.toNat]
def k0_off13 (i : grid0.Coords) (c0_i32_119 : BitVec 32) : Fin 2 → Nat :=
  let c12 : Index := 12#32
  let arg0 : BitVec 32 := BitVec.ofNat 32 (i 0).val
  let c2_i32 : BitVec 32 := 2#32
  let v0 : BitVec 32 := Scalar.muli arg0 c2_i32
  let v265 : BitVec 32 := Scalar.addi v0 c0_i32_119
  let v266 : Index := Scalar.indexCast v265
  ![12, v266.toNat]
def k0_off14 (i : grid0.Coords) (c0_i32_129 : BitVec 32) : Fin 2 → Nat :=
  let c13 : Index := 13#32
  let arg0 : BitVec 32 := BitVec.ofNat 32 (i 0).val
  let c2_i32 : BitVec 32 := 2#32
  let v0 : BitVec 32 := Scalar.muli arg0 c2_i32
  let v287 : BitVec 32 := Scalar.addi v0 c0_i32_129
  let v288 : Index := Scalar.indexCast v287
  ![13, v288.toNat]
def k0_off15 (i : grid0.Coords) (c0_i32_139 : BitVec 32) : Fin 2 → Nat :=
  let c14 : Index := 14#32
  let arg0 : BitVec 32 := BitVec.ofNat 32 (i 0).val
  let c2_i32 : BitVec 32 := 2#32
  let v0 : BitVec 32 := Scalar.muli arg0 c2_i32
  let v309 : BitVec 32 := Scalar.addi v0 c0_i32_139
  let v310 : Index := Scalar.indexCast v309
  ![14, v310.toNat]
def k0_off16 (i : grid0.Coords) (c0_i32_149 : BitVec 32) : Fin 2 → Nat :=
  let c15 : Index := 15#32
  let arg0 : BitVec 32 := BitVec.ofNat 32 (i 0).val
  let c2_i32 : BitVec 32 := 2#32
  let v0 : BitVec 32 := Scalar.muli arg0 c2_i32
  let v331 : BitVec 32 := Scalar.addi v0 c0_i32_149
  let v332 : Index := Scalar.indexCast v331
  ![15, v332.toNat]
def k0_off17 (i : grid0.Coords) (c0_i32_159 : BitVec 32) : Fin 2 → Nat :=
  let c16 : Index := 16#32
  let arg0 : BitVec 32 := BitVec.ofNat 32 (i 0).val
  let c2_i32 : BitVec 32 := 2#32
  let v0 : BitVec 32 := Scalar.muli arg0 c2_i32
  let v353 : BitVec 32 := Scalar.addi v0 c0_i32_159
  let v354 : Index := Scalar.indexCast v353
  ![16, v354.toNat]
def k0_off18 (i : grid0.Coords) (c0_i32_169 : BitVec 32) : Fin 2 → Nat :=
  let c17 : Index := 17#32
  let arg0 : BitVec 32 := BitVec.ofNat 32 (i 0).val
  let c2_i32 : BitVec 32 := 2#32
  let v0 : BitVec 32 := Scalar.muli arg0 c2_i32
  let v375 : BitVec 32 := Scalar.addi v0 c0_i32_169
  let v376 : Index := Scalar.indexCast v375
  ![17, v376.toNat]
def k0_off19 (i : grid0.Coords) (c0_i32_179 : BitVec 32) : Fin 2 → Nat :=
  let c18 : Index := 18#32
  let arg0 : BitVec 32 := BitVec.ofNat 32 (i 0).val
  let c2_i32 : BitVec 32 := 2#32
  let v0 : BitVec 32 := Scalar.muli arg0 c2_i32
  let v397 : BitVec 32 := Scalar.addi v0 c0_i32_179
  let v398 : Index := Scalar.indexCast v397
  ![18, v398.toNat]
def k0_off20 (i : grid0.Coords) (c0_i32_189 : BitVec 32) : Fin 2 → Nat :=
  let c19 : Index := 19#32
  let arg0 : BitVec 32 := BitVec.ofNat 32 (i 0).val
  let c2_i32 : BitVec 32 := 2#32
  let v0 : BitVec 32 := Scalar.muli arg0 c2_i32
  let v419 : BitVec 32 := Scalar.addi v0 c0_i32_189
  let v420 : Index := Scalar.indexCast v419
  ![19, v420.toNat]
def k0_off21 (i : grid0.Coords) (c0_i32_199 : BitVec 32) : Fin 2 → Nat :=
  let c20 : Index := 20#32
  let arg0 : BitVec 32 := BitVec.ofNat 32 (i 0).val
  let c2_i32 : BitVec 32 := 2#32
  let v0 : BitVec 32 := Scalar.muli arg0 c2_i32
  let v441 : BitVec 32 := Scalar.addi v0 c0_i32_199
  let v442 : Index := Scalar.indexCast v441
  ![20, v442.toNat]
def k0_off22 (i : grid0.Coords) (c0_i32_209 : BitVec 32) : Fin 2 → Nat :=
  let c21 : Index := 21#32
  let arg0 : BitVec 32 := BitVec.ofNat 32 (i 0).val
  let c2_i32 : BitVec 32 := 2#32
  let v0 : BitVec 32 := Scalar.muli arg0 c2_i32
  let v463 : BitVec 32 := Scalar.addi v0 c0_i32_209
  let v464 : Index := Scalar.indexCast v463
  ![21, v464.toNat]
def k0_off23 (i : grid0.Coords) (c0_i32_219 : BitVec 32) : Fin 2 → Nat :=
  let c22 : Index := 22#32
  let arg0 : BitVec 32 := BitVec.ofNat 32 (i 0).val
  let c2_i32 : BitVec 32 := 2#32
  let v0 : BitVec 32 := Scalar.muli arg0 c2_i32
  let v485 : BitVec 32 := Scalar.addi v0 c0_i32_219
  let v486 : Index := Scalar.indexCast v485
  ![22, v486.toNat]
def k0_off24 (i : grid0.Coords) (c0_i32_229 : BitVec 32) : Fin 2 → Nat :=
  let c23 : Index := 23#32
  let arg0 : BitVec 32 := BitVec.ofNat 32 (i 0).val
  let c2_i32 : BitVec 32 := 2#32
  let v0 : BitVec 32 := Scalar.muli arg0 c2_i32
  let v507 : BitVec 32 := Scalar.addi v0 c0_i32_229
  let v508 : Index := Scalar.indexCast v507
  ![23, v508.toNat]
def k0_off25 (i : grid0.Coords) (c0_i32_239 : BitVec 32) : Fin 2 → Nat :=
  let c24 : Index := 24#32
  let arg0 : BitVec 32 := BitVec.ofNat 32 (i 0).val
  let c2_i32 : BitVec 32 := 2#32
  let v0 : BitVec 32 := Scalar.muli arg0 c2_i32
  let v529 : BitVec 32 := Scalar.addi v0 c0_i32_239
  let v530 : Index := Scalar.indexCast v529
  ![24, v530.toNat]
def k0_off26 (i : grid0.Coords) (c0_i32_249 : BitVec 32) : Fin 2 → Nat :=
  let c25 : Index := 25#32
  let arg0 : BitVec 32 := BitVec.ofNat 32 (i 0).val
  let c2_i32 : BitVec 32 := 2#32
  let v0 : BitVec 32 := Scalar.muli arg0 c2_i32
  let v551 : BitVec 32 := Scalar.addi v0 c0_i32_249
  let v552 : Index := Scalar.indexCast v551
  ![25, v552.toNat]
def k0_off27 (i : grid0.Coords) (c0_i32_259 : BitVec 32) : Fin 2 → Nat :=
  let c26 : Index := 26#32
  let arg0 : BitVec 32 := BitVec.ofNat 32 (i 0).val
  let c2_i32 : BitVec 32 := 2#32
  let v0 : BitVec 32 := Scalar.muli arg0 c2_i32
  let v573 : BitVec 32 := Scalar.addi v0 c0_i32_259
  let v574 : Index := Scalar.indexCast v573
  ![26, v574.toNat]
def k0_off28 (i : grid0.Coords) (c0_i32_269 : BitVec 32) : Fin 2 → Nat :=
  let c27 : Index := 27#32
  let arg0 : BitVec 32 := BitVec.ofNat 32 (i 0).val
  let c2_i32 : BitVec 32 := 2#32
  let v0 : BitVec 32 := Scalar.muli arg0 c2_i32
  let v595 : BitVec 32 := Scalar.addi v0 c0_i32_269
  let v596 : Index := Scalar.indexCast v595
  ![27, v596.toNat]
def k0_off29 (i : grid0.Coords) (c0_i32_279 : BitVec 32) : Fin 2 → Nat :=
  let c28 : Index := 28#32
  let arg0 : BitVec 32 := BitVec.ofNat 32 (i 0).val
  let c2_i32 : BitVec 32 := 2#32
  let v0 : BitVec 32 := Scalar.muli arg0 c2_i32
  let v617 : BitVec 32 := Scalar.addi v0 c0_i32_279
  let v618 : Index := Scalar.indexCast v617
  ![28, v618.toNat]
def k0_off30 (i : grid0.Coords) (c0_i32_289 : BitVec 32) : Fin 2 → Nat :=
  let c29 : Index := 29#32
  let arg0 : BitVec 32 := BitVec.ofNat 32 (i 0).val
  let c2_i32 : BitVec 32 := 2#32
  let v0 : BitVec 32 := Scalar.muli arg0 c2_i32
  let v639 : BitVec 32 := Scalar.addi v0 c0_i32_289
  let v640 : Index := Scalar.indexCast v639
  ![29, v640.toNat]
def k0_off31 (i : grid0.Coords) (c0_i32_299 : BitVec 32) : Fin 2 → Nat :=
  let c30 : Index := 30#32
  let arg0 : BitVec 32 := BitVec.ofNat 32 (i 0).val
  let c2_i32 : BitVec 32 := 2#32
  let v0 : BitVec 32 := Scalar.muli arg0 c2_i32
  let v661 : BitVec 32 := Scalar.addi v0 c0_i32_299
  let v662 : Index := Scalar.indexCast v661
  ![30, v662.toNat]
def k0_off32 (i : grid0.Coords) (c0_i32_309 : BitVec 32) : Fin 2 → Nat :=
  let c31 : Index := 31#32
  let arg0 : BitVec 32 := BitVec.ofNat 32 (i 0).val
  let c2_i32 : BitVec 32 := 2#32
  let v0 : BitVec 32 := Scalar.muli arg0 c2_i32
  let v683 : BitVec 32 := Scalar.addi v0 c0_i32_309
  let v684 : Index := Scalar.indexCast v683
  ![31, v684.toNat]
def k0_off33 (i : grid0.Coords) (c0_i32_319 : BitVec 32) : Fin 2 → Nat :=
  let c32 : Index := 32#32
  let arg0 : BitVec 32 := BitVec.ofNat 32 (i 0).val
  let c2_i32 : BitVec 32 := 2#32
  let v0 : BitVec 32 := Scalar.muli arg0 c2_i32
  let v705 : BitVec 32 := Scalar.addi v0 c0_i32_319
  let v706 : Index := Scalar.indexCast v705
  ![32, v706.toNat]
def k0_off34 (i : grid0.Coords) (c0_i32_329 : BitVec 32) : Fin 2 → Nat :=
  let c33 : Index := 33#32
  let arg0 : BitVec 32 := BitVec.ofNat 32 (i 0).val
  let c2_i32 : BitVec 32 := 2#32
  let v0 : BitVec 32 := Scalar.muli arg0 c2_i32
  let v727 : BitVec 32 := Scalar.addi v0 c0_i32_329
  let v728 : Index := Scalar.indexCast v727
  ![33, v728.toNat]
def k0_off35 (i : grid0.Coords) (c0_i32_339 : BitVec 32) : Fin 2 → Nat :=
  let c34 : Index := 34#32
  let arg0 : BitVec 32 := BitVec.ofNat 32 (i 0).val
  let c2_i32 : BitVec 32 := 2#32
  let v0 : BitVec 32 := Scalar.muli arg0 c2_i32
  let v749 : BitVec 32 := Scalar.addi v0 c0_i32_339
  let v750 : Index := Scalar.indexCast v749
  ![34, v750.toNat]
def k0_off36 (i : grid0.Coords) (c0_i32_349 : BitVec 32) : Fin 2 → Nat :=
  let c35 : Index := 35#32
  let arg0 : BitVec 32 := BitVec.ofNat 32 (i 0).val
  let c2_i32 : BitVec 32 := 2#32
  let v0 : BitVec 32 := Scalar.muli arg0 c2_i32
  let v771 : BitVec 32 := Scalar.addi v0 c0_i32_349
  let v772 : Index := Scalar.indexCast v771
  ![35, v772.toNat]
def k0_off37 (i : grid0.Coords) (c0_i32_359 : BitVec 32) : Fin 2 → Nat :=
  let c36 : Index := 36#32
  let arg0 : BitVec 32 := BitVec.ofNat 32 (i 0).val
  let c2_i32 : BitVec 32 := 2#32
  let v0 : BitVec 32 := Scalar.muli arg0 c2_i32
  let v793 : BitVec 32 := Scalar.addi v0 c0_i32_359
  let v794 : Index := Scalar.indexCast v793
  ![36, v794.toNat]
def k0_off38 (i : grid0.Coords) (c0_i32_369 : BitVec 32) : Fin 2 → Nat :=
  let c37 : Index := 37#32
  let arg0 : BitVec 32 := BitVec.ofNat 32 (i 0).val
  let c2_i32 : BitVec 32 := 2#32
  let v0 : BitVec 32 := Scalar.muli arg0 c2_i32
  let v815 : BitVec 32 := Scalar.addi v0 c0_i32_369
  let v816 : Index := Scalar.indexCast v815
  ![37, v816.toNat]
def k0_off39 (i : grid0.Coords) (c0_i32_379 : BitVec 32) : Fin 2 → Nat :=
  let c38 : Index := 38#32
  let arg0 : BitVec 32 := BitVec.ofNat 32 (i 0).val
  let c2_i32 : BitVec 32 := 2#32
  let v0 : BitVec 32 := Scalar.muli arg0 c2_i32
  let v837 : BitVec 32 := Scalar.addi v0 c0_i32_379
  let v838 : Index := Scalar.indexCast v837
  ![38, v838.toNat]
def k0_off40 (i : grid0.Coords) (c0_i32_389 : BitVec 32) : Fin 2 → Nat :=
  let c39 : Index := 39#32
  let arg0 : BitVec 32 := BitVec.ofNat 32 (i 0).val
  let c2_i32 : BitVec 32 := 2#32
  let v0 : BitVec 32 := Scalar.muli arg0 c2_i32
  let v859 : BitVec 32 := Scalar.addi v0 c0_i32_389
  let v860 : Index := Scalar.indexCast v859
  ![39, v860.toNat]
def k0_off41 (i : grid0.Coords) (c0_i32_399 : BitVec 32) : Fin 2 → Nat :=
  let c40 : Index := 40#32
  let arg0 : BitVec 32 := BitVec.ofNat 32 (i 0).val
  let c2_i32 : BitVec 32 := 2#32
  let v0 : BitVec 32 := Scalar.muli arg0 c2_i32
  let v881 : BitVec 32 := Scalar.addi v0 c0_i32_399
  let v882 : Index := Scalar.indexCast v881
  ![40, v882.toNat]
def k0_off42 (i : grid0.Coords) (c0_i32_409 : BitVec 32) : Fin 2 → Nat :=
  let c41 : Index := 41#32
  let arg0 : BitVec 32 := BitVec.ofNat 32 (i 0).val
  let c2_i32 : BitVec 32 := 2#32
  let v0 : BitVec 32 := Scalar.muli arg0 c2_i32
  let v903 : BitVec 32 := Scalar.addi v0 c0_i32_409
  let v904 : Index := Scalar.indexCast v903
  ![41, v904.toNat]
def k0_off43 (i : grid0.Coords) (c0_i32_419 : BitVec 32) : Fin 2 → Nat :=
  let c42 : Index := 42#32
  let arg0 : BitVec 32 := BitVec.ofNat 32 (i 0).val
  let c2_i32 : BitVec 32 := 2#32
  let v0 : BitVec 32 := Scalar.muli arg0 c2_i32
  let v925 : BitVec 32 := Scalar.addi v0 c0_i32_419
  let v926 : Index := Scalar.indexCast v925
  ![42, v926.toNat]
def k0_off44 (i : grid0.Coords) (c0_i32_429 : BitVec 32) : Fin 2 → Nat :=
  let c43 : Index := 43#32
  let arg0 : BitVec 32 := BitVec.ofNat 32 (i 0).val
  let c2_i32 : BitVec 32 := 2#32
  let v0 : BitVec 32 := Scalar.muli arg0 c2_i32
  let v947 : BitVec 32 := Scalar.addi v0 c0_i32_429
  let v948 : Index := Scalar.indexCast v947
  ![43, v948.toNat]
def k0_off45 (i : grid0.Coords) (c0_i32_439 : BitVec 32) : Fin 2 → Nat :=
  let c44 : Index := 44#32
  let arg0 : BitVec 32 := BitVec.ofNat 32 (i 0).val
  let c2_i32 : BitVec 32 := 2#32
  let v0 : BitVec 32 := Scalar.muli arg0 c2_i32
  let v969 : BitVec 32 := Scalar.addi v0 c0_i32_439
  let v970 : Index := Scalar.indexCast v969
  ![44, v970.toNat]
def k0_off46 (i : grid0.Coords) (c0_i32_449 : BitVec 32) : Fin 2 → Nat :=
  let c45 : Index := 45#32
  let arg0 : BitVec 32 := BitVec.ofNat 32 (i 0).val
  let c2_i32 : BitVec 32 := 2#32
  let v0 : BitVec 32 := Scalar.muli arg0 c2_i32
  let v991 : BitVec 32 := Scalar.addi v0 c0_i32_449
  let v992 : Index := Scalar.indexCast v991
  ![45, v992.toNat]
def k0_off47 (i : grid0.Coords) (c0_i32_459 : BitVec 32) : Fin 2 → Nat :=
  let c46 : Index := 46#32
  let arg0 : BitVec 32 := BitVec.ofNat 32 (i 0).val
  let c2_i32 : BitVec 32 := 2#32
  let v0 : BitVec 32 := Scalar.muli arg0 c2_i32
  let v1013 : BitVec 32 := Scalar.addi v0 c0_i32_459
  let v1014 : Index := Scalar.indexCast v1013
  ![46, v1014.toNat]
def k0_off48 (i : grid0.Coords) (c0_i32_469 : BitVec 32) : Fin 2 → Nat :=
  let c47 : Index := 47#32
  let arg0 : BitVec 32 := BitVec.ofNat 32 (i 0).val
  let c2_i32 : BitVec 32 := 2#32
  let v0 : BitVec 32 := Scalar.muli arg0 c2_i32
  let v1035 : BitVec 32 := Scalar.addi v0 c0_i32_469
  let v1036 : Index := Scalar.indexCast v1035
  ![47, v1036.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6144x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S48x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownRefIdeal.lean ====
abbrev S2048x6144 : Shape := ⟨2, ![2048, 6144]⟩
abbrev S6144x4096 : Shape := ⟨2, ![6144, 4096]⟩
abbrev S48x32 : Shape := ⟨2, ![48, 32]⟩
abbrev S2048x4096 : Shape := ⟨2, ![2048, 4096]⟩
abbrev S48x32x1 : Shape := ⟨3, ![48, 32, 1]⟩
abbrev S48x32x128 : Shape := ⟨3, ![48, 32, 128]⟩
abbrev S48x4096 : Shape := ⟨2, ![48, 4096]⟩
abbrev S48x128x4096 : Shape := ⟨3, ![48, 128, 4096]⟩
abbrev S48x1x4096 : Shape := ⟨3, ![48, 1, 4096]⟩

abbrev nBuf : Space → Nat
  | .hbm => 5
  | .vmem => 5
  | .smem => 0
  | _ => 0

abbrev bufTy : (tb : Table) → Fin (tcTables nBuf tb) → BufTy
  | .hbm, ⟨0, _⟩ => ⟨S2048x6144, .bf16⟩
  | .hbm, ⟨1, _⟩ => ⟨S6144x4096, .fp8e4m3⟩
  | .hbm, ⟨2, _⟩ => ⟨S48x32, .f32⟩
  | .hbm, ⟨3, _⟩ => ⟨S2048x4096, .f32⟩
  | .hbm, ⟨4, _⟩ => ⟨S2048x4096, .bf16⟩
  | .local _ .vmem, ⟨0, _⟩ => ⟨S2048x6144, .bf16⟩
  | .local _ .vmem, ⟨1, _⟩ => ⟨S6144x4096, .fp8e4m3⟩
  | .local _ .vmem, ⟨2, _⟩ => ⟨S48x32, .f32⟩
  | .local _ .vmem, ⟨3, _⟩ => ⟨S2048x4096, .f32⟩
  | .local _ .vmem, ⟨4, _⟩ => ⟨S2048x4096, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2048x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Up.lean ====
abbrev S2048x4096 : Shape := ⟨2, ![2048, 4096]⟩
abbrev S4096x12288 : Shape := ⟨2, ![4096, 12288]⟩
abbrev S32x96 : Shape := ⟨2, ![32, 96]⟩
abbrev S2048x6144 : Shape := ⟨2, ![2048, 6144]⟩
abbrev S48x2048 : Shape := ⟨2, ![48, 2048]⟩
abbrev S4096x256 : Shape := ⟨2, ![4096, 256]⟩
abbrev S2048x256 : Shape := ⟨2, ![2048, 256]⟩
abbrev S1x1 : Shape := ⟨2, ![1, 1]⟩
abbrev S128x128 : Shape := ⟨2, ![128, 128]⟩
abbrev S256x4096 : Shape := ⟨2, ![256, 4096]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S1x256 : Shape := ⟨2, ![1, 256]⟩

abbrev nBuf : Space → Nat
  | .hbm => 6
  | .vmem => 12
  | .smem => 1
  | _ => 0

abbrev bufTy : (tb : Table) → Fin (tcTables nBuf tb) → BufTy
  | .hbm, ⟨0, _⟩ => ⟨S2048x4096, .bf16⟩
  | .hbm, ⟨1, _⟩ => ⟨S4096x12288, .fp8e4m3⟩
  | .hbm, ⟨2, _⟩ => ⟨S32x96, .f32⟩
  | .hbm, ⟨3, _⟩ => ⟨S2048x6144, .fp8e4m3⟩
  | .hbm, ⟨4, _⟩ => ⟨S48x2048, .f32⟩
  | .hbm, ⟨5, _⟩ => ⟨S2048x6144, .bf16⟩
  | .local _ .vmem, ⟨0, _⟩ => ⟨S2048x4096, .bf16⟩
  | .local _ .vmem, ⟨1, _⟩ => ⟨S4096x256, .fp8e4m3⟩
  | .local _ .vmem, ⟨2, _⟩ => ⟨S4096x256, .fp8e4m3⟩
  | .local _ .vmem, ⟨3, _⟩ => ⟨S4096x256, .fp8e4m3⟩
  | .local _ .vmem, ⟨4, _⟩ => ⟨S4096x256, .fp8e4m3⟩
  | .local _ .vmem, ⟨5, _⟩ => ⟨S2048x256, .fp8e4m3⟩
  | .local _ .vmem, ⟨6, _⟩ => ⟨S2048x256, .fp8e4m3⟩
  | .local _ .vmem, ⟨7, _⟩ => ⟨S48x2048, .f32⟩
  | .local _ .vmem, ⟨8, _⟩ => ⟨S2048x256, .bf16⟩
  | .local _ .vmem, ⟨9, _⟩ => ⟨S2048x256, .bf16⟩
  | .local _ .vmem, ⟨10, _⟩ => ⟨S4096x256, .bf16⟩
  | .local _ .vmem, ⟨11, _⟩ => ⟨S4096x256, .bf16⟩
  | .local _ .smem, ⟨0, _⟩ => ⟨S32x96, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![24], ![false]⟩

def k0_off1 (i : grid0.Coords) (c0_i32 : BitVec 32) : Fin 2 → Nat :=
  let c0 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![0, v2.toNat]
def k0_off2 (i : grid0.Coords) (c0_i32_8 : BitVec 32) : Fin 2 → Nat :=
  let c1 : Index := 1#32
  let arg0 : BitVec 32 := BitVec.ofNat 32 (i 0).val
  let c2_i32 : BitVec 32 := 2#32
  let v0 : BitVec 32 := Scalar.muli arg0 c2_i32
  let v23 : BitVec 32 := Scalar.addi v0 c0_i32_8
  let v24 : Index := Scalar.indexCast v23
  ![1, v24.toNat]
def k0_off3 (i : grid0.Coords) (c0_i32_19 : BitVec 32) : Fin 2 → Nat :=
  let c2 : Index := 2#32
  let arg0 : BitVec 32 := BitVec.ofNat 32 (i 0).val
  let c2_i32 : BitVec 32 := 2#32
  let v0 : BitVec 32 := Scalar.muli arg0 c2_i32
  let v45 : BitVec 32 := Scalar.addi v0 c0_i32_19
  let v46 : Index := Scalar.indexCast v45
  ![2, v46.toNat]
def k0_off4 (i : grid0.Coords) (c0_i32_29 : BitVec 32) : Fin 2 → Nat :=
  let c3 : Index := 3#32
  let arg0 : BitVec 32 := BitVec.ofNat 32 (i 0).val
  let c2_i32 : BitVec 32 := 2#32
  let v0 : BitVec 32 := Scalar.muli arg0 c2_i32
  let v67 : BitVec 32 := Scalar.addi v0 c0_i32_29
  let v68 : Index := Scalar.indexCast v67
  ![3, v68.toNat]
def k0_off5 (i : grid0.Coords) (c0_i32_39 : BitVec 32) : Fin 2 → Nat :=
  let c4 : Index := 4#32
  let arg0 : BitVec 32 := BitVec.ofNat 32 (i 0).val
  let c2_i32 : BitVec 32 := 2#32
  let v0 : BitVec 32 := Scalar.muli arg0 c2_i32
  let v89 : BitVec 32 := Scalar.addi v0 c0_i32_39
  let v90 : Index := Scalar.indexCast v89
  ![4, v90.toNat]
def k0_off6 (i : grid0.Coords) (c0_i32_49 : BitVec 32) : Fin 2 → Nat :=
  let c5 : Index := 5#32
  let arg0 : BitVec 32 := BitVec.ofNat 32 (i 0).val
  let c2_i32 : BitVec 32 := 2#32
  let v0 : BitVec 32 := Scalar.muli arg0 c2_i32
  let v111 : BitVec 32 := Scalar.addi v0 c0_i32_49
  let v112 : Index := Scalar.indexCast v111
  ![5, v112.toNat]
def k0_off7 (i : grid0.Coords) (c0_i32_59 : BitVec 32) : Fin 2 → Nat :=
  let c6 : Index := 6#32
  let arg0 : BitVec 32 := BitVec.ofNat 32 (i 0).val
  let c2_i32 : BitVec 32 := 2#32
  let v0 : BitVec 32 := Scalar.muli arg0 c2_i32
  let v133 : BitVec 32 := Scalar.addi v0 c0_i32_59
  let v134 : Index := Scalar.indexCast v133
  ![6, v134.toNat]
def k0_off8 (i : grid0.Coords) (c0_i32_69 : BitVec 32) : Fin 2 → Nat :=
  let c7 : Index := 7#32
  let arg0 : BitVec 32 := BitVec.ofNat 32 (i 0).val
  let c2_i32 : BitVec 32 := 2#32
  let v0 : BitVec 32 := Scalar.muli arg0 c2_i32
  let v155 : BitVec 32 := Scalar.addi v0 c0_i32_69
  let v156 : Index := Scalar.indexCast v155
  ![7, v156.toNat]
def k0_off9 (i : grid0.Coords) (c0_i32_79 : BitVec 32) : Fin 2 → Nat :=
  let c8 : Index := 8#32
  let arg0 : BitVec 32 := BitVec.ofNat 32 (i 0).val
  let c2_i32 : BitVec 32 := 2#32
  let v0 : BitVec 32 := Scalar.muli arg0 c2_i32
  let v177 : BitVec 32 := Scalar.addi v0 c0_i32_79
  let v178 : Index := Scalar.indexCast v177
  ![8, v178.toNat]
def k0_off10 (i : grid0.Coords) (c0_i32_89 : BitVec 32) : Fin 2 → Nat :=
  let c9 : Index := 9#32
  let arg0 : BitVec 32 := BitVec.ofNat 32 (i 0).val
  let c2_i32 : BitVec 32 := 2#32
  let v0 : BitVec 32 := Scalar.muli arg0 c2_i32
  let v199 : BitVec 32 := Scalar.addi v0 c0_i32_89
  let v200 : Index := Scalar.indexCast v199
  ![9, v200.toNat]
def k0_off11 (i : grid0.Coords) (c0_i32_99 : BitVec 32) : Fin 2 → Nat :=
  let c10 : Index := 10#32
  let arg0 : BitVec 32 := BitVec.ofNat 32 (i 0).val
  let c2_i32 : BitVec 32 := 2#32
  let v0 : BitVec 32 := Scalar.muli arg0 c2_i32
  let v221 : BitVec 32 := Scalar.addi v0 c0_i32_99
  let v222 : Index := Scalar.indexCast v221
  ![10, v222.toNat]
def k0_off12 (i : grid0.Coords) (c0_i32_109 : BitVec 32) : Fin 2 → Nat :=
  let c11 : Index := 11#32
  let arg0 : BitVec 32 := BitVec.ofNat 32 (i 0).val
  let c2_i32 : BitVec 32 := 2#32
  let v0 : BitVec 32 := Scalar.muli arg0 c2_i32
  let v243 : BitVec 32 := Scalar.addi v0 c0_i32_109
  let v244 : Index := Scalar.indexCast v243
  ![11, v244.toNat]
def k0_off13 (i : grid0.Coords) (c0_i32_119 : BitVec 32) : Fin 2 → Nat :=
  let c12 : Index := 12#32
  let arg0 : BitVec 32 := BitVec.ofNat 32 (i 0).val
  let c2_i32 : BitVec 32 := 2#32
  let v0 : BitVec 32 := Scalar.muli arg0 c2_i32
  let v265 : BitVec 32 := Scalar.addi v0 c0_i32_119
  let v266 : Index := Scalar.indexCast v265
  ![12, v266.toNat]
def k0_off14 (i : grid0.Coords) (c0_i32_129 : BitVec 32) : Fin 2 → Nat :=
  let c13 : Index := 13#32
  let arg0 : BitVec 32 := BitVec.ofNat 32 (i 0).val
  let c2_i32 : BitVec 32 := 2#32
  let v0 : BitVec 32 := Scalar.muli arg0 c2_i32
  let v287 : BitVec 32 := Scalar.addi v0 c0_i32_129
  let v288 : Index := Scalar.indexCast v287
  ![13, v288.toNat]
def k0_off15 (i : grid0.Coords) (c0_i32_139 : BitVec 32) : Fin 2 → Nat :=
  let c14 : Index := 14#32
  let arg0 : BitVec 32 := BitVec.ofNat 32 (i 0).val
  let c2_i32 : BitVec 32 := 2#32
  let v0 : BitVec 32 := Scalar.muli arg0 c2_i32
  let v309 : BitVec 32 := Scalar.addi v0 c0_i32_139
  let v310 : Index := Scalar.indexCast v309
  ![14, v310.toNat]
def k0_off16 (i : grid0.Coords) (c0_i32_149 : BitVec 32) : Fin 2 → Nat :=
  let c15 : Index := 15#32
  let arg0 : BitVec 32 := BitVec.ofNat 32 (i 0).val
  let c2_i32 : BitVec 32 := 2#32
  let v0 : BitVec 32 := Scalar.muli arg0 c2_i32
  let v331 : BitVec 32 := Scalar.addi v0 c0_i32_149
  let v332 : Index := Scalar.indexCast v331
  ![15, v332.toNat]
def k0_off17 (i : grid0.Coords) (c0_i32_159 : BitVec 32) : Fin 2 → Nat :=
  let c16 : Index := 16#32
  let arg0 : BitVec 32 := BitVec.ofNat 32 (i 0).val
  let c2_i32 : BitVec 32 := 2#32
  let v0 : BitVec 32 := Scalar.muli arg0 c2_i32
  let v353 : BitVec 32 := Scalar.addi v0 c0_i32_159
  let v354 : Index := Scalar.indexCast v353
  ![16, v354.toNat]
def k0_off18 (i : grid0.Coords) (c0_i32_169 : BitVec 32) : Fin 2 → Nat :=
  let c17 : Index := 17#32
  let arg0 : BitVec 32 := BitVec.ofNat 32 (i 0).val
  let c2_i32 : BitVec 32 := 2#32
  let v0 : BitVec 32 := Scalar.muli arg0 c2_i32
  let v375 : BitVec 32 := Scalar.addi v0 c0_i32_169
  let v376 : Index := Scalar.indexCast v375
  ![17, v376.toNat]
def k0_off19 (i : grid0.Coords) (c0_i32_179 : BitVec 32) : Fin 2 → Nat :=
  let c18 : Index := 18#32
  let arg0 : BitVec 32 := BitVec.ofNat 32 (i 0).val
  let c2_i32 : BitVec 32 := 2#32
  let v0 : BitVec 32 := Scalar.muli arg0 c2_i32
  let v397 : BitVec 32 := Scalar.addi v0 c0_i32_179
  let v398 : Index := Scalar.indexCast v397
  ![18, v398.toNat]
def k0_off20 (i : grid0.Coords) (c0_i32_189 : BitVec 32) : Fin 2 → Nat :=
  let c19 : Index := 19#32
  let arg0 : BitVec 32 := BitVec.ofNat 32 (i 0).val
  let c2_i32 : BitVec 32 := 2#32
  let v0 : BitVec 32 := Scalar.muli arg0 c2_i32
  let v419 : BitVec 32 := Scalar.addi v0 c0_i32_189
  let v420 : Index := Scalar.indexCast v419
  ![19, v420.toNat]
def k0_off21 (i : grid0.Coords) (c0_i32_199 : BitVec 32) : Fin 2 → Nat :=
  let c20 : Index := 20#32
  let arg0 : BitVec 32 := BitVec.ofNat 32 (i 0).val
  let c2_i32 : BitVec 32 := 2#32
  let v0 : BitVec 32 := Scalar.muli arg0 c2_i32
  let v441 : BitVec 32 := Scalar.addi v0 c0_i32_199
  let v442 : Index := Scalar.indexCast v441
  ![20, v442.toNat]
def k0_off22 (i : grid0.Coords) (c0_i32_209 : BitVec 32) : Fin 2 → Nat :=
  let c21 : Index := 21#32
  let arg0 : BitVec 32 := BitVec.ofNat 32 (i 0).val
  let c2_i32 : BitVec 32 := 2#32
  let v0 : BitVec 32 := Scalar.muli arg0 c2_i32
  let v463 : BitVec 32 := Scalar.addi v0 c0_i32_209
  let v464 : Index := Scalar.indexCast v463
  ![21, v464.toNat]
def k0_off23 (i : grid0.Coords) (c0_i32_219 : BitVec 32) : Fin 2 → Nat :=
  let c22 : Index := 22#32
  let arg0 : BitVec 32 := BitVec.ofNat 32 (i 0).val
  let c2_i32 : BitVec 32 := 2#32
  let v0 : BitVec 32 := Scalar.muli arg0 c2_i32
  let v485 : BitVec 32 := Scalar.addi v0 c0_i32_219
  let v486 : Index := Scalar.indexCast v485
  ![22, v486.toNat]
def k0_off24 (i : grid0.Coords) (c0_i32_229 : BitVec 32) : Fin 2 → Nat :=
  let c23 : Index := 23#32
  let arg0 : BitVec 32 := BitVec.ofNat 32 (i 0).val
  let c2_i32 : BitVec 32 := 2#32
  let v0 : BitVec 32 := Scalar.muli arg0 c2_i32
  let v507 : BitVec 32 := Scalar.addi v0 c0_i32_229
  let v508 : Index := Scalar.indexCast v507
  ![23, v508.toNat]
def k0_off25 (i : grid0.Coords) (c0_i32_239 : BitVec 32) : Fin 2 → Nat :=
  let c24 : Index := 24#32
  let arg0 : BitVec 32 := BitVec.ofNat 32 (i 0).val
  let c2_i32 : BitVec 32 := 2#32
  let v0 : BitVec 32 := Scalar.muli arg0 c2_i32
  let v529 : BitVec 32 := Scalar.addi v0 c0_i32_239
  let v530 : Index := Scalar.indexCast v529
  ![24, v530.toNat]
def k0_off26 (i : grid0.Coords) (c0_i32_249 : BitVec 32) : Fin 2 → Nat :=
  let c25 : Index := 25#32
  let arg0 : BitVec 32 := BitVec.ofNat 32 (i 0).val
  let c2_i32 : BitVec 32 := 2#32
  let v0 : BitVec 32 := Scalar.muli arg0 c2_i32
  let v551 : BitVec 32 := Scalar.addi v0 c0_i32_249
  let v552 : Index := Scalar.indexCast v551
  ![25, v552.toNat]
def k0_off27 (i : grid0.Coords) (c0_i32_259 : BitVec 32) : Fin 2 → Nat :=
  let c26 : Index := 26#32
  let arg0 : BitVec 32 := BitVec.ofNat 32 (i 0).val
  let c2_i32 : BitVec 32 := 2#32
  let v0 : BitVec 32 := Scalar.muli arg0 c2_i32
  let v573 : BitVec 32 := Scalar.addi v0 c0_i32_259
  let v574 : Index := Scalar.indexCast v573
  ![26, v574.toNat]
def k0_off28 (i : grid0.Coords) (c0_i32_269 : BitVec 32) : Fin 2 → Nat :=
  let c27 : Index := 27#32
  let arg0 : BitVec 32 := BitVec.ofNat 32 (i 0).val
  let c2_i32 : BitVec 32 := 2#32
  let v0 : BitVec 32 := Scalar.muli arg0 c2_i32
  let v595 : BitVec 32 := Scalar.addi v0 c0_i32_269
  let v596 : Index := Scalar.indexCast v595
  ![27, v596.toNat]
def k0_off29 (i : grid0.Coords) (c0_i32_279 : BitVec 32) : Fin 2 → Nat :=
  let c28 : Index := 28#32
  let arg0 : BitVec 32 := BitVec.ofNat 32 (i 0).val
  let c2_i32 : BitVec 32 := 2#32
  let v0 : BitVec 32 := Scalar.muli arg0 c2_i32
  let v617 : BitVec 32 := Scalar.addi v0 c0_i32_279
  let v618 : Index := Scalar.indexCast v617
  ![28, v618.toNat]
def k0_off30 (i : grid0.Coords) (c0_i32_289 : BitVec 32) : Fin 2 → Nat :=
  let c29 : Index := 29#32
  let arg0 : BitVec 32 := BitVec.ofNat 32 (i 0).val
  let c2_i32 : BitVec 32 := 2#32
  let v0 : BitVec 32 := Scalar.muli arg0 c2_i32
  let v639 : BitVec 32 := Scalar.addi v0 c0_i32_289
  let v640 : Index := Scalar.indexCast v639
  ![29, v640.toNat]
def k0_off31 (i : grid0.Coords) (c0_i32_299 : BitVec 32) : Fin 2 → Nat :=
  let c30 : Index := 30#32
  let arg0 : BitVec 32 := BitVec.ofNat 32 (i 0).val
  let c2_i32 : BitVec 32 := 2#32
  let v0 : BitVec 32 := Scalar.muli arg0 c2_i32
  let v661 : BitVec 32 := Scalar.addi v0 c0_i32_299
  let v662 : Index := Scalar.indexCast v661
  ![30, v662.toNat]
def k0_off32 (i : grid0.Coords) (c0_i32_309 : BitVec 32) : Fin 2 → Nat :=
  let c31 : Index := 31#32
  let arg0 : BitVec 32 := BitVec.ofNat 32 (i 0).val
  let c2_i32 : BitVec 32 := 2#32
  let v0 : BitVec 32 := Scalar.muli arg0 c2_i32
  let v683 : BitVec 32 := Scalar.addi v0 c0_i32_309
  let v684 : Index := Scalar.indexCast v683
  ![31, v684.toNat]
def k0_off33 (i : grid0.Coords) (c0_i32_320 : BitVec 32) : Fin 2 → Nat :=
  let c0_321 : Index := 0#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v707 : BitVec 32 := Scalar.addi v706 c0_i32_320
  let v708 : Index := Scalar.indexCast v707
  ![0, v708.toNat]
def k0_off34 (i : grid0.Coords) (c0_i32_332 : BitVec 32) : Fin 2 → Nat :=
  let c1_333 : Index := 1#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v729 : BitVec 32 := Scalar.addi v706 c0_i32_332
  let v730 : Index := Scalar.indexCast v729
  ![1, v730.toNat]
def k0_off35 (i : grid0.Coords) (c0_i32_344 : BitVec 32) : Fin 2 → Nat :=
  let c2_345 : Index := 2#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v751 : BitVec 32 := Scalar.addi v706 c0_i32_344
  let v752 : Index := Scalar.indexCast v751
  ![2, v752.toNat]
def k0_off36 (i : grid0.Coords) (c0_i32_356 : BitVec 32) : Fin 2 → Nat :=
  let c3_357 : Index := 3#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v773 : BitVec 32 := Scalar.addi v706 c0_i32_356
  let v774 : Index := Scalar.indexCast v773
  ![3, v774.toNat]
def k0_off37 (i : grid0.Coords) (c0_i32_368 : BitVec 32) : Fin 2 → Nat :=
  let c4_369 : Index := 4#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v795 : BitVec 32 := Scalar.addi v706 c0_i32_368
  let v796 : Index := Scalar.indexCast v795
  ![4, v796.toNat]
def k0_off38 (i : grid0.Coords) (c0_i32_380 : BitVec 32) : Fin 2 → Nat :=
  let c5_381 : Index := 5#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v817 : BitVec 32 := Scalar.addi v706 c0_i32_380
  let v818 : Index := Scalar.indexCast v817
  ![5, v818.toNat]
def k0_off39 (i : grid0.Coords) (c0_i32_392 : BitVec 32) : Fin 2 → Nat :=
  let c6_393 : Index := 6#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v839 : BitVec 32 := Scalar.addi v706 c0_i32_392
  let v840 : Index := Scalar.indexCast v839
  ![6, v840.toNat]
def k0_off40 (i : grid0.Coords) (c0_i32_404 : BitVec 32) : Fin 2 → Nat :=
  let c7_405 : Index := 7#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v861 : BitVec 32 := Scalar.addi v706 c0_i32_404
  let v862 : Index := Scalar.indexCast v861
  ![7, v862.toNat]
def k0_off41 (i : grid0.Coords) (c0_i32_416 : BitVec 32) : Fin 2 → Nat :=
  let c8_417 : Index := 8#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v883 : BitVec 32 := Scalar.addi v706 c0_i32_416
  let v884 : Index := Scalar.indexCast v883
  ![8, v884.toNat]
def k0_off42 (i : grid0.Coords) (c0_i32_428 : BitVec 32) : Fin 2 → Nat :=
  let c9_429 : Index := 9#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v905 : BitVec 32 := Scalar.addi v706 c0_i32_428
  let v906 : Index := Scalar.indexCast v905
  ![9, v906.toNat]
def k0_off43 (i : grid0.Coords) (c0_i32_440 : BitVec 32) : Fin 2 → Nat :=
  let c10_441 : Index := 10#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v927 : BitVec 32 := Scalar.addi v706 c0_i32_440
  let v928 : Index := Scalar.indexCast v927
  ![10, v928.toNat]
def k0_off44 (i : grid0.Coords) (c0_i32_452 : BitVec 32) : Fin 2 → Nat :=
  let c11_453 : Index := 11#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v949 : BitVec 32 := Scalar.addi v706 c0_i32_452
  let v950 : Index := Scalar.indexCast v949
  ![11, v950.toNat]
def k0_off45 (i : grid0.Coords) (c0_i32_464 : BitVec 32) : Fin 2 → Nat :=
  let c12_465 : Index := 12#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v971 : BitVec 32 := Scalar.addi v706 c0_i32_464
  let v972 : Index := Scalar.indexCast v971
  ![12, v972.toNat]
def k0_off46 (i : grid0.Coords) (c0_i32_476 : BitVec 32) : Fin 2 → Nat :=
  let c13_477 : Index := 13#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v993 : BitVec 32 := Scalar.addi v706 c0_i32_476
  let v994 : Index := Scalar.indexCast v993
  ![13, v994.toNat]
def k0_off47 (i : grid0.Coords) (c0_i32_488 : BitVec 32) : Fin 2 → Nat :=
  let c14_489 : Index := 14#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1015 : BitVec 32 := Scalar.addi v706 c0_i32_488
  let v1016 : Index := Scalar.indexCast v1015
  ![14, v1016.toNat]
def k0_off48 (i : grid0.Coords) (c0_i32_500 : BitVec 32) : Fin 2 → Nat :=
  let c15_501 : Index := 15#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1037 : BitVec 32 := Scalar.addi v706 c0_i32_500
  let v1038 : Index := Scalar.indexCast v1037
  ![15, v1038.toNat]
def k0_off49 (i : grid0.Coords) (c0_i32_512 : BitVec 32) : Fin 2 → Nat :=
  let c16_513 : Index := 16#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1059 : BitVec 32 := Scalar.addi v706 c0_i32_512
  let v1060 : Index := Scalar.indexCast v1059
  ![16, v1060.toNat]
def k0_off50 (i : grid0.Coords) (c0_i32_524 : BitVec 32) : Fin 2 → Nat :=
  let c17_525 : Index := 17#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1081 : BitVec 32 := Scalar.addi v706 c0_i32_524
  let v1082 : Index := Scalar.indexCast v1081
  ![17, v1082.toNat]
def k0_off51 (i : grid0.Coords) (c0_i32_536 : BitVec 32) : Fin 2 → Nat :=
  let c18_537 : Index := 18#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1103 : BitVec 32 := Scalar.addi v706 c0_i32_536
  let v1104 : Index := Scalar.indexCast v1103
  ![18, v1104.toNat]
def k0_off52 (i : grid0.Coords) (c0_i32_548 : BitVec 32) : Fin 2 → Nat :=
  let c19_549 : Index := 19#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1125 : BitVec 32 := Scalar.addi v706 c0_i32_548
  let v1126 : Index := Scalar.indexCast v1125
  ![19, v1126.toNat]
def k0_off53 (i : grid0.Coords) (c0_i32_560 : BitVec 32) : Fin 2 → Nat :=
  let c20_561 : Index := 20#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1147 : BitVec 32 := Scalar.addi v706 c0_i32_560
  let v1148 : Index := Scalar.indexCast v1147
  ![20, v1148.toNat]
def k0_off54 (i : grid0.Coords) (c0_i32_572 : BitVec 32) : Fin 2 → Nat :=
  let c21_573 : Index := 21#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1169 : BitVec 32 := Scalar.addi v706 c0_i32_572
  let v1170 : Index := Scalar.indexCast v1169
  ![21, v1170.toNat]
def k0_off55 (i : grid0.Coords) (c0_i32_584 : BitVec 32) : Fin 2 → Nat :=
  let c22_585 : Index := 22#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1191 : BitVec 32 := Scalar.addi v706 c0_i32_584
  let v1192 : Index := Scalar.indexCast v1191
  ![22, v1192.toNat]
def k0_off56 (i : grid0.Coords) (c0_i32_596 : BitVec 32) : Fin 2 → Nat :=
  let c23_597 : Index := 23#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1213 : BitVec 32 := Scalar.addi v706 c0_i32_596
  let v1214 : Index := Scalar.indexCast v1213
  ![23, v1214.toNat]
def k0_off57 (i : grid0.Coords) (c0_i32_608 : BitVec 32) : Fin 2 → Nat :=
  let c24_609 : Index := 24#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1235 : BitVec 32 := Scalar.addi v706 c0_i32_608
  let v1236 : Index := Scalar.indexCast v1235
  ![24, v1236.toNat]
def k0_off58 (i : grid0.Coords) (c0_i32_620 : BitVec 32) : Fin 2 → Nat :=
  let c25_621 : Index := 25#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1257 : BitVec 32 := Scalar.addi v706 c0_i32_620
  let v1258 : Index := Scalar.indexCast v1257
  ![25, v1258.toNat]
def k0_off59 (i : grid0.Coords) (c0_i32_632 : BitVec 32) : Fin 2 → Nat :=
  let c26_633 : Index := 26#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1279 : BitVec 32 := Scalar.addi v706 c0_i32_632
  let v1280 : Index := Scalar.indexCast v1279
  ![26, v1280.toNat]
def k0_off60 (i : grid0.Coords) (c0_i32_644 : BitVec 32) : Fin 2 → Nat :=
  let c27_645 : Index := 27#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1301 : BitVec 32 := Scalar.addi v706 c0_i32_644
  let v1302 : Index := Scalar.indexCast v1301
  ![27, v1302.toNat]
def k0_off61 (i : grid0.Coords) (c0_i32_656 : BitVec 32) : Fin 2 → Nat :=
  let c28_657 : Index := 28#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1323 : BitVec 32 := Scalar.addi v706 c0_i32_656
  let v1324 : Index := Scalar.indexCast v1323
  ![28, v1324.toNat]
def k0_off62 (i : grid0.Coords) (c0_i32_668 : BitVec 32) : Fin 2 → Nat :=
  let c29_669 : Index := 29#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1345 : BitVec 32 := Scalar.addi v706 c0_i32_668
  let v1346 : Index := Scalar.indexCast v1345
  ![29, v1346.toNat]
def k0_off63 (i : grid0.Coords) (c0_i32_680 : BitVec 32) : Fin 2 → Nat :=
  let c30_681 : Index := 30#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1367 : BitVec 32 := Scalar.addi v706 c0_i32_680
  let v1368 : Index := Scalar.indexCast v1367
  ![30, v1368.toNat]
def k0_off64 (i : grid0.Coords) (c0_i32_692 : BitVec 32) : Fin 2 → Nat :=
  let c31_693 : Index := 31#32
  let c48_i32 : BitVec 32 := 48#32
  let arg0 : BitVec 32 := BitVec.ofNat 32 (i 0).val
  let c2_i32_319 : BitVec 32 := 2#32
  let v705 : BitVec 32 := Scalar.muli arg0 c2_i32_319
  let v706 : BitVec 32 := Scalar.addi c48_i32 v705
  let v1389 : BitVec 32 := Scalar.addi v706 c0_i32_692
  let v1390 : Index := Scalar.indexCast v1389
  ![31, v1390.toNat]
def k0_off65 (i : grid0.Coords) (c0_i32_747 : BitVec 32) : Fin 2 → Nat :=
  let arg0 : BitVec 32 := BitVec.ofNat 32 (i 0).val
  let c2_i32_746 : BitVec 32 := 2#32
  let v1519 : BitVec 32 := Scalar.muli arg0 c2_i32_746
  let v1520 : BitVec 32 := Scalar.addi v1519 c0_i32_747
  let v1521 : Index := Scalar.indexCast v1520
  let c0_748 : Index := 0#32
  ![v1521.toNat, 0]
def k0_off66 (i : grid0.Coords) (c0_i32_796 : BitVec 32) : Fin 2 → Nat :=
  let arg0 : BitVec 32 := BitVec.ofNat 32 (i 0).val
  let c2_i32_795 : BitVec 32 := 2#32
  let v1636 : BitVec 32 := Scalar.muli arg0 c2_i32_795
  let v1637 : BitVec 32 := Scalar.addi v1636 c0_i32_796
  let v1638 : Index := Scalar.indexCast v1637
  let c256_797 : Index := 256#32
  ![v1638.toNat, 256]
def k0_off67 (i : grid0.Coords) (c0_i32_845 : BitVec 32) : Fin 2 → Nat :=
  let arg0 : BitVec 32 := BitVec.ofNat 32 (i 0).val
  let c2_i32_844 : BitVec 32 := 2#32
  let v1753 : BitVec 32 := Scalar.muli arg0 c2_i32_844
  let v1754 : BitVec 32 := Scalar.addi v1753 c0_i32_845
  let v1755 : Index := Scalar.indexCast v1754
  let c512_846 : Index := 512#32
  ![v1755.toNat, 512]
def k0_off68 (i : grid0.Coords) (c0_i32_894 : BitVec 32) : Fin 2 → Nat :=
  let arg0 : BitVec 32 := BitVec.ofNat 32 (i 0).val
  let c2_i32_893 : BitVec 32 := 2#32
  let v1870 : BitVec 32 := Scalar.muli arg0 c2_i32_893
  let v1871 : BitVec 32 := Scalar.addi v1870 c0_i32_894
  let v1872 : Index := Scalar.indexCast v1871
  let c768_895 : Index := 768#32
  ![v1872.toNat, 768]
def k0_off69 (i : grid0.Coords) (c0_i32_943 : BitVec 32) : Fin 2 → Nat :=
  let arg0 : BitVec 32 := BitVec.ofNat 32 (i 0).val
  let c2_i32_942 : BitVec 32 := 2#32
  let v1987 : BitVec 32 := Scalar.muli arg0 c2_i32_942
  let v1988 : BitVec 32 := Scalar.addi v1987 c0_i32_943
  let v1989 : Index := Scalar.indexCast v1988
  let c1024_944 : Index := 1024#32
  ![v1989.toNat, 1024]
def k0_off70 (i : grid0.Coords) (c0_i32_992 : BitVec 32) : Fin 2 → Nat :=
  let arg0 : BitVec 32 := BitVec.ofNat 32 (i 0).val
  let c2_i32_991 : BitVec 32 := 2#32
  let v2104 : BitVec 32 := Scalar.muli arg0 c2_i32_991
  let v2105 : BitVec 32 := Scalar.addi v2104 c0_i32_992
  let v2106 : Index := Scalar.indexCast v2105
  let c1280_993 : Index := 1280#32
  ![v2106.toNat, 1280]
def k0_off71 (i : grid0.Coords) (c0_i32_1041 : BitVec 32) : Fin 2 → Nat :=
  let arg0 : BitVec 32 := BitVec.ofNat 32 (i 0).val
  let c2_i32_1040 : BitVec 32 := 2#32
  let v2221 : BitVec 32 := Scalar.muli arg0 c2_i32_1040
  let v2222 : BitVec 32 := Scalar.addi v2221 c0_i32_1041
  let v2223 : Index := Scalar.indexCast v2222
  let c1536_1042 : Index := 1536#32
  ![v2223.toNat, 1536]
def k0_off72 (i : grid0.Coords) (c0_i32_1090 : BitVec 32) : Fin 2 → Nat :=
  let arg0 : BitVec 32 := BitVec.ofNat 32 (i 0).val
  let c2_i32_1089 : BitVec 32 := 2#32
  let v2338 : BitVec 32 := Scalar.muli arg0 c2_i32_1089
  let v2339 : BitVec 32 := Scalar.addi v2338 c0_i32_1090
  let v2340 : Index := Scalar.indexCast v2339
  let c1792_1091 : Index := 1792#32
  ![v2340.toNat, 1792]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S32x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S48x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpRefIdeal.lean ====
abbrev S2048x4096 : Shape := ⟨2, ![2048, 4096]⟩
abbrev S4096x12288 : Shape := ⟨2, ![4096, 12288]⟩
abbrev S32x96 : Shape := ⟨2, ![32, 96]⟩
abbrev S2048x6144 : Shape := ⟨2, ![2048, 6144]⟩
abbrev S48x2048 : Shape := ⟨2, ![48, 2048]⟩
abbrev S4096x6144 : Shape := ⟨2, ![4096, 6144]⟩
abbrev S32x48 : Shape := ⟨2, ![32, 48]⟩
abbrev S32x48x1 : Shape := ⟨3, ![32, 48, 1]⟩
abbrev S32x48x128 : Shape := ⟨3, ![32, 48, 128]⟩
abbrev S32x6144 : Shape := ⟨2, ![32, 6144]⟩
abbrev S32x128x6144 : Shape := ⟨3, ![32, 128, 6144]⟩
abbrev S32x1x6144 : Shape := ⟨3, ![32, 1, 6144]⟩
abbrev S2048x48x128 : Shape := ⟨3, ![2048, 48, 128]⟩
abbrev S48x2048x128 : Shape := ⟨3, ![48, 2048, 128]⟩
abbrev S48x2048x1 : Shape := ⟨3, ![48, 2048, 1]⟩

abbrev nBuf : Space → Nat
  | .hbm => 6
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4096x12288, .fp8e4m3⟩
  | .hbm, ⟨2, _⟩ => ⟨S32x96, .f32⟩
  | .hbm, ⟨3, _⟩ => ⟨S2048x6144, .fp8e4m3⟩
  | .hbm, ⟨4, _⟩ => ⟨S48x2048, .f32⟩
  | .hbm, ⟨5, _⟩ => ⟨S2048x6144, .bf16⟩
  | .local _ .vmem, ⟨0, _⟩ => ⟨S2048x4096, .bf16⟩
  | .local _ .vmem, ⟨1, _⟩ => ⟨S4096x12288, .fp8e4m3⟩
  | .local _ .vmem, ⟨2, _⟩ => ⟨S32x96, .f32⟩
  | .local _ .vmem, ⟨3, _⟩ => ⟨S2048x6144, .fp8e4m3⟩
  | .local _ .vmem, ⟨4, _⟩ => ⟨S48x2048, .f32⟩
  | .local _ .vmem, ⟨5, _⟩ => ⟨S2048x6144, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x12288 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Norm.lean ====
abbrev S2048x4096 : Shape := ⟨2, ![2048, 4096]⟩
abbrev S1x4096 : Shape := ⟨2, ![1, 4096]⟩
abbrev S32x2048 : Shape := ⟨2, ![32, 2048]⟩
abbrev S256x4096 : Shape := ⟨2, ![256, 4096]⟩
abbrev S32x256 : Shape := ⟨2, ![32, 256]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S128x256 : Shape := ⟨2, ![128, 256]⟩

abbrev nBuf : Space → Nat
  | .hbm => 5
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S1x4096, .f32⟩
  | .hbm, ⟨2, _⟩ => ⟨S2048x4096, .fp8e4m3⟩
  | .hbm, ⟨3, _⟩ => ⟨S32x2048, .f32⟩
  | .hbm, ⟨4, _⟩ => ⟨S2048x4096, .bf16⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S256x4096, .fp8e4m3⟩
  | .local _ .vmem, ⟨4, _⟩ => ⟨S256x4096, .fp8e4m3⟩
  | .local _ .vmem, ⟨5, _⟩ => ⟨S32x256, .f32⟩
  | .local _ .vmem, ⟨6, _⟩ => ⟨S32x256, .f32⟩
  | .local _ .vmem, ⟨7, _⟩ => ⟨S256x4096, .bf16⟩
  | .local _ .vmem, ⟨8, _⟩ => ⟨S256x4096, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S2048x4096 : Shape := ⟨2, ![2048, 4096]⟩
abbrev S1x4096 : Shape := ⟨2, ![1, 4096]⟩
abbrev S32x2048 : Shape := ⟨2, ![32, 2048]⟩
abbrev S2048 : Shape := ⟨1, ![2048]⟩
abbrev S2048x1 : Shape := ⟨2, ![2048, 1]⟩
abbrev S2048x32x128 : Shape := ⟨3, ![2048, 32, 128]⟩
abbrev S32x2048x128 : Shape := ⟨3, ![32, 2048, 128]⟩
abbrev S32x2048x1 : Shape := ⟨3, ![32, 2048, 1]⟩

abbrev nBuf : Space → Nat
  | .hbm => 5
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S1x4096, .f32⟩
  | .hbm, ⟨2, _⟩ => ⟨S2048x4096, .fp8e4m3⟩
  | .hbm, ⟨3, _⟩ => ⟨S32x2048, .f32⟩
  | .hbm, ⟨4, _⟩ => ⟨S2048x4096, .bf16⟩
  | .local _ .vmem, ⟨0, _⟩ => ⟨S2048x4096, .bf16⟩
  | .local _ .vmem, ⟨1, _⟩ => ⟨S1x4096, .f32⟩
  | .local _ .vmem, ⟨2, _⟩ => ⟨S2048x4096, .fp8e4m3⟩
  | .local _ .vmem, ⟨3, _⟩ => ⟨S32x2048, .f32⟩
  | .local _ .vmem, ⟨4, _⟩ => ⟨S2048x4096, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Oproj.lean ====
abbrev S2048x4096 : Shape := ⟨2, ![2048, 4096]⟩
abbrev S2048x2048 : Shape := ⟨2, ![2048, 2048]⟩
abbrev S16x32 : Shape := ⟨2, ![16, 32]⟩
abbrev S1x4096 : Shape := ⟨2, ![1, 4096]⟩
abbrev S32x2048 : Shape := ⟨2, ![32, 2048]⟩
abbrev S256x4096 : Shape := ⟨2, ![256, 4096]⟩
abbrev S256x2048 : Shape := ⟨2, ![256, 2048]⟩
abbrev S32x256 : Shape := ⟨2, ![32, 256]⟩
abbrev S1x1 : Shape := ⟨2, ![1, 1]⟩
abbrev S128x128 : Shape := ⟨2, ![128, 128]⟩
abbrev S256x512 : Shape := ⟨2, ![256, 512]⟩
abbrev S2048x512 : Shape := ⟨2, ![2048, 512]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S128x256 : Shape := ⟨2, ![128, 256]⟩

abbrev nBuf : Space → Nat
  | .hbm => 9
  | .vmem => 15
  | .smem => 1
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x4096, .fp8e4m3⟩
  | .hbm, ⟨3, _⟩ => ⟨S16x32, .f32⟩
  | .hbm, ⟨4, _⟩ => ⟨S1x4096, .f32⟩
  | .hbm, ⟨5, _⟩ => ⟨S2048x4096, .f32⟩
  | .hbm, ⟨6, _⟩ => ⟨S2048x4096, .fp8e4m3⟩
  | .hbm, ⟨7, _⟩ => ⟨S32x2048, .f32⟩
  | .hbm, ⟨8, _⟩ => ⟨S2048x4096, .bf16⟩
  | .local _ .vmem, ⟨0, _⟩ => ⟨S256x4096, .bf16⟩
  | .local _ .vmem, ⟨1, _⟩ => ⟨S256x4096, .bf16⟩
  | .local _ .vmem, ⟨2, _⟩ => ⟨S256x2048, .bf16⟩
  | .local _ .vmem, ⟨3, _⟩ => ⟨S256x2048, .bf16⟩
  | .local _ .vmem, ⟨4, _⟩ => ⟨S2048x4096, .fp8e4m3⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .fp8e4m3⟩
  | .local _ .vmem, ⟨9, _⟩ => ⟨S256x4096, .fp8e4m3⟩
  | .local _ .vmem, ⟨10, _⟩ => ⟨S32x256, .f32⟩
  | .local _ .vmem, ⟨11, _⟩ => ⟨S32x256, .f32⟩
  | .local _ .vmem, ⟨12, _⟩ => ⟨S256x4096, .bf16⟩
  | .local _ .vmem, ⟨13, _⟩ => ⟨S256x4096, .bf16⟩
  | .local _ .vmem, ⟨14, _⟩ => ⟨S2048x4096, .bf16⟩
  | .local _ .smem, ⟨0, _⟩ => ⟨S16x32, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OprojRefIdeal.lean ====
abbrev S2048x4096 : Shape := ⟨2, ![2048, 4096]⟩
abbrev S2048x2048 : Shape := ⟨2, ![2048, 2048]⟩
abbrev S16x32 : Shape := ⟨2, ![16, 32]⟩
abbrev S1x4096 : Shape := ⟨2, ![1, 4096]⟩
abbrev S32x2048 : Shape := ⟨2, ![32, 2048]⟩
abbrev S16x32x1 : Shape := ⟨3, ![16, 32, 1]⟩
abbrev S16x32x128 : Shape := ⟨3, ![16, 32, 128]⟩
abbrev S16x4096 : Shape := ⟨2, ![16, 4096]⟩
abbrev S16x128x4096 : Shape := ⟨3, ![16, 128, 4096]⟩
abbrev S16x1x4096 : Shape := ⟨3, ![16, 1, 4096]⟩
abbrev S2048 : Shape := ⟨1, ![2048]⟩
abbrev S2048x1 : Shape := ⟨2, ![2048, 1]⟩
abbrev S2048x32x128 : Shape := ⟨3, ![2048, 32, 128]⟩
abbrev S32x2048x128 : Shape := ⟨3, ![32, 2048, 128]⟩
abbrev S32x2048x1 : Shape := ⟨3, ![32, 2048, 1]⟩

abbrev nBuf : Space → Nat
  | .hbm => 9
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x4096, .fp8e4m3⟩
  | .hbm, ⟨3, _⟩ => ⟨S16x32, .f32⟩
  | .hbm, ⟨4, _⟩ => ⟨S1x4096, .f32⟩
  | .hbm, ⟨5, _⟩ => ⟨S2048x4096, .f32⟩
  | .hbm, ⟨6, _⟩ => ⟨S2048x4096, .fp8e4m3⟩
  | .hbm, ⟨7, _⟩ => ⟨S32x2048, .f32⟩
  | .hbm, ⟨8, _⟩ => ⟨S2048x4096, .bf16⟩
  | .local _ .vmem, ⟨0, _⟩ => ⟨S2048x4096, .bf16⟩
  | .local _ .vmem, ⟨1, _⟩ => ⟨S2048x2048, .bf16⟩
  | .local _ .vmem, ⟨2, _⟩ => ⟨S2048x4096, .fp8e4m3⟩
  | .local _ .vmem, ⟨3, _⟩ => ⟨S16x32, .f32⟩
  | .local _ .vmem, ⟨4, _⟩ => ⟨S1x4096, .f32⟩
  | .local _ .vmem, ⟨5, _⟩ => ⟨S2048x4096, .f32⟩
  | .local _ .vmem, ⟨6, _⟩ => ⟨S2048x4096, .fp8e4m3⟩
  | .local _ .vmem, ⟨7, _⟩ => ⟨S32x2048, .f32⟩
  | .local _ .vmem, ⟨8, _⟩ => ⟨S2048x4096, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.DownValue.lean ====
/- The value of the second feed-forward product, over the reals. One grid point widens a [6144, 256] tile of the weights block by block into a scratch (the codes times the block's scale),
   then multiplies eight row tiles of the activations by it and adds h1. `wide` is the widened tile, `out` what a point leaves in its output block, `result` the whole array; `arrAt_eq` says the
   kernel leaves `result`, `G4_apply` that the reference does. -/
module

public import proofs.«01_k».proof.Proof.Gen.DownIdeal.Value
public import proofs.«01_k».proof.Proof.Gen.DownRefIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DownIdeal.Value

open Cert.DownIdeal Cert.DownIdeal.Gen Idealize.ShloMosaic Idealize.ShloMosaic.TcCoe Idealize.SL.Sem
open Idealize.ShloMosaic.Pipeline (Dat)

/-- One widened block as the kernel computes it: the codes times one scale, both as bf16. -/
def block (s : Elt Ideal .f32) (w : Vec Ideal S128x128 .fp8e4m3) : FVec Ideal S128x128 .bf16 :=
  shapeCast S128x128 (mulf (extf .bf16 w bitsLt_fp8e4m3_bf16) (truncf .bf16 (broadcast S128x128 s) bitsLt_bf16_f32)) shapeCasts_S128x128_S128x128

/-- … at an index: the code times the scale. -/
theorem block_apply (s : Elt Ideal .f32) (w : Vec Ideal S128x128 .fp8e4m3) (j : S128x128.Idx) : block s w j = w j * s := by
  pointwise [block]

/-- The widened weight tile of grid point `i`. -/
def wide (i : grid0.Coords) (x1 : Vec Ideal S6144x256 .fp8e4m3) (x2 : Vec Ideal S48x32 .f32) : Vec Ideal S6144x256 .bf16 :=
  fun j => x1 j * x2 (ix2 ⟨(j 0).val / 128, by have : (j 0).val < 6144 := (j 0).isLt; omega⟩ ⟨2 * (i 0).val + (j 1).val / 128, by have : (j 1).val < 256 := (j 1).isLt; have : (i 0).val < 16 := (i 0).isLt; omega⟩)

/-- A widened block, stored at rows `a` and columns `b` with the scale of that block, is the part of the widened tile at that place. -/
theorem block_piece (i : grid0.Coords) (x1 : Vec Ideal S6144x256 .fp8e4m3) (x2 : Vec Ideal S48x32 .f32) (a b : ℕ) (ha : a % 128 = 0) (hb : b % 128 = 0)
    (inb) (off : Fin 2 → ℕ) (inb2) (h1) (hoff : off = ![a / 128, 2 * (i 0).val + b / 128]) (x : S128x128.Idx) :
    block (View.ld x2 (Rect.unit (s := S48x32) off ![1, 1] inb2) (Shape.Idx.first h1)) (View.ld x1 (Rect.unit (s := S6144x256) ![a, b] ![128, 128] inb)) x
      = wide i x1 x2 ((Rect.unit (s := S6144x256) ![a, b] ![128, 128] inb).emb x) := by
  subst hoff
  have e : (Rect.unit (s := S6144x256) ![a, b] ![128, 128] inb).emb x = ix2 ⟨a + (x 0).val, by have := inb 0; have : (x 0).val < 128 := (x 0).isLt; simp at *; omega⟩ ⟨b + (x 1).val, by have := inb 1; have : (x 1).val < 128 := (x 1).isLt; simp at *; omega⟩ := by
    blk_ext
  rw [block_apply, wide, e]
  have h0 : (x 0).val < 128 := (x 0).isLt
  have h1 : (x 1).val < 128 := (x 1).isLt
  pointwise
  congr 1
  blk_ext

/-- A load of the scratch is the widened tile, once its pieces are blocks of it and cover it. -/
theorem readCov_wide {s : Shape} {e : EltTy} (v : View sig .tc .vmem s e) (W : s.Idx → Elt Ideal e) (L : List (View.Piece (Elt Ideal) s e)) (B : LoadRect s)
    (h : View.PiecesOf W L) (hc : ∀ y, ∃ p ∈ L, y ∈ p.1.set) : v.readCov L B = fun j => W (B.idx j) := by
  rw [View.readCov_eq_canon']
  funext j
  exact (congrArg (fun K => View.canon K _) (List.append_nil L).symm).trans (View.canon_append_of_piecesOf _ [] L h _ (hc _))

/-- The same for what a list of stores leaves in a buffer. -/
theorem canon_of_piecesOf {s : Shape} {e : EltTy} (W : s.Idx → Elt Ideal e) (L : List (View.Piece (Elt Ideal) s e))
    (h : View.PiecesOf W L) (hc : ∀ y, ∃ p ∈ L, y ∈ p.1.set) : View.canon L = W := by
  funext j
  exact (congrArg (fun K => View.canon K _) (List.append_nil L).symm).trans (View.canon_append_of_piecesOf _ [] L h _ (hc _))

/-- What one grid point leaves in the output's block: the rows of h1 plus the rows of the activations times the widened tile. -/
def out (i : grid0.Coords) (x0 : Vec Ideal S2048x6144 .bf16) (x1 : Vec Ideal S6144x256 .fp8e4m3) (x2 : Vec Ideal S48x32 .f32) (x3 : Vec Ideal S2048x256 .f32) :
    Vec Ideal S2048x256 .bf16 :=
  fun j => x3 j + ∑ k : Fin 6144, x0 (ix2 (j 0) k) * wide i x1 x2 (ix2 k (j 1))

/-- One of the eight row tiles. -/
def rows (h : FVec Ideal S256x256 .f32) (a : FVec Ideal S256x6144 .bf16) (w : FVec Ideal S6144x256 .bf16) : FVec Ideal S256x256 .bf16 :=
  truncf .bf16 (addf h (matmul dot_S256x6144_S6144x256_S256x256_1_0_0_1_n_n none a w (constant S256x256 .f32 0x00000000#32))) bitsLt_bf16_f32

/-- … at an index: the element of h1 plus the sum of products. -/
theorem rows_apply (h : FVec Ideal S256x256 .f32) (a : FVec Ideal S256x6144 .bf16) (w : FVec Ideal S6144x256 .bf16) (j : S256x256.Idx) :
    rows h a w j = h j + ∑ k : Fin 6144, a (ix2 (j 0) k) * w (ix2 k (j 1)) := by
  pointwise [rows, Ideal.ofBits_zero_f32]

/-- The row tile that starts at row `a` is the part of `out` at that place. -/
theorem rows_piece (i : grid0.Coords) (x0 : Vec Ideal S2048x6144 .bf16) (x1 : Vec Ideal S6144x256 .fp8e4m3) (x2 : Vec Ideal S48x32 .f32) (x3 : Vec Ideal S2048x256 .f32)
    (a : ℕ) (inb) (inb') (inb'') (x : S256x256.Idx) :
    rows (View.ld x3 (Rect.unit (s := S2048x256) ![a, 0] ![256, 256] inb)) (View.ld x0 (Rect.unit (s := S2048x6144) ![a, 0] ![256, 6144] inb'))
      (fun j => wide i x1 x2 ((Rect.unit (s := S6144x256) ![0, 0] ![6144, 256] inb'').toLoadRect.idx j)) x
      = out i x0 x1 x2 x3 ((Rect.unit (s := S2048x256) ![a, 0] ![256, 256] inb).emb x) := by
  have e : (Rect.unit (s := S2048x256) ![a, 0] ![256, 256] inb).emb x = ix2 ⟨a + (x 0).val, by have := inb 0; have : (x 0).val < 256 := (x 0).isLt; simp at *; omega⟩ (x 1) := by
    blk_ext
  have e' : ∀ j, (Rect.unit (s := S6144x256) ![0, 0] ![6144, 256] inb'').toLoadRect.idx j = j := fun j => by
    show (Rect.unit (s := S6144x256) ![0, 0] ![6144, 256] inb'').emb j = j
    blk_ext
  rw [rows_apply, out, e]
  simp only [e']
  pointwise

variable (m : (ℓ : Loc nD τ sig) → Buf (Elt Ideal) ℓ) (ρ : Dev nD → PrngReg)

/-- A grid point leaves `out` of its input blocks in the output's block. -/
theorem outsAt0_eq (c : Dev nD) (t : Fin cfg0.N) : outsAt0 m c t = out (grid0.coords t) (iblk m c 0 t) (iblk m c 1 t) (iblk m c 2 t) (iblk m c 3 t) := by
  unfold outsAt0
  generalize iblk m c 0 t = x0
  generalize iblk m c 1 t = x1
  generalize iblk m c 2 t = x2
  generalize iblk m c 3 t = x3
  generalize grid0.coords t = i
  unfold out0_A_4
  frame_out
  rw [readCov_wide (View.whole cc0_scratch0) (wide i x1 x2)]
  rotate_left
  · repeat' first
      | exact trivial
      | refine ⟨fun x => block_piece i x1 x2 _ _ rfl rfl _ _ _ _ ((inferInstance : ClosedOff _).eq.trans rfl) x, ?_⟩
  · intro y
    refine View.cover_of_tiledL (s := S6144x256) _ S128x128.size ?_ y
    sl_kernel_rfl
  refine canon_of_piecesOf _ _ ?_ ?_
  · refine ⟨fun x => ?_, ?_⟩
    exact rows_piece i x0 x1 x2 x3 _ _ _ _ x
    repeat' first
      | exact trivial
      | refine ⟨fun x => rows_piece i x0 x1 x2 x3 _ _ _ _ x, ?_⟩
  · intro y
    refine View.cover_of_tiledL (s := S2048x256) _ S256x256.size ?_ y
    sl_kernel_rfl

/-- The whole result, index by index: h1 plus the row of the activations times the column of the widened weights. -/
def result (a0 : Vec Ideal S2048x6144 .bf16) (a1 : Vec Ideal S6144x4096 .fp8e4m3) (a2 : Vec Ideal S48x32 .f32) (a3 : Vec Ideal S2048x4096 .f32) :
    Vec Ideal S2048x4096 .bf16 :=
  fun j => a3 j + ∑ k : Fin 6144, a0 (ix2 (j 0) k) * (a1 (ix2 k (j 1)) * a2 (ix2 ⟨k.val / 128, by omega⟩ ⟨(j 1).val / 128, by have : (j 1).val < 4096 := (j 1).isLt; omega⟩))

/-! Which block of each array a grid point takes. -/

theorem index0 : ∀ t : Fin cfg0.N, win0_0.index t = ![0, 0] := (by decide +kernel : ∀ t : Fin grid0.N, win0_0.index t = ![0, 0])
theorem index1 : ∀ t : Fin cfg0.N, win0_1.index t = ![0, (grid0.coords t 0).val] := (by decide +kernel : ∀ t : Fin grid0.N, win0_1.index t = ![0, (grid0.coords t 0).val])
theorem index2 : ∀ t : Fin cfg0.N, win0_2.index t = ![0, 0] := (by decide +kernel : ∀ t : Fin grid0.N, win0_2.index t = ![0, 0])
theorem index4 : ∀ t : Fin cfg0.N, win0_4.index t = ![0, (grid0.coords t 0).val] := (by decide +kernel : ∀ t : Fin grid0.N, win0_4.index t = ![0, (grid0.coords t 0).val])

/-- The kernel's result array after the run. -/
theorem arrAt_eq (c : Dev nD) : (dats m 0 c).arrAt 4 cfg0.N
    = result (V m c (Pipeline.arrRef spec0 0)) (V m c (Pipeline.arrRef spec0 1)) (V m c (Pipeline.arrRef spec0 2)) (V m c (Pipeline.arrRef spec0 3)) := by
  refine (dats m 0 c).arrAt_eq_of_covers 4 _ (by decide +kernel) fun t hf y => ?_
  blk_simp
  rw [after0_4, outsAt0_eq, out, result]
  have h0 : (grid0.coords t 0).val < 16 := (grid0.coords t 0).isLt
  congr 1
  refine Finset.sum_congr rfl fun k _ => ?_
  rw [wide]
  congr 1
  · blk_ext [iblk, index0 t, index4 t]
  · congr 1
    · blk_ext [iblk, index1 t, index4 t]
    · blk_ext [iblk, index2 t, index4 t]

end Cert.DownIdeal.Value

namespace Cert.DownRefIdeal.Value

open Cert.DownRefIdeal Cert.DownRefIdeal.Gen Idealize.ShloMosaic

/-- The reference's result is the same function. -/
theorem G4_apply (a0 : Vec Ideal S2048x6144 .bf16) (a1 : Vec Ideal S6144x4096 .fp8e4m3) (a2 : Vec Ideal S48x32 .f32) (a3 : Vec Ideal S2048x4096 .f32) :
    G4 a0 a1 a2 a3 = Cert.DownIdeal.Value.result a0 a1 a2 a3 := by
  funext j
  unfold G4
  pointwise [Cert.DownIdeal.Value.result, k0_pay1, Ideal.ofBits_zero_f32]

end Cert.DownRefIdeal.Value

end
-- ==== Proof.Over.lean ====
/- A buffer's contents after stores that need not cover it: the earlier contents overlaid with the stored pieces. -/
module

public import Idealize.ShloMosaic.Lib.Pipeline.FrameBody

@[expose] public section

noncomputable section

namespace Idealize.ShloMosaic.View

variable {sig : RefSig} {κ : Kind} {sp : Space} {s : Shape} {e : EltTy} {Val : EltTy → Type}

/-- The contents `Y` overlaid with the pieces `L`, the head of the list last. -/
def over : List (Piece Val s e) → (s.Idx → Val e) → s.Idx → Val e
  | [], Y => Y
  | p :: L, Y => p.1.overlay (over L Y) p.2

/-- What a view reads after the pieces are written is what it read before, overlaid. -/
theorem read_writes_over (v : View sig κ sp s e) (f : v.ty.Contents Val) (L : List (Piece Val s e)) :
    v.read Val (v.writes Val f L) = over L (v.read Val f) := by
  induction L with
  | nil => rfl
  | cons p L ih =>
    funext y
    by_cases hy : y ∈ p.1.set
    · obtain ⟨r, w⟩ := p
      obtain ⟨x, rfl⟩ : ∃ x, r.emb x = y := r.exists_idx_of_mem hy
      rw [read_writes_cons_emb]; exact (r.overlay_emb _ _ x).symm
    · rw [v.read_writes_cons_miss f p L y hy, ih]; exact (p.1.overlay_of_not_mem _ _ hy).symm

end Idealize.ShloMosaic.View

end
-- ==== Proof.UpRun.lean ====
/- What the body of `up` leaves at a grid point, run once over its skeleton: the store pieces of each of its three outputs are found by the run. -/
module

public import proofs.«01_k».proof.Proof.Gen.Up.Skeleton
public import proofs.«01_k».proof.Proof.Gen.Up.Frame
public import proofs.«01_k».proof.Proof.Over

@[expose] public section

set_option maxRecDepth 16384

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body of `up` on whole buffers: the inputs at their contents, the scales' buffer at any `y5`, everything else at anything.
    It ends with the inputs as they were, the codes' and the widened activations' buffers and the two scratches with their pieces written,
    and the scales' buffer at `y5` overlaid with its pieces. The pieces are what the run finds. -/
noncomputable def run (c : Dev nD) (i : grid0.Coords) (arg1 : Memref sig .tc .vmem S2048x4096 .bf16) (harg1 : arg1.IsWhole) (arg2 : Memref sig .tc .vmem S4096x256 .fp8e4m3) (harg2 : arg2.IsWhole) (arg3 : Memref sig .tc .vmem S4096x256 .fp8e4m3) (harg3 : arg3.IsWhole) (arg4 : Memref sig .tc .smem S32x96 .f32) (harg4 : arg4.IsWhole) (arg5 : Memref sig .tc .vmem S2048x256 .fp8e4m3) (harg5 : arg5.IsWhole) (arg6 : Memref sig .tc .vmem S48x2048 .f32) (harg6 : arg6.IsWhole) (arg7 : Memref sig .tc .vmem S2048x256 .bf16) (harg7 : arg7.IsWhole) (arg8 : Memref sig .tc .vmem S4096x256 .bf16) (harg8 : arg8.IsWhole) (arg9 : Memref sig .tc .vmem S4096x256 .bf16) (harg9 : arg9.IsWhole)
    (x0 : Vec F S2048x4096 .bf16) (x1 : Vec F S4096x256 .fp8e4m3) (x2 : Vec F S4096x256 .fp8e4m3) (x3 : Vec F S32x96 .f32) :
    Σ' (L4 : List (View.Piece (Elt F) S2048x256 .fp8e4m3)) (L5 : List (View.Piece (Elt F) S48x2048 .f32)) (L6 : List (View.Piece (Elt F) S2048x256 .bf16))
      (LT0 : List (View.Piece (Elt F) S4096x256 .bf16)), { LT1 : List (View.Piece (Elt F) S4096x256 .bf16) //
      ∀ (y5 : Vec F S48x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare y5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare (View.over L5 y5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1)) -∗ K ⟨⟩))
          ⊢ wp frame (wpE (defs₀ (F := F)) Variants.none c none) E (cc0_up i arg1 harg1 arg2 harg2 arg3 harg3 arg4 harg4 arg5 harg5 arg6 harg6 arg7 harg7 arg8 harg8 arg9 harg9) K } := by
  refine ⟨?_, ?_, ?_, ?_, ?_, fun y5 E K => ?run⟩
  case run =>
    simp only [cc0_up_eq_skeleton]; unfold cc0_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr
      swap; · iexact H5
      ipureintro; subst hf5; exact View.read_writes_over _ _ _
    isplitl [H6]; · iexists _; iexact H6
    isplitl [HS0]; · iexists _; iexact HS0
    iexists _; iexact HS1

end Cert.Up.Hand

end
-- ==== Proof.UpFrame.lean ====
/- The call `up` as a whole: its proof data, the scales' window held to a chain of partial stores, the launch, and the frame. -/
module

public import proofs.«01_k».proof.Proof.UpRun
public import Idealize.ShloMosaic.Lib.Pipeline.DatRel
public import Idealize.ShloMosaic.Lib.Pipeline.Frame
public import Idealize.ShloMosaic.Lib.Claim

@[expose] public section

set_option maxRecDepth 16384

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs at a point -/

abbrev ms0 (t : Fin cfg0.N) : Memref sig .tc .vmem S2048x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .fp8e4m3 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .smem S32x96 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S48x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x256 .bf16 := win0_6.stage (cfg0.slots t 6)
abbrev hs6 (t : Fin cfg0.N) : (ms6 t).IsWhole := hstage0_6 ((cfg0.slots t 6).cast nbuf0_6)
/-- The two scratches, into which the weights are widened. -/
abbrev sc0 : Memref sig .tc .vmem S4096x256 .bf16 := Memref.whole cc0_scratch0
abbrev sc1 : Memref sig .tc .vmem S4096x256 .bf16 := Memref.whole cc0_scratch1

/-- What the body holds beside the windows: its two scratches at some contents and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The run at point `t`, on the point's memrefs and input blocks. -/
abbrev runAt (c : Dev nD) (t : Fin cfg0.N) :=
  run (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) (iblk m c 0 t) (iblk m c 1 t) (iblk m c 2 t) (iblk m c 3 t)

/-- The codes that the body leaves at a point. -/
def codesAt (c : Dev nD) (t : Fin cfg0.N) : Vec F S2048x256 .fp8e4m3 := View.canon (runAt m c t).1
/-- The pieces of the scales that the body stores at a point. -/
def scalesAt (c : Dev nD) (t : Fin cfg0.N) : List (View.Piece (Elt F) S48x2048 .f32) := (runAt m c t).2.1
/-- The widened activations that the body leaves at a point. -/
def wideAt (c : Dev nD) (t : Fin cfg0.N) : Vec F S2048x256 .bf16 := View.canon (runAt m c t).2.2.1

/-- The codes' pieces tile their block. -/
theorem cover4 (c : Dev nD) (i : grid0.Coords) (arg1 : Memref sig .tc .vmem S2048x4096 .bf16) (harg1 : arg1.IsWhole) (arg2 : Memref sig .tc .vmem S4096x256 .fp8e4m3) (harg2 : arg2.IsWhole) (arg3 : Memref sig .tc .vmem S4096x256 .fp8e4m3) (harg3 : arg3.IsWhole) (arg4 : Memref sig .tc .smem S32x96 .f32) (harg4 : arg4.IsWhole) (arg5 : Memref sig .tc .vmem S2048x256 .fp8e4m3) (harg5 : arg5.IsWhole) (arg6 : Memref sig .tc .vmem S48x2048 .f32) (harg6 : arg6.IsWhole) (arg7 : Memref sig .tc .vmem S2048x256 .bf16) (harg7 : arg7.IsWhole) (arg8 : Memref sig .tc .vmem S4096x256 .bf16) (harg8 : arg8.IsWhole) (arg9 : Memref sig .tc .vmem S4096x256 .bf16) (harg9 : arg9.IsWhole) (x0 : Vec F S2048x4096 .bf16) (x1 : Vec F S4096x256 .fp8e4m3) (x2 : Vec F S4096x256 .fp8e4m3) (x3 : Vec F S32x96 .f32) (y : S2048x256.Idx) :
    ∃ pc ∈ (run (F := F) c i arg1 harg1 arg2 harg2 arg3 harg3 arg4 harg4 arg5 harg5 arg6 harg6 arg7 harg7 arg8 harg8 arg9 harg9 x0 x1 x2 x3).1, y ∈ pc.1.set :=
  View.cover_of_tiledL (run (F := F) c i arg1 harg1 arg2 harg2 arg3 harg3 arg4 harg4 arg5 harg5 arg6 harg6 arg7 harg7 arg8 harg8 arg9 harg9 x0 x1 x2 x3).1 S256x128.size (by sl_kernel_rfl) y
/-- The widened activations' pieces tile their block. -/
theorem cover6 (c : Dev nD) (i : grid0.Coords) (arg1 : Memref sig .tc .vmem S2048x4096 .bf16) (harg1 : arg1.IsWhole) (arg2 : Memref sig .tc .vmem S4096x256 .fp8e4m3) (harg2 : arg2.IsWhole) (arg3 : Memref sig .tc .vmem S4096x256 .fp8e4m3) (harg3 : arg3.IsWhole) (arg4 : Memref sig .tc .smem S32x96 .f32) (harg4 : arg4.IsWhole) (arg5 : Memref sig .tc .vmem S2048x256 .fp8e4m3) (harg5 : arg5.IsWhole) (arg6 : Memref sig .tc .vmem S48x2048 .f32) (harg6 : arg6.IsWhole) (arg7 : Memref sig .tc .vmem S2048x256 .bf16) (harg7 : arg7.IsWhole) (arg8 : Memref sig .tc .vmem S4096x256 .bf16) (harg8 : arg8.IsWhole) (arg9 : Memref sig .tc .vmem S4096x256 .bf16) (harg9 : arg9.IsWhole) (x0 : Vec F S2048x4096 .bf16) (x1 : Vec F S4096x256 .fp8e4m3) (x2 : Vec F S4096x256 .fp8e4m3) (x3 : Vec F S32x96 .f32) (y : S2048x256.Idx) :
    ∃ pc ∈ (run (F := F) c i arg1 harg1 arg2 harg2 arg3 harg3 arg4 harg4 arg5 harg5 arg6 harg6 arg7 harg7 arg8 harg8 arg9 harg9 x0 x1 x2 x3).2.2.1, y ∈ pc.1.set :=
  View.cover_of_tiledL (run (F := F) c i arg1 harg1 arg2 harg2 arg3 harg3 arg4 harg4 arg5 harg5 arg6 harg6 arg7 harg7 arg8 harg8 arg9 harg9 x0 x1 x2 x3).2.2.1 S256x128.size (by sl_kernel_rfl) y

/-! ## The scales' window -/

/-- What the scales' buffer may hold before point `n`: some contents overlaid with the pieces of the points below `n`, in order. -/
def Held (c : Dev nD) (n : ℕ) (X : Vec F S48x2048 .f32) : Prop :=
  ∃ Z : ℕ → Vec F S48x2048 .f32, X = Z n ∧ ∀ u : Fin cfg0.N, u.val < n → Z (u.val + 1) = View.over (scalesAt m c u) (Z u.val)

theorem Held.zero (c : Dev nD) (X : Vec F S48x2048 .f32) : Held m c 0 X := ⟨fun _ => X, rfl, fun u h => absurd h (Nat.not_lt_zero _)⟩

theorem Held.succ (c : Dev nD) (t : Fin cfg0.N) (X : Vec F S48x2048 .f32) (h : Held m c t.val X) :
    Held m c (t.val + 1) (View.over (scalesAt m c t) X) := by
  obtain ⟨Z, rfl, hZ⟩ := h
  refine ⟨fun k => if k = t.val + 1 then View.over (scalesAt m c t) (Z t.val) else Z k, (if_pos rfl).symm, fun u hu => ?_⟩
  beta_reduce
  by_cases hut : u.val = t.val
  · obtain rfl := Fin.ext hut
    rw [if_pos rfl, if_neg (by omega)]
  · rw [if_neg (by omega), if_neg (by omega)]
    exact hZ u (by omega)

/-! ## The proof data -/

/-- The arrays as the region finds them; each input's buffer at its block after the body, the codes' and the widened
    activations' at what the run leaves; the windows on one array at their shares of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesAt m c t
    | ⟨5, _⟩ => fun _ => Classical.arbitrary _
    | ⟨6, _⟩ => wideAt m c t
  Φ _ := Pipeline.ΦA spec0 c
  q w := Pipeline.shareOf spec0 w
  owed _ := 0

/-- The one window that is held to a predicate: the scales'. -/
def fgt (w : Fin cfg0.W) : Bool := match w with
  | ⟨5, _⟩ => true
  | _ => false

/-- The predicate: a chain of partial stores up to the point. -/
def Rl (c : Dev nD) (w : Fin cfg0.W) (t : Fin cfg0.N) (X : (cfg0.win w).block.Idx → Elt F (cfg0.win w).elt) : Prop := match w with
  | ⟨5, _⟩ => Held m c (t.val + 1) X
  | _ => True

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = codesAt m c t := by dsimp only [dats]
theorem after6 (c : Dev nD) (t : Fin cfg0.N) : (dats m 0 c).after 6 t = wideAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The data read with the scales' window held to its predicate. -/
abbrev rdat (c : Dev nD) : Pipeline.RDat τ (Elt F) Unit ℕ (UR sig nD τ) ℕ cfg0 c := (dats m 0 c).toRRel fgt (Rl m c)

/-- What the scales' buffer may hold when the body is entered. -/
theorem held_of_finds (c : Dev nD) (t : Fin cfg0.N) (Y : Vec F S48x2048 .f32) (h : (rdat m c).Finds 5 t Y) : Held m c t.val Y := by
  by_cases h0 : t.val = 0
  · rw [h0]; exact Held.zero m c Y
  · have hN : t.val < 24 := lt_of_lt_of_eq t.isLt N_0
    rcases ((rdat m c).finds_of_pos ((cfg0.win 5).fetch_out rfl t) h0 Y).mp h with hf | hl
    · have := (flush0_5 _).mp hf
      simp only at this
      omega
    · have := (dats m 0 c).toRRel_leaves (fgt := fgt) (Rl := Rl m c) (w := 5) rfl hl
      have h' : Held m c (t.val - 1 + 1) Y := this
      rwa [Nat.sub_add_cancel (Nat.pos_of_ne_zero h0)] at h'

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ Y, ⌜(rdat m c).Finds 5 t Y⌝ ∗ owns (c : Thread nD τ) (ms5 t) fullShare Y)
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (∃ X, ⌜Held m c (t.val + 1) X⌝ ∗ owns (c : Thread nD τ) (ms5 t) fullShare X)
    ∗ owns (c : Thread nD τ) (ms6 t) fullShare ((dats m 0 c).after 6 t))

/-- The body at any point: the run, at the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after6]
  rw [show (dats m 0 c).Φ t.castSucc = Pipeline.ΦA spec0 c from rfl, PhiA_eq]
  unfold codesAt wideAt
  iintro ⟨⟨⟨HS0, HS1⟩, Hg⟩, Ho, ⟨%d0, H0⟩, ⟨%d1, H1⟩, ⟨%d2, H2⟩, ⟨%d3, H3⟩, ⟨%d4, H4⟩, ⟨%Y5, %hY5, H5⟩, ⟨%d6, H6⟩⟩
  iapply ((runAt m c t).2.2.2.2.2 Y5 Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  isplitl [HS0]; · iexact HS0
  isplitl [HS1]; · iexact HS1
  iintro ⟨H0, H1, H2, H3, ⟨%e4, H4⟩, H5, ⟨%e6, H6⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      · iexists _; unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (cover4 c _ _ _ _ _ _ _ _ _ _ _ _ _ _ _ _ _ _ _ _ _ _ _)
  isplitl [H5]
  · iexists _; isplitr
    swap; · iexact H5
    ipureintro; exact Held.succ m c t Y5 (held_of_finds m c t Y5 hY5)
  unfold owns; iexists _; isplitr
  swap; · iexact H6
  ipureintro; exact View.read_writes_eq_canon _ _ _ (cover6 c _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) :
    Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The run and the frame -/

set_option backward.isDefEq.respectTransparency.types false in
/-- The launch: every execution of @main terminates, the arrays are what the proof data say, and every semaphore counter ends at zero. -/
theorem run_main : θ_run defs (onTc (τ := τ) (main (F := F))) (s₀ m ρ) (fun r => Pipeline.RDat.FramePost cfg0 (rdat m) (V m) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := fun _ => .rfl) (hout := fun _ => .rfl)

/-- The frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 0 rfl).trans (A_eq m c 0), (h.1.arr_in c 2 rfl).trans (A_eq m c 2),
    (h.1.arr_in c 3 rfl).trans (A_eq m c 3)⟩, h.2⟩) (run_main m ρ)

end Cert.Up.Hand

end
-- ==== Proof.UpIdealRun.lean ====
/- What the body of `up` leaves at a grid point, run once over its skeleton: the store pieces of each of its three outputs are found by the run. -/
module

public import proofs.«01_k».proof.Proof.Gen.UpIdeal.Skeleton
public import proofs.«01_k».proof.Proof.Gen.UpIdeal.Frame
public import proofs.«01_k».proof.Proof.Over

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body of `up` on whole buffers: the inputs at their contents, the scales' buffer at any `y5`, everything else at anything.
    It ends with the inputs as they were, the codes' and the widened activations' buffers and the two scratches with their pieces written,
    and the scales' buffer at `y5` overlaid with its pieces. The pieces are what the run finds. -/
noncomputable def run (c : Dev nD) (i : grid0.Coords) (arg1 : Memref sig .tc .vmem S2048x4096 .bf16) (harg1 : arg1.IsWhole) (arg2 : Memref sig .tc .vmem S4096x256 .fp8e4m3) (harg2 : arg2.IsWhole) (arg3 : Memref sig .tc .vmem S4096x256 .fp8e4m3) (harg3 : arg3.IsWhole) (arg4 : Memref sig .tc .smem S32x96 .f32) (harg4 : arg4.IsWhole) (arg5 : Memref sig .tc .vmem S2048x256 .fp8e4m3) (harg5 : arg5.IsWhole) (arg6 : Memref sig .tc .vmem S48x2048 .f32) (harg6 : arg6.IsWhole) (arg7 : Memref sig .tc .vmem S2048x256 .bf16) (harg7 : arg7.IsWhole) (arg8 : Memref sig .tc .vmem S4096x256 .bf16) (harg8 : arg8.IsWhole) (arg9 : Memref sig .tc .vmem S4096x256 .bf16) (harg9 : arg9.IsWhole)
    (x0 : Vec F S2048x4096 .bf16) (x1 : Vec F S4096x256 .fp8e4m3) (x2 : Vec F S4096x256 .fp8e4m3) (x3 : Vec F S32x96 .f32) :
    Σ' (L4 : List (View.Piece (Elt F) S2048x256 .fp8e4m3)) (L5 : List (View.Piece (Elt F) S48x2048 .f32)) (L6 : List (View.Piece (Elt F) S2048x256 .bf16))
      (LT0 : List (View.Piece (Elt F) S4096x256 .bf16)), { LT1 : List (View.Piece (Elt F) S4096x256 .bf16) //
      ∀ (y5 : Vec F S48x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare y5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare (View.over L5 y5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1)) -∗ K ⟨⟩))
          ⊢ wp frame (wpE (defs₀ (F := F)) Variants.none c none) E (cc0_up i arg1 harg1 arg2 harg2 arg3 harg3 arg4 harg4 arg5 harg5 arg6 harg6 arg7 harg7 arg8 harg8 arg9 harg9) K } := by
  refine ⟨?_, ?_, ?_, ?_, ?_, fun y5 E K => ?run⟩
  case run =>
    simp only [cc0_up_eq_skeleton]; unfold cc0_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr
      swap; · iexact H5
      ipureintro; subst hf5; exact View.read_writes_over _ _ _
    isplitl [H6]; · iexists _; iexact H6
    isplitl [HS0]; · iexists _; iexact HS0
    iexists _; iexact HS1

end Cert.UpIdeal.Hand

end
-- ==== Proof.UpIdealFrame.lean ====
/- The call `up` as a whole: its proof data, the scales' window held to a chain of partial stores, the launch, and the frame. -/
module

public import proofs.«01_k».proof.Proof.UpIdealRun
public import Idealize.ShloMosaic.Lib.Pipeline.DatRel
public import Idealize.ShloMosaic.Lib.Pipeline.Frame
public import Idealize.ShloMosaic.Lib.Claim

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs at a point -/

abbrev ms0 (t : Fin cfg0.N) : Memref sig .tc .vmem S2048x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .fp8e4m3 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .smem S32x96 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S48x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x256 .bf16 := win0_6.stage (cfg0.slots t 6)
abbrev hs6 (t : Fin cfg0.N) : (ms6 t).IsWhole := hstage0_6 ((cfg0.slots t 6).cast nbuf0_6)
/-- The two scratches, into which the weights are widened. -/
abbrev sc0 : Memref sig .tc .vmem S4096x256 .bf16 := Memref.whole cc0_scratch0
abbrev sc1 : Memref sig .tc .vmem S4096x256 .bf16 := Memref.whole cc0_scratch1

/-- What the body holds beside the windows: its two scratches at some contents and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The run at point `t`, on the point's memrefs and input blocks. -/
abbrev runAt (c : Dev nD) (t : Fin cfg0.N) :=
  run (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) (iblk m c 0 t) (iblk m c 1 t) (iblk m c 2 t) (iblk m c 3 t)

/-- The codes that the body leaves at a point. -/
def codesAt (c : Dev nD) (t : Fin cfg0.N) : Vec F S2048x256 .fp8e4m3 := View.canon (runAt m c t).1
/-- The pieces of the scales that the body stores at a point. -/
def scalesAt (c : Dev nD) (t : Fin cfg0.N) : List (View.Piece (Elt F) S48x2048 .f32) := (runAt m c t).2.1
/-- The widened activations that the body leaves at a point. -/
def wideAt (c : Dev nD) (t : Fin cfg0.N) : Vec F S2048x256 .bf16 := View.canon (runAt m c t).2.2.1

/-- The codes' pieces tile their block. -/
theorem cover4 (c : Dev nD) (i : grid0.Coords) (arg1 : Memref sig .tc .vmem S2048x4096 .bf16) (harg1 : arg1.IsWhole) (arg2 : Memref sig .tc .vmem S4096x256 .fp8e4m3) (harg2 : arg2.IsWhole) (arg3 : Memref sig .tc .vmem S4096x256 .fp8e4m3) (harg3 : arg3.IsWhole) (arg4 : Memref sig .tc .smem S32x96 .f32) (harg4 : arg4.IsWhole) (arg5 : Memref sig .tc .vmem S2048x256 .fp8e4m3) (harg5 : arg5.IsWhole) (arg6 : Memref sig .tc .vmem S48x2048 .f32) (harg6 : arg6.IsWhole) (arg7 : Memref sig .tc .vmem S2048x256 .bf16) (harg7 : arg7.IsWhole) (arg8 : Memref sig .tc .vmem S4096x256 .bf16) (harg8 : arg8.IsWhole) (arg9 : Memref sig .tc .vmem S4096x256 .bf16) (harg9 : arg9.IsWhole) (x0 : Vec F S2048x4096 .bf16) (x1 : Vec F S4096x256 .fp8e4m3) (x2 : Vec F S4096x256 .fp8e4m3) (x3 : Vec F S32x96 .f32) (y : S2048x256.Idx) :
    ∃ pc ∈ (run (F := F) c i arg1 harg1 arg2 harg2 arg3 harg3 arg4 harg4 arg5 harg5 arg6 harg6 arg7 harg7 arg8 harg8 arg9 harg9 x0 x1 x2 x3).1, y ∈ pc.1.set :=
  View.cover_of_tiledL (run (F := F) c i arg1 harg1 arg2 harg2 arg3 harg3 arg4 harg4 arg5 harg5 arg6 harg6 arg7 harg7 arg8 harg8 arg9 harg9 x0 x1 x2 x3).1 S256x128.size (by sl_kernel_rfl) y
/-- The widened activations' pieces tile their block. -/
theorem cover6 (c : Dev nD) (i : grid0.Coords) (arg1 : Memref sig .tc .vmem S2048x4096 .bf16) (harg1 : arg1.IsWhole) (arg2 : Memref sig .tc .vmem S4096x256 .fp8e4m3) (harg2 : arg2.IsWhole) (arg3 : Memref sig .tc .vmem S4096x256 .fp8e4m3) (harg3 : arg3.IsWhole) (arg4 : Memref sig .tc .smem S32x96 .f32) (harg4 : arg4.IsWhole) (arg5 : Memref sig .tc .vmem S2048x256 .fp8e4m3) (harg5 : arg5.IsWhole) (arg6 : Memref sig .tc .vmem S48x2048 .f32) (harg6 : arg6.IsWhole) (arg7 : Memref sig .tc .vmem S2048x256 .bf16) (harg7 : arg7.IsWhole) (arg8 : Memref sig .tc .vmem S4096x256 .bf16) (harg8 : arg8.IsWhole) (arg9 : Memref sig .tc .vmem S4096x256 .bf16) (harg9 : arg9.IsWhole) (x0 : Vec F S2048x4096 .bf16) (x1 : Vec F S4096x256 .fp8e4m3) (x2 : Vec F S4096x256 .fp8e4m3) (x3 : Vec F S32x96 .f32) (y : S2048x256.Idx) :
    ∃ pc ∈ (run (F := F) c i arg1 harg1 arg2 harg2 arg3 harg3 arg4 harg4 arg5 harg5 arg6 harg6 arg7 harg7 arg8 harg8 arg9 harg9 x0 x1 x2 x3).2.2.1, y ∈ pc.1.set :=
  View.cover_of_tiledL (run (F := F) c i arg1 harg1 arg2 harg2 arg3 harg3 arg4 harg4 arg5 harg5 arg6 harg6 arg7 harg7 arg8 harg8 arg9 harg9 x0 x1 x2 x3).2.2.1 S256x128.size (by sl_kernel_rfl) y

/-! ## The scales' window -/

/-- What the scales' buffer may hold before point `n`: some contents overlaid with the pieces of the points below `n`, in order. -/
def Held (c : Dev nD) (n : ℕ) (X : Vec F S48x2048 .f32) : Prop :=
  ∃ Z : ℕ → Vec F S48x2048 .f32, X = Z n ∧ ∀ u : Fin cfg0.N, u.val < n → Z (u.val + 1) = View.over (scalesAt m c u) (Z u.val)

theorem Held.zero (c : Dev nD) (X : Vec F S48x2048 .f32) : Held m c 0 X := ⟨fun _ => X, rfl, fun u h => absurd h (Nat.not_lt_zero _)⟩

theorem Held.succ (c : Dev nD) (t : Fin cfg0.N) (X : Vec F S48x2048 .f32) (h : Held m c t.val X) :
    Held m c (t.val + 1) (View.over (scalesAt m c t) X) := by
  obtain ⟨Z, rfl, hZ⟩ := h
  refine ⟨fun k => if k = t.val + 1 then View.over (scalesAt m c t) (Z t.val) else Z k, (if_pos rfl).symm, fun u hu => ?_⟩
  beta_reduce
  by_cases hut : u.val = t.val
  · obtain rfl := Fin.ext hut
    rw [if_pos rfl, if_neg (by omega)]
  · rw [if_neg (by omega), if_neg (by omega)]
    exact hZ u (by omega)

/-! ## The proof data -/

/-- The arrays as the region finds them; each input's buffer at its block after the body, the codes' and the widened
    activations' at what the run leaves; the windows on one array at their shares of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesAt m c t
    | ⟨5, _⟩ => fun _ => Classical.arbitrary _
    | ⟨6, _⟩ => wideAt m c t
  Φ _ := Pipeline.ΦA spec0 c
  q w := Pipeline.shareOf spec0 w
  owed _ := 0

/-- The one window that is held to a predicate: the scales'. -/
def fgt (w : Fin cfg0.W) : Bool := match w with
  | ⟨5, _⟩ => true
  | _ => false

/-- The predicate: a chain of partial stores up to the point. -/
def Rl (c : Dev nD) (w : Fin cfg0.W) (t : Fin cfg0.N) (X : (cfg0.win w).block.Idx → Elt F (cfg0.win w).elt) : Prop := match w with
  | ⟨5, _⟩ => Held m c (t.val + 1) X
  | _ => True

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = codesAt m c t := by dsimp only [dats]
theorem after6 (c : Dev nD) (t : Fin cfg0.N) : (dats m 0 c).after 6 t = wideAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The data read with the scales' window held to its predicate. -/
abbrev rdat (c : Dev nD) : Pipeline.RDat τ (Elt F) Unit ℕ (UR sig nD τ) ℕ cfg0 c := (dats m 0 c).toRRel fgt (Rl m c)

/-- What the scales' buffer may hold when the body is entered. -/
theorem held_of_finds (c : Dev nD) (t : Fin cfg0.N) (Y : Vec F S48x2048 .f32) (h : (rdat m c).Finds 5 t Y) : Held m c t.val Y := by
  by_cases h0 : t.val = 0
  · rw [h0]; exact Held.zero m c Y
  · have hN : t.val < 24 := lt_of_lt_of_eq t.isLt N_0
    rcases ((rdat m c).finds_of_pos ((cfg0.win 5).fetch_out rfl t) h0 Y).mp h with hf | hl
    · have := (flush0_5 _).mp hf
      simp only at this
      omega
    · have := (dats m 0 c).toRRel_leaves (fgt := fgt) (Rl := Rl m c) (w := 5) rfl hl
      have h' : Held m c (t.val - 1 + 1) Y := this
      rwa [Nat.sub_add_cancel (Nat.pos_of_ne_zero h0)] at h'

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ Y, ⌜(rdat m c).Finds 5 t Y⌝ ∗ owns (c : Thread nD τ) (ms5 t) fullShare Y)
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (∃ X, ⌜Held m c (t.val + 1) X⌝ ∗ owns (c : Thread nD τ) (ms5 t) fullShare X)
    ∗ owns (c : Thread nD τ) (ms6 t) fullShare ((dats m 0 c).after 6 t))

/-- The body at any point: the run, at the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after6]
  rw [show (dats m 0 c).Φ t.castSucc = Pipeline.ΦA spec0 c from rfl, PhiA_eq]
  unfold codesAt wideAt
  iintro ⟨⟨⟨HS0, HS1⟩, Hg⟩, Ho, ⟨%d0, H0⟩, ⟨%d1, H1⟩, ⟨%d2, H2⟩, ⟨%d3, H3⟩, ⟨%d4, H4⟩, ⟨%Y5, %hY5, H5⟩, ⟨%d6, H6⟩⟩
  iapply ((runAt m c t).2.2.2.2.2 Y5 Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  isplitl [HS0]; · iexact HS0
  isplitl [HS1]; · iexact HS1
  iintro ⟨H0, H1, H2, H3, ⟨%e4, H4⟩, H5, ⟨%e6, H6⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      · iexists _; unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (cover4 c _ _ _ _ _ _ _ _ _ _ _ _ _ _ _ _ _ _ _ _ _ _ _)
  isplitl [H5]
  · iexists _; isplitr
    swap; · iexact H5
    ipureintro; exact Held.succ m c t Y5 (held_of_finds m c t Y5 hY5)
  unfold owns; iexists _; isplitr
  swap; · iexact H6
  ipureintro; exact View.read_writes_eq_canon _ _ _ (cover6 c _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) :
    Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The run and the frame -/

set_option backward.isDefEq.respectTransparency.types false in
/-- The launch: every execution of @main terminates, the arrays are what the proof data say, and every semaphore counter ends at zero. -/
theorem run_main : θ_run defs (onTc (τ := τ) (main (F := F))) (s₀ m ρ) (fun r => Pipeline.RDat.FramePost cfg0 (rdat m) (V m) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := fun _ => .rfl) (hout := fun _ => .rfl)

/-- The frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 0 rfl).trans (A_eq m c 0), (h.1.arr_in c 2 rfl).trans (A_eq m c 2),
    (h.1.arr_in c 3 rfl).trans (A_eq m c 3)⟩, h.2⟩) (run_main m ρ)

end Cert.UpIdeal.Hand

end
-- ==== Proof.GroupScale.lean ====
/- The scale of a group of values, over the reals: the power of two above `t = amax / 448`. The kernel finds the power of two below `t` from the logarithm, corrects it by one step either way where the
   rounded logarithm may have missed, and doubles it; the reference raises 2 to one more than the floor of the logarithm. Over the reals the correction never acts, and the two agree at every extended real. -/
module

public import Idealize.ShloMosaic.Lib.Pointwise
public import Idealize.ShloMosaic.Lib.IdealHost

@[expose] public section

noncomputable section

namespace Cert.GroupScale

open Idealize.ShloMosaic

/-- The floor of the logarithm in base 2. -/
def floorLog (t : EReal) : EReal := Ideal.liftRound Int.floor (Ideal.div (Ideal.log t) (Ideal.log 2))

/-- The kernel's scale at `t`. -/
def kernelScale (t : EReal) : EReal :=
  if t = 0 then 1 else
    2 * (if 2 * Ideal.exp2 (floorLog t) ≤ t then 2 * Ideal.exp2 (floorLog t)
      else if t < Ideal.exp2 (floorLog t) then (((1 : ℝ) / 2 : ℝ) : EReal) * Ideal.exp2 (floorLog t) else Ideal.exp2 (floorLog t))

/-- The exponent of the reference's scale at `t`. -/
def exponent (t : EReal) : EReal := if t = 0 then 0 else floorLog t + 1

theorem log_two : Ideal.log 2 = (Real.log 2 : EReal) := by
  rw [show (2 : EReal) = ((2 : ℝ) : EReal) from rfl, Ideal.log_coe, if_neg (by norm_num)]

theorem log2_pos : 0 < Real.log 2 := Real.log_pos (by norm_num)

/-- The logarithm in base 2 of a real. -/
def lg (r : ℝ) : ℝ := Real.log r * (1 / Real.log 2)

theorem two_rpow_lg {r : ℝ} (h : 0 < r) : (2 : ℝ) ^ lg r = r := by
  rw [Real.rpow_def_of_pos (by norm_num), lg, mul_comm, mul_assoc, one_div, inv_mul_cancel₀ log2_pos.ne', mul_one, Real.exp_log h]

/-- The floor of the logarithm of a positive real. -/
theorem floorLog_pos {r : ℝ} (h : 0 < r) : floorLog (r : EReal) = ((⌊lg r⌋ : ℝ) : EReal) := by
  rw [floorLog, log_two, Ideal.log_coe, if_neg (not_le.mpr h), Ideal.div_coe log2_pos.ne', ← EReal.coe_mul, Ideal.liftRound_coe]
  rfl

/-- … and of what is not positive. -/
theorem floorLog_neg {r : ℝ} (h : r ≤ 0) : floorLog (r : EReal) = ⊥ := by
  rw [floorLog, log_two, Ideal.log_coe, if_pos h, Ideal.div_coe log2_pos.ne', EReal.bot_mul_coe_of_pos (by have := log2_pos; positivity)]
  rfl

theorem floorLog_bot : floorLog ⊥ = ⊥ := by
  rw [floorLog, log_two, Ideal.log_bot, Ideal.div_coe log2_pos.ne', EReal.bot_mul_coe_of_pos (by have := log2_pos; positivity)]
  rfl

theorem floorLog_top : floorLog ⊤ = ⊤ := by
  rw [floorLog, log_two, Ideal.log_top, Ideal.div_coe log2_pos.ne', EReal.top_mul_coe_of_pos (by have := log2_pos; positivity)]
  rfl

/-- A positive real lies between the power of two that its logarithm names and the next. -/
theorem between {r : ℝ} (h : 0 < r) : (2 : ℝ) ^ (⌊lg r⌋ : ℝ) ≤ r ∧ r < 2 * (2 : ℝ) ^ (⌊lg r⌋ : ℝ) := by
  constructor
  · calc (2 : ℝ) ^ (⌊lg r⌋ : ℝ) ≤ (2 : ℝ) ^ (lg r) := Real.rpow_le_rpow_of_exponent_le (by norm_num) (Int.floor_le _)
      _ = r := two_rpow_lg h
  · calc r = (2 : ℝ) ^ (lg r) := (two_rpow_lg h).symm
      _ < (2 : ℝ) ^ ((⌊lg r⌋ : ℝ) + 1) := Real.rpow_lt_rpow_of_exponent_lt (by norm_num) (Int.lt_floor_add_one _)
      _ = 2 * (2 : ℝ) ^ (⌊lg r⌋ : ℝ) := by rw [Real.rpow_add (by norm_num), Real.rpow_one, mul_comm]

theorem two_mul_coe (r : ℝ) : (2 : EReal) * (r : EReal) = ((2 * r : ℝ) : EReal) := by
  rw [EReal.coe_mul]; rfl

/-- The kernel's scale is the reference's. -/
theorem kernelScale_eq (t : EReal) : kernelScale t = Ideal.exp2 (exponent t) := by
  unfold kernelScale exponent
  induction t with
  | bot =>
    rw [if_neg EReal.bot_ne_zero, if_neg EReal.bot_ne_zero, floorLog_bot]
    simp
  | top =>
    rw [if_neg EReal.top_ne_zero, if_neg EReal.top_ne_zero, floorLog_top, Ideal.exp2_top, EReal.mul_top_of_pos (by norm_num), if_pos le_rfl,
      EReal.mul_top_of_pos (by norm_num), show (⊤ : EReal) + 1 = ⊤ from rfl, Ideal.exp2_top]
  | coe r =>
    rcases lt_trichotomy r 0 with h | rfl | h
    · have h0 : ((r : ℝ) : EReal) ≠ 0 := by exact_mod_cast h.ne
      rw [if_neg h0, if_neg h0, floorLog_neg h.le]
      simp
    · simp only [EReal.coe_zero, if_true]
      rw [show (0 : EReal) = ((0 : ℝ) : EReal) from rfl, Ideal.exp2_coe]
      norm_num
    · have h0 : ((r : ℝ) : EReal) ≠ 0 := by exact_mod_cast h.ne'
      have hb := between h
      rw [if_neg h0, if_neg h0, floorLog_pos h, Ideal.exp2_coe, two_mul_coe]
      simp only [Real.rpow_eq_pow] at *
      rw [if_neg (by rw [EReal.coe_le_coe_iff]; exact not_le.mpr hb.2), if_neg (by rw [EReal.coe_lt_coe_iff]; exact not_lt.mpr hb.1), two_mul_coe,
        show (1 : EReal) = ((1 : ℝ) : EReal) from rfl, ← EReal.coe_add, Ideal.exp2_coe]
      simp only [Real.rpow_eq_pow]
      rw [Real.rpow_add (by norm_num), Real.rpow_one, mul_comm]

/-- The reciprocal of a power of two is the power at the negated exponent. -/
theorem div_one_exp2 (e : EReal) : Ideal.div 1 (Ideal.exp2 e) = Ideal.exp2 (0 - e) := by
  induction e with
  | bot => simp [Ideal.div]
  | top => simp [Ideal.div]
  | coe r =>
    have hp : 0 < (2 : ℝ) ^ r := Real.rpow_pos_of_pos (by norm_num) r
    rw [Ideal.exp2_coe, zero_sub, ← EReal.coe_neg, Ideal.exp2_coe]
    simp only [Real.rpow_eq_pow]
    rw [Ideal.div_coe hp.ne', one_mul, Real.rpow_neg (by norm_num), one_div]

/-- The kernel's reciprocal of its scale is the reference's. -/
theorem kernelInv_eq (t : EReal) : Ideal.div 1 (kernelScale t) = Ideal.exp2 (0 - exponent t) := by
  rw [kernelScale_eq, div_one_exp2]

/-- A value times a positive real is zero only where the value is. -/
theorem mul_pos_eq_zero {c : ℝ} (h : 0 < c) (x : EReal) : x * (c : EReal) = 0 ↔ x = 0 := by
  rw [mul_eq_zero]
  constructor
  · rintro (h' | h')
    · exact h'
    · exact absurd (by exact_mod_cast h') h.ne'
  · exact Or.inl

/-! The constants of the two programs. -/

theorem ofBits_two : Ideal.ofBits .f32 0x40000000#32 = 2 := by
  rw [show (2 : EReal) = ((2 : ℝ) : EReal) from rfl]
  simp [Ideal.ofBits, Ideal.ieee, -EReal.coe_mul]; norm_num
theorem ofBits_half : Ideal.ofBits .f32 0x3F000000#32 = (((1 : ℝ) / 2 : ℝ) : EReal) := by
  simp [Ideal.ofBits, Ideal.ieee, -EReal.coe_mul]; norm_num
/-- `1 / 448` rounded to f32 is a positive real. -/
theorem ofBits_step : ∃ c : ℝ, 0 < c ∧ Ideal.ofBits .f32 0x3B124925#32 = (c : EReal) := by
  refine ⟨_, ?_, by simp [Ideal.ofBits, Ideal.ieee, -EReal.coe_mul]; rfl⟩
  positivity

/-- A select on a decided comparison is an `if`. -/
theorem select_ofBool {α : Type} (p : Prop) [Decidable p] (x y : α) : Scalar.select (BitVec.ofBool (decide p)) x y = if p then x else y := by
  by_cases h : p <;> simp [Scalar.select, h]

theorem select_oeq {α : Type} (a b : EReal) (x y : α) : Scalar.select (Ideal.cmp .oeq a b) x y = if a = b then x else y := select_ofBool _ x y
theorem select_oge {α : Type} (a b : EReal) (x y : α) : Scalar.select (Ideal.cmp .oge a b) x y = if b ≤ a then x else y := select_ofBool _ x y
theorem select_olt {α : Type} (a b : EReal) (x y : α) : Scalar.select (Ideal.cmp .olt a b) x y = if a < b then x else y := select_ofBool _ x y

end Cert.GroupScale

end
-- ==== Proof.UpIdealTile.lean ====
/- The arithmetic of one row block of `up`, over the reals: a [256, 4096] block of the activations against the two widened weight tiles, the gated product, and its two groups of 128 columns quantised. -/
module

public import proofs.«01_k».proof.Proof.UpIdealFrame
public import proofs.«01_k».proof.Proof.GroupScale
public import Idealize.ShloMosaic.Lib.Pipeline.ValueKit
public import Idealize.ShloMosaic.Lib.Pipeline.ReadBack
public import Idealize.ShloMosaic.Lib.Pointwise

@[expose] public section

set_option maxRecDepth 16384

noncomputable section

namespace Cert.UpValue

open Idealize.ShloMosaic

/-! ## A group of 128 values, quantised -/

/-- The largest magnitude of a group over 448. -/
def step (f : Fin 128 → EReal) : EReal :=
  Finset.fold max (Ideal.ofBits .f32 0xFF800000#32) (fun x => (FloatOps.absf (F := Ideal) (φ := .f32) (f x) : EReal)) Finset.univ * Ideal.ofBits .f32 0x3B124925#32

/-- The scale of a group. -/
def scale (f : Fin 128 → EReal) : EReal := Ideal.exp2 (GroupScale.exponent (step f))

/-- The code of a value of the group. -/
def code (f : Fin 128 → EReal) (v : EReal) : EReal :=
  min (Ideal.ofBits .f32 0x43E00000#32) (max (Ideal.ofBits .f32 0xC3E00000#32) (v * Ideal.exp2 (0 - GroupScale.exponent (step f))))

/-- The gated product of a gate and an up value. -/
def gated (g u : EReal) : EReal := g * Ideal.logistic g * u

end Cert.UpValue

namespace Cert.UpIdeal.Value

open Cert.UpIdeal Cert.UpIdeal.Gen Idealize.ShloMosaic Idealize.ShloMosaic.TcCoe Idealize.SL.Sem
open Cert.UpValue

/-- The gated product of a row block: gate times its logistic times up. -/
def tile (x : Vec Ideal S256x4096 .bf16) (wg wu : Vec Ideal S4096x256 .bf16) : FVec Ideal S256x256 .f32 := k0_pay156 x wg wu

theorem tile_apply (x : Vec Ideal S256x4096 .bf16) (wg wu : Vec Ideal S4096x256 .bf16) (j : S256x256.Idx) :
    tile x wg wu j = gated (∑ k : Fin 4096, x (ix2 (j 0) k) * wg (ix2 k (j 1))) (∑ k : Fin 4096, x (ix2 (j 0) k) * wu (ix2 k (j 1))) := by
  pointwise [tile, k0_pay156, gated, Ideal.ofBits_zero_f32]

/-- The first and the second group of columns. -/
def left (a : FVec Ideal S256x256 .f32) : FVec Ideal S256x128 .f32 := extractStridedSlice S256x128 ![0, 0] a slices_S256x256_o0_0_S256x128
def right (a : FVec Ideal S256x256 .f32) : FVec Ideal S256x128 .f32 := extractStridedSlice S256x128 ![0, 128] a slices_S256x256_o0_128_S256x128

theorem left_apply (a : FVec Ideal S256x256 .f32) (r : Fin 256) (x : Fin 128) : left a (ix2 r x) = a (ix2 r ⟨x.val, by omega⟩) := by
  pointwise [left]
theorem right_apply (a : FVec Ideal S256x256 .f32) (r : Fin 256) (x : Fin 128) : right a (ix2 r x) = a (ix2 r ⟨128 + x.val, by omega⟩) := by
  pointwise [right]

/-- The largest magnitude of each row over 448. -/
def steps (v : FVec Ideal S256x128 .f32) : FVec Ideal S256x1 .f32 :=
  mulf (shapeCast S256x1 (multiReduction .maximumf [1] S256 (absf v) 0xFF800000#32 reduces_S256x128_S256 (.inl rfl) rfl) shapeCasts_S256_S256x1)
    (broadcast S256x1 (Scalar.ofBits .f32 0x3B124925#32))

theorem steps_apply (v : FVec Ideal S256x128 .f32) (j : S256x1.Idx) : steps v j = step fun x => v (ix2 (j 0) x) := by
  pointwise [steps, step]

/-- Its logarithm in base 2. -/
def logs (v : FVec Ideal S256x128 .f32) : FVec Ideal S256x1 .f32 := divf (log (steps v)) (log (broadcast S256x1 (Scalar.ofBits .f32 0x40000000#32)))

/-- The scale of each row. -/
def scales (v : FVec Ideal S256x128 .f32) : FVec Ideal S256x1 .f32 := k0_pay160 (steps v) (logs v)

theorem scales_kernel (v : FVec Ideal S256x128 .f32) (j : S256x1.Idx) : scales v j = GroupScale.kernelScale (steps v j) := by
  unfold scales logs
  generalize steps v = t
  pointwise [k0_pay160]
  rw [GroupScale.ofBits_two, GroupScale.ofBits_half]
  rfl

theorem scales_apply (v : FVec Ideal S256x128 .f32) (j : S256x1.Idx) : scales v j = scale fun x => v (ix2 (j 0) x) := by
  rw [scales_kernel, GroupScale.kernelScale_eq, steps_apply]; rfl

/-- The codes of each row. -/
def codes (v : FVec Ideal S256x128 .f32) : FVec Ideal S256x128 .fp8e4m3 := k0_pay161 v (steps v) (logs v)

theorem codes_apply (v : FVec Ideal S256x128 .f32) (j : S256x128.Idx) : codes v j = code (fun x => v (ix2 (j 0) x)) (v j) := by
  have h : codes v = truncf .fp8e4m3 (minimumf (broadcast S256x128 (Scalar.ofBits .f32 0x43E00000#32)) (maximumf (broadcast S256x128 (Scalar.ofBits .f32 0xC3E00000#32))
      (mulf v (broadcastTo S256x128 (divf (broadcast S256x1 (Scalar.ofBits .f32 0x3F800000#32)) (scales v)) broadcasts_S256x1_S256x128)))) bitsLt_fp8e4m3_f32 := rfl
  rw [h]
  pointwise
  rw [scales_kernel, GroupScale.kernelInv_eq, steps_apply]
  rfl

/-- The codes times the scale. -/
def wides (v : FVec Ideal S256x128 .f32) : FVec Ideal S256x128 .bf16 := k0_pay162 v (steps v) (logs v)

theorem wides_apply (v : FVec Ideal S256x128 .f32) (j : S256x128.Idx) :
    wides v j = code (fun x => v (ix2 (j 0) x)) (v j) * scale fun x => v (ix2 (j 0) x) := by
  have h : wides v = mulf (extf .bf16 (codes v) bitsLt_fp8e4m3_bf16) (broadcastTo S256x128 (truncf .bf16 (scales v) bitsLt_bf16_f32) broadcasts_S256x1_S256x128) := rfl
  rw [h]
  pointwise
  rw [codes_apply, scales_apply]
  rfl

/-- The scales of the first and of the second group as a row. -/
def rowL (v w : FVec Ideal S256x128 .f32) : FVec Ideal S1x256 .f32 := k0_pay173 (scales w) (iota .tc S256x128 32 [1] iota_S256x128_d1_w32) (k0_pay170 (scales v)) k0_pay171
def rowR (v w : FVec Ideal S256x128 .f32) : FVec Ideal S1x256 .f32 := k0_pay174 (scales w) (iota .tc S256x128 32 [1] iota_S256x128_d1_w32) (k0_pay170 (scales v)) k0_pay171

theorem rowL_apply (v w : FVec Ideal S256x128 .f32) (j : S1x256.Idx) : rowL v w j = scale fun x => v (ix2 (j 1) x) := by
  have h := scales_apply v (ix2 (j 1) 0)
  unfold rowL
  generalize scales v = s at *
  generalize scales w = s'
  pointwise [k0_pay173, k0_pay172, k0_pay171, k0_pay170]
  rw [show IntOp.cmpi CmpIPredicate.eq 0#32 1#32 = 0#1 from rfl]
  exact h
theorem rowR_apply (v w : FVec Ideal S256x128 .f32) (j : S1x256.Idx) : rowR v w j = scale fun x => w (ix2 (j 1) x) := by
  have h := scales_apply w (ix2 (j 1) 0)
  unfold rowR
  generalize scales v = s
  generalize scales w = s' at *
  pointwise [k0_pay174, k0_pay172, k0_pay171, k0_pay170]
  exact h

end Cert.UpIdeal.Value

end
-- ==== Proof.UpIdealBlocks.lean ====
/- What one grid point of `up` leaves, over the reals: the two widened weight tiles, and of each row block the codes, the scales and the codes times their scales. -/
module

public import proofs.«01_k».proof.Proof.UpIdealTile

@[expose] public section

set_option maxRecDepth 16384

noncomputable section

namespace Cert.UpIdeal.Value

open Cert.UpIdeal Cert.UpIdeal.Gen Cert.UpIdeal.Hand Idealize.ShloMosaic Idealize.ShloMosaic.TcCoe Idealize.SL.Sem
open Cert.UpValue

/-- One widened block as the kernel computes it: the codes times one scale, both as bf16. -/
def block (s : Elt Ideal .f32) (w : Vec Ideal S128x128 .fp8e4m3) : FVec Ideal S128x128 .bf16 :=
  shapeCast S128x128 (mulf (extf .bf16 w bitsLt_fp8e4m3_bf16) (truncf .bf16 (broadcast S128x128 s) bitsLt_bf16_f32)) shapeCasts_S128x128_S128x128

/-- … at an index: the code times the scale. -/
theorem block_apply (s : Elt Ideal .f32) (w : Vec Ideal S128x128 .fp8e4m3) (j : S128x128.Idx) : block s w j = w j * s := by
  pointwise [block]

/-- The widened weight tile of grid point `i`, whose scales start at column `base + 2 i`. -/
def wide (base : ℕ) (hb : base ≤ 48) (i : grid0.Coords) (x1 : Vec Ideal S4096x256 .fp8e4m3) (x3 : Vec Ideal S32x96 .f32) : Vec Ideal S4096x256 .bf16 :=
  fun j => x1 j * x3 (ix2 ⟨(j 0).val / 128, by have : (j 0).val < 4096 := (j 0).isLt; omega⟩
    ⟨2 * (i 0).val + (j 1).val / 128 + base, by have : (j 1).val < 256 := (j 1).isLt; have : (i 0).val < 24 := (i 0).isLt; omega⟩)

/-- A widened block, stored at rows `a` and columns `b` with the scale of that block, is the part of the widened tile at that place. -/
theorem block_piece (base : ℕ) (hb : base ≤ 48) (i : grid0.Coords) (x1 : Vec Ideal S4096x256 .fp8e4m3) (x3 : Vec Ideal S32x96 .f32) (a b : ℕ) (ha : a % 128 = 0) (hb : b % 128 = 0)
    (inb) (off : Fin 2 → ℕ) (inb2) (h1) (hoff : off = ![a / 128, 2 * (i 0).val + b / 128 + base]) (x : S128x128.Idx) :
    block (View.ld x3 (Rect.unit (s := S32x96) off ![1, 1] inb2) (Shape.Idx.first h1)) (View.ld x1 (Rect.unit (s := S4096x256) ![a, b] ![128, 128] inb)) x
      = wide base ‹_› i x1 x3 ((Rect.unit (s := S4096x256) ![a, b] ![128, 128] inb).emb x) := by
  subst hoff
  have e : (Rect.unit (s := S4096x256) ![a, b] ![128, 128] inb).emb x = ix2 ⟨a + (x 0).val, by have := inb 0; have : (x 0).val < 128 := (x 0).isLt; simp at *; omega⟩ ⟨b + (x 1).val, by have := inb 1; have : (x 1).val < 128 := (x 1).isLt; simp at *; omega⟩ := by
    blk_ext
  rw [block_apply, wide, e]
  have h0 : (x 0).val < 128 := (x 0).isLt
  have h1 : (x 1).val < 128 := (x 1).isLt
  pointwise
  congr 1
  blk_ext

/-- A load of the scratch is the widened tile, once its pieces are blocks of it and cover it. -/
theorem readCov_wide {s : Shape} {e : EltTy} (v : View sig .tc .vmem s e) (W : s.Idx → Elt Ideal e) (L : List (View.Piece (Elt Ideal) s e)) (B : LoadRect s)
    (h : View.PiecesOf W L) (hc : ∀ y, ∃ p ∈ L, y ∈ p.1.set) : v.readCov L B = fun j => W (B.idx j) := by
  rw [View.readCov_eq_canon']
  funext j
  exact (congrArg (fun K => View.canon K _) (List.append_nil L).symm).trans (View.canon_append_of_piecesOf _ [] L h _ (hc _))

/-- The same for what a list of stores leaves in a buffer. -/
theorem canon_of_piecesOf {s : Shape} {e : EltTy} (W : s.Idx → Elt Ideal e) (L : List (View.Piece (Elt Ideal) s e))
    (h : View.PiecesOf W L) (hc : ∀ y, ∃ p ∈ L, y ∈ p.1.set) : View.canon L = W := by
  funext j
  exact (congrArg (fun K => View.canon K _) (List.append_nil L).symm).trans (View.canon_append_of_piecesOf _ [] L h _ (hc _))

theorem codes_at (v : FVec Ideal S256x128 .f32) (r : Fin 256) (y : Fin 128) : codes v (ix2 r y) = code (fun x => v (ix2 r x)) (v (ix2 r y)) := codes_apply v _
theorem wides_at (v : FVec Ideal S256x128 .f32) (r : Fin 256) (y : Fin 128) :
    wides v (ix2 r y) = code (fun x => v (ix2 r x)) (v (ix2 r y)) * scale fun x => v (ix2 r x) := wides_apply v _
theorem rowL_at (v w : FVec Ideal S256x128 .f32) (z : Fin 1) (r : Fin 256) : rowL v w (ix2 z r) = scale fun x => v (ix2 r x) := rowL_apply v w _
theorem rowR_at (v w : FVec Ideal S256x128 .f32) (z : Fin 1) (r : Fin 256) : rowR v w (ix2 z r) = scale fun x => w (ix2 r x) := rowR_apply v w _

/-- The gated product of a grid point at row `r` and column `c` of its tile. -/
def act (x0 : Vec Ideal S2048x4096 .bf16) (wg wu : Vec Ideal S4096x256 .bf16) (r : Fin 2048) (c : Fin 256) : EReal :=
  gated (∑ k : Fin 4096, x0 (ix2 r k) * wg (ix2 k c)) (∑ k : Fin 4096, x0 (ix2 r k) * wu (ix2 k c))

/-- The group of 128 columns that column `c` is of. -/
def group (x0 : Vec Ideal S2048x4096 .bf16) (wg wu : Vec Ideal S4096x256 .bf16) (r : Fin 2048) (n : Fin 2) (x : Fin 128) : EReal :=
  act x0 wg wu r ⟨128 * n.val + x.val, by omega⟩

/-- The codes that a grid point leaves. -/
def codesOf (x0 : Vec Ideal S2048x4096 .bf16) (wg wu : Vec Ideal S4096x256 .bf16) : Vec Ideal S2048x256 .fp8e4m3 :=
  fun j => code (group x0 wg wu (j 0) ⟨(j 1).val / 128, by have : (j 1).val < 256 := (j 1).isLt; omega⟩) (act x0 wg wu (j 0) (j 1))

/-- The codes times their scales that a grid point leaves. -/
def widesOf (x0 : Vec Ideal S2048x4096 .bf16) (wg wu : Vec Ideal S4096x256 .bf16) : Vec Ideal S2048x256 .bf16 :=
  fun j => codesOf x0 wg wu j * scale (group x0 wg wu (j 0) ⟨(j 1).val / 128, by have : (j 1).val < 256 := (j 1).isLt; omega⟩)

/-- The row block at row `a`, at an index. -/
theorem tile_ld (x0 : Vec Ideal S2048x4096 .bf16) (wg wu : Vec Ideal S4096x256 .bf16) (a : ℕ) (ha : a + 256 ≤ 2048) (inb) (inb') (j : S256x256.Idx) :
    tile (View.ld x0 (Rect.unit (s := S2048x4096) ![a, 0] ![256, 4096] inb)) (fun j => wg ((Rect.unit (s := S4096x256) ![0, 0] ![4096, 256] inb').toLoadRect.idx j))
      (fun j => wu ((Rect.unit (s := S4096x256) ![0, 0] ![4096, 256] inb').toLoadRect.idx j)) j
      = act x0 wg wu ⟨a + (j 0).val, by have : (j 0).val < 256 := (j 0).isLt; omega⟩ (j 1) := by
  have e' : ∀ j, (Rect.unit (s := S4096x256) ![0, 0] ![4096, 256] inb').toLoadRect.idx j = j := fun j => by
    show (Rect.unit (s := S4096x256) ![0, 0] ![4096, 256] inb').emb j = j
    blk_ext
  rw [tile_apply]
  simp only [e', act]
  pointwise

/-- The gated product of the row block at row `a`. -/
abbrev rowBlock (x0 : Vec Ideal S2048x4096 .bf16) (wg wu : Vec Ideal S4096x256 .bf16) (a : ℕ) (inb : ∀ k, ![a, 0] k + ![256, 4096] k ≤ S2048x4096.size k)
    (inb' : ∀ k, ![0, 0] k + ![4096, 256] k ≤ S4096x256.size k) : FVec Ideal S256x256 .f32 :=
  tile (View.ld x0 (Rect.unit (s := S2048x4096) ![a, 0] ![256, 4096] inb)) (fun j => wg ((Rect.unit (s := S4096x256) ![0, 0] ![4096, 256] inb').toLoadRect.idx j))
    (fun j => wu ((Rect.unit (s := S4096x256) ![0, 0] ![4096, 256] inb').toLoadRect.idx j))

section pieces

variable (x0 : Vec Ideal S2048x4096 .bf16) (wg wu : Vec Ideal S4096x256 .bf16) (a : ℕ) (ha : a + 256 ≤ 2048) (inb : ∀ k, ![a, 0] k + ![256, 4096] k ≤ S2048x4096.size k)
  (inb' : ∀ k, ![0, 0] k + ![4096, 256] k ≤ S4096x256.size k)

include ha

/-- The rows of the two groups of a row block. -/
theorem left_row (r : Fin 256) : (fun x => left (rowBlock x0 wg wu a inb inb') (ix2 r x)) = group x0 wg wu ⟨a + r.val, by omega⟩ 0 := by
  funext x
  refine ((left_apply _ r x).trans (tile_ld x0 wg wu a ha inb inb' (ix2 r ⟨x.val, by omega⟩))).trans ?_
  show act x0 wg wu _ _ = act x0 wg wu _ _
  congr 1
  exact Fin.ext (by simp)
theorem right_row (r : Fin 256) : (fun x => right (rowBlock x0 wg wu a inb inb') (ix2 r x)) = group x0 wg wu ⟨a + r.val, by omega⟩ 1 := by
  funext x
  refine ((right_apply _ r x).trans (tile_ld x0 wg wu a ha inb inb' (ix2 r ⟨128 + x.val, by omega⟩))).trans ?_
  show act x0 wg wu _ _ = act x0 wg wu _ _
  congr 1

theorem emb_left (inb2) (r : Fin 256) (y : Fin 128) : (Rect.unit (s := S2048x256) ![a, 0] ![256, 128] inb2).emb (ix2 r y)
    = ix2 ⟨a + r.val, by omega⟩ ⟨y.val, by omega⟩ := by blk_ext
theorem emb_right (inb2) (r : Fin 256) (y : Fin 128) : (Rect.unit (s := S2048x256) ![a, 128] ![256, 128] inb2).emb (ix2 r y)
    = ix2 ⟨a + r.val, by omega⟩ ⟨128 + y.val, by omega⟩ := by blk_ext

/-! The stored blocks of each group are the parts of `codesOf`, `widesOf` at their place. -/

theorem codes_left (inb2) (x : S256x128.Idx) : codes (left (rowBlock x0 wg wu a inb inb')) x = codesOf x0 wg wu ((Rect.unit (s := S2048x256) ![a, 0] ![256, 128] inb2).emb x) := by
  obtain ⟨r, y, rfl⟩ : ∃ (r : Fin 256) (y : Fin 128), x = ix2 r y := ⟨x 0, x 1, (ix2_eta x).symm⟩
  rw [emb_left a ha, codes_at, left_row (ha := ha), congrFun (left_row x0 wg wu a ha inb inb' r) y]
  show code (group x0 wg wu _ _) (act x0 wg wu _ _) = code (group x0 wg wu _ _) (act x0 wg wu _ _)
  congr 2
  · exact Fin.ext (by simp; omega)
  · exact Fin.ext (by simp)
theorem wides_left (inb2) (x : S256x128.Idx) : wides (left (rowBlock x0 wg wu a inb inb')) x = widesOf x0 wg wu ((Rect.unit (s := S2048x256) ![a, 0] ![256, 128] inb2).emb x) := by
  rw [widesOf, ← codes_left x0 wg wu a ha inb inb' inb2 x]
  obtain ⟨r, y, rfl⟩ : ∃ (r : Fin 256) (y : Fin 128), x = ix2 r y := ⟨x 0, x 1, (ix2_eta x).symm⟩
  rw [wides_at, codes_at, emb_left a ha, left_row (ha := ha)]
  congr 2
  show group x0 wg wu _ _ = group x0 wg wu _ _
  congr 1
  first | exact Fin.ext (by simp; omega) | exact Fin.ext (by simp)
theorem codes_right (inb2) (x : S256x128.Idx) : codes (right (rowBlock x0 wg wu a inb inb')) x = codesOf x0 wg wu ((Rect.unit (s := S2048x256) ![a, 128] ![256, 128] inb2).emb x) := by
  obtain ⟨r, y, rfl⟩ : ∃ (r : Fin 256) (y : Fin 128), x = ix2 r y := ⟨x 0, x 1, (ix2_eta x).symm⟩
  rw [emb_right a ha, codes_at, right_row (ha := ha), congrFun (right_row x0 wg wu a ha inb inb' r) y]
  show code (group x0 wg wu _ _) (act x0 wg wu _ _) = code (group x0 wg wu _ _) (act x0 wg wu _ _)
  congr 2
  · exact Fin.ext (by simp)

theorem wides_right (inb2) (x : S256x128.Idx) : wides (right (rowBlock x0 wg wu a inb inb')) x = widesOf x0 wg wu ((Rect.unit (s := S2048x256) ![a, 128] ![256, 128] inb2).emb x) := by
  rw [widesOf, ← codes_right x0 wg wu a ha inb inb' inb2 x]
  obtain ⟨r, y, rfl⟩ : ∃ (r : Fin 256) (y : Fin 128), x = ix2 r y := ⟨x 0, x 1, (ix2_eta x).symm⟩
  rw [wides_at, codes_at, emb_right a ha, right_row (ha := ha)]
  congr 2
  show group x0 wg wu _ _ = group x0 wg wu _ _
  congr 1
  first | exact Fin.ext (by simp; omega) | exact Fin.ext (by simp)

/-! The stored rows of scales, at an index. -/

theorem scales_left (z : Fin 1) (r : Fin 256) : rowL (left (rowBlock x0 wg wu a inb inb')) (right (rowBlock x0 wg wu a inb inb')) (ix2 z r) = scale (group x0 wg wu ⟨a + r.val, by omega⟩ 0) := by
  rw [rowL_at, left_row (ha := ha)]
theorem scales_right (z : Fin 1) (r : Fin 256) : rowR (left (rowBlock x0 wg wu a inb inb')) (right (rowBlock x0 wg wu a inb inb')) (ix2 z r) = scale (group x0 wg wu ⟨a + r.val, by omega⟩ 1) := by
  rw [rowR_at, right_row (ha := ha)]

end pieces

end Cert.UpIdeal.Value

end
-- ==== Proof.UpIdealPays.lean ====
/- The payloads of the eight row blocks of `up` under the names of their arithmetic. The printed body is cut in parts of sixty statements, so each of the eight copies of one computation is spelled by other payloads;
   each equation below holds by unfolding both sides. -/
module

public import proofs.«01_k».proof.Proof.UpIdealTile

@[expose] public section

set_option maxRecDepth 16384

noncomputable section

namespace Cert.UpIdeal.Value

open Cert.UpIdeal Cert.UpIdeal.Gen Idealize.ShloMosaic Idealize.ShloMosaic.TcCoe

variable (X : Vec Ideal S256x4096 .bf16) (WG WU : Vec Ideal S4096x256 .bf16)

theorem codes_right_7 : k0_pay278 (k0_pay275 (k0_pay268 X WG WU)) (k0_pay276 (k0_pay268 X WG WU))
    = codes (right (tile X WG WU)) := rfl
theorem codes_left_7 : k0_pay273 (k0_pay269 X WG WU) (k0_pay270 X WG WU) (k0_pay271 X WG WU)
    = codes (left (tile X WG WU)) := rfl
theorem codes_right_6 : k0_pay263 (k0_pay256 X WG WU)
    = codes (right (tile X WG WU)) := rfl
theorem codes_left_6 : k0_pay259 (k0_pay257 X WG WU)
    = codes (left (tile X WG WU)) := rfl
theorem codes_right_5 : k0_pay249 (k0_pay242 X (k0_pay241 X WG) WU)
    = codes (right (tile X WG WU)) := rfl
theorem codes_left_5 : k0_pay245 X (k0_pay241 X WG) WU
    = codes (left (tile X WG WU)) := rfl
theorem codes_right_4 : k0_pay236 (k0_pay235 (k0_pay226 X WG WU)) (FloatOps.ofBits FTy.f32 3286237184#32) (FloatOps.ofBits FTy.f32 1138753536#32)
    = codes (right (tile X WG WU)) := rfl
theorem codes_left_4 : k0_pay231 (k0_pay229 X WG WU) (FloatOps.ofBits FTy.f32 1138753536#32) k0_pay230
    = codes (left (tile X WG WU)) := rfl
theorem codes_right_3 : k0_pay221 (k0_pay215 (k0_pay210 X WG WU)) (k0_pay217 (k0_pay210 X WG WU)) (k0_pay218 (k0_pay210 X WG WU)) k0_pay219
    = codes (right (tile X WG WU)) := rfl
theorem codes_left_3 : k0_pay213 (k0_pay211 X WG WU) (k0_pay212 X WG WU)
    = codes (left (tile X WG WU)) := rfl
theorem codes_right_2 : k0_pay205 (k0_pay201 (k0_pay194 X WG WU)) (k0_pay202 (k0_pay194 X WG WU)) (k0_pay203 (k0_pay194 X WG WU))
    = codes (right (tile X WG WU)) := rfl
theorem codes_left_2 : k0_pay199 (k0_pay195 X WG WU) (k0_pay196 X WG WU) (k0_pay197 X WG WU) (FloatOps.ofBits FTy.f32 0#32)
    = codes (left (tile X WG WU)) := rfl
theorem codes_right_1 : k0_pay189 (k0_pay184 (k0_pay175 X WG WU)) (k0_pay185 (k0_pay175 X WG WU)) (k0_pay186 (k0_pay175 X WG WU)) (k0_pay187 (k0_pay175 X WG WU)) (FloatOps.ofBits FTy.f32 1073741824#32)
    = codes (right (tile X WG WU)) := rfl
theorem codes_left_1 : k0_pay182 (k0_pay176 X WG WU) (k0_pay177 X WG WU) (k0_pay178 X WG WU) (k0_pay179 X WG WU) k0_pay180
    = codes (left (tile X WG WU)) := rfl
theorem codes_right_0 : k0_pay168 (k0_pay163 (k0_pay156 X WG WU)) (k0_pay164 (k0_pay156 X WG WU)) (k0_pay165 (k0_pay156 X WG WU)) k0_pay166
    = codes (right (tile X WG WU)) := rfl
theorem codes_left_0 : k0_pay161 (k0_pay157 X WG WU) (k0_pay158 X WG WU) (k0_pay159 X WG WU)
    = codes (left (tile X WG WU)) := rfl
theorem scales_right_7 : k0_pay3 (k0_pay277 (k0_pay276 (k0_pay268 X WG WU))) (iota Kind.tc S256x128 32 [1] iota_S256x128_d1_w32) k0_pay280 k0_pay281 (k0_pay282 (k0_pay272 (k0_pay270 X WG WU) (k0_pay271 X WG WU)))
    = rowR (left (tile X WG WU)) (right (tile X WG WU)) := rfl
theorem scales_left_7 : k0_pay2 (k0_pay277 (k0_pay276 (k0_pay268 X WG WU))) (iota Kind.tc S256x128 32 [1] iota_S256x128_d1_w32) k0_pay280 k0_pay281 (k0_pay282 (k0_pay272 (k0_pay270 X WG WU) (k0_pay271 X WG WU)))
    = rowL (left (tile X WG WU)) (right (tile X WG WU)) := rfl
theorem scales_right_6 : k0_pay267 (k0_pay258 (k0_pay257 X WG WU)) (k0_pay262 (k0_pay256 X WG WU))
    = rowR (left (tile X WG WU)) (right (tile X WG WU)) := rfl
theorem scales_left_6 : k0_pay266 (k0_pay258 (k0_pay257 X WG WU)) (k0_pay262 (k0_pay256 X WG WU))
    = rowL (left (tile X WG WU)) (right (tile X WG WU)) := rfl
theorem scales_right_5 : k0_pay255 (k0_pay244 X (k0_pay241 X WG) WU) (k0_pay248 (k0_pay242 X (k0_pay241 X WG) WU))
    = rowR (left (tile X WG WU)) (right (tile X WG WU)) := rfl
theorem scales_left_5 : k0_pay254 (k0_pay244 X (k0_pay241 X WG) WU) (k0_pay248 (k0_pay242 X (k0_pay241 X WG) WU))
    = rowL (left (tile X WG WU)) (right (tile X WG WU)) := rfl
theorem scales_right_4 : k0_pay240 (k0_pay228 X WG WU) (k0_pay234 (k0_pay226 X WG WU))
    = rowR (left (tile X WG WU)) (right (tile X WG WU)) := rfl
theorem scales_left_4 : k0_pay239 (k0_pay228 X WG WU) (k0_pay234 (k0_pay226 X WG WU))
    = rowL (left (tile X WG WU)) (right (tile X WG WU)) := rfl
theorem scales_right_3 : k0_pay225 (k0_pay212 X WG WU) (k0_pay217 (k0_pay210 X WG WU)) (k0_pay218 (k0_pay210 X WG WU)) k0_pay219
    = rowR (left (tile X WG WU)) (right (tile X WG WU)) := rfl
theorem scales_left_3 : k0_pay224 (k0_pay212 X WG WU) (k0_pay217 (k0_pay210 X WG WU)) (k0_pay218 (k0_pay210 X WG WU)) k0_pay219
    = rowL (left (tile X WG WU)) (right (tile X WG WU)) := rfl
theorem scales_right_2 : k0_pay209 (k0_pay198 (k0_pay196 X WG WU) (k0_pay197 X WG WU) (FloatOps.ofBits FTy.f32 0#32)) (k0_pay202 (k0_pay194 X WG WU)) (k0_pay203 (k0_pay194 X WG WU))
    = rowR (left (tile X WG WU)) (right (tile X WG WU)) := rfl
theorem scales_left_2 : k0_pay208 (k0_pay198 (k0_pay196 X WG WU) (k0_pay197 X WG WU) (FloatOps.ofBits FTy.f32 0#32)) (k0_pay202 (k0_pay194 X WG WU)) (k0_pay203 (k0_pay194 X WG WU))
    = rowL (left (tile X WG WU)) (right (tile X WG WU)) := rfl
theorem scales_right_1 : k0_pay193 (k0_pay191 (k0_pay181 (k0_pay177 X WG WU) (k0_pay178 X WG WU) (k0_pay179 X WG WU) k0_pay180) (k0_pay185 (k0_pay175 X WG WU)) (k0_pay186 (k0_pay175 X WG WU)) (k0_pay187 (k0_pay175 X WG WU)) (FloatOps.ofBits FTy.f32 1073741824#32))
    = rowR (left (tile X WG WU)) (right (tile X WG WU)) := rfl
theorem scales_left_1 : k0_pay192 (k0_pay181 (k0_pay177 X WG WU) (k0_pay178 X WG WU) (k0_pay179 X WG WU) k0_pay180) (k0_pay185 (k0_pay175 X WG WU)) (k0_pay186 (k0_pay175 X WG WU)) (k0_pay187 (k0_pay175 X WG WU)) (FloatOps.ofBits FTy.f32 1073741824#32)
    = rowL (left (tile X WG WU)) (right (tile X WG WU)) := rfl
theorem scales_right_0 : k0_pay174 (k0_pay167 (k0_pay164 (k0_pay156 X WG WU)) (k0_pay165 (k0_pay156 X WG WU)) k0_pay166) (iota Kind.tc S256x128 32 [1] iota_S256x128_d1_w32) (k0_pay170 (k0_pay160 (k0_pay158 X WG WU) (k0_pay159 X WG WU))) k0_pay171
    = rowR (left (tile X WG WU)) (right (tile X WG WU)) := rfl
theorem scales_left_0 : k0_pay173 (k0_pay167 (k0_pay164 (k0_pay156 X WG WU)) (k0_pay165 (k0_pay156 X WG WU)) k0_pay166) (iota Kind.tc S256x128 32 [1] iota_S256x128_d1_w32) (k0_pay170 (k0_pay160 (k0_pay158 X WG WU) (k0_pay159 X WG WU))) k0_pay171
    = rowL (left (tile X WG WU)) (right (tile X WG WU)) := rfl
theorem wides_right_7 : k0_pay279 (k0_pay275 (k0_pay268 X WG WU)) (k0_pay276 (k0_pay268 X WG WU))
    = wides (right (tile X WG WU)) := rfl
theorem wides_left_7 : k0_pay274 (k0_pay269 X WG WU) (k0_pay270 X WG WU) (k0_pay271 X WG WU)
    = wides (left (tile X WG WU)) := rfl
theorem wides_right_6 : k0_pay264 (k0_pay256 X WG WU)
    = wides (right (tile X WG WU)) := rfl
theorem wides_left_6 : k0_pay260 (k0_pay257 X WG WU)
    = wides (left (tile X WG WU)) := rfl
theorem wides_right_5 : k0_pay252 (k0_pay250 (k0_pay242 X (k0_pay241 X WG) WU)) (k0_pay251 (k0_pay242 X (k0_pay241 X WG) WU))
    = wides (right (tile X WG WU)) := rfl
theorem wides_left_5 : k0_pay246 X (k0_pay241 X WG) WU
    = wides (left (tile X WG WU)) := rfl
theorem wides_right_4 : k0_pay237 (k0_pay234 (k0_pay226 X WG WU)) (k0_pay235 (k0_pay226 X WG WU)) (FloatOps.ofBits FTy.f32 3286237184#32) (FloatOps.ofBits FTy.f32 1138753536#32)
    = wides (right (tile X WG WU)) := rfl
theorem wides_left_4 : k0_pay232 (k0_pay228 X WG WU) (k0_pay229 X WG WU) (FloatOps.ofBits FTy.f32 1138753536#32) k0_pay230
    = wides (left (tile X WG WU)) := rfl
theorem wides_right_3 : k0_pay222 (k0_pay215 (k0_pay210 X WG WU)) (k0_pay217 (k0_pay210 X WG WU)) (k0_pay218 (k0_pay210 X WG WU)) k0_pay219
    = wides (right (tile X WG WU)) := rfl
theorem wides_left_3 : k0_pay214 (k0_pay211 X WG WU) (k0_pay212 X WG WU)
    = wides (left (tile X WG WU)) := rfl
theorem wides_right_2 : k0_pay206 (k0_pay201 (k0_pay194 X WG WU)) (k0_pay202 (k0_pay194 X WG WU)) (k0_pay203 (k0_pay194 X WG WU))
    = wides (right (tile X WG WU)) := rfl
theorem wides_left_2 : k0_pay200 (k0_pay195 X WG WU) (k0_pay196 X WG WU) (k0_pay197 X WG WU) (FloatOps.ofBits FTy.f32 0#32)
    = wides (left (tile X WG WU)) := rfl
theorem wides_right_1 : k0_pay190 (k0_pay184 (k0_pay175 X WG WU)) (k0_pay185 (k0_pay175 X WG WU)) (k0_pay186 (k0_pay175 X WG WU)) (k0_pay187 (k0_pay175 X WG WU)) (FloatOps.ofBits FTy.f32 1073741824#32)
    = wides (right (tile X WG WU)) := rfl
theorem wides_left_1 : k0_pay183 (k0_pay176 X WG WU) (k0_pay177 X WG WU) (k0_pay178 X WG WU) (k0_pay179 X WG WU) k0_pay180
    = wides (left (tile X WG WU)) := rfl
theorem wides_right_0 : k0_pay169 (k0_pay163 (k0_pay156 X WG WU)) (k0_pay164 (k0_pay156 X WG WU)) (k0_pay165 (k0_pay156 X WG WU)) k0_pay166
    = wides (right (tile X WG WU)) := rfl
theorem wides_left_0 : k0_pay162 (k0_pay157 X WG WU) (k0_pay158 X WG WU) (k0_pay159 X WG WU)
    = wides (left (tile X WG WU)) := rfl

end Cert.UpIdeal.Value

end
-- ==== Proof.UpIdealPoint.lean ====
/- The found stores of a grid point of `up` read as the closed forms of its blocks. -/
module

public import proofs.«01_k».proof.Proof.UpIdealBlocks
public import proofs.«01_k».proof.Proof.UpIdealPays

@[expose] public section

set_option maxRecDepth 16384

noncomputable section

namespace Cert.UpIdeal.Value

open Cert.UpIdeal Cert.UpIdeal.Gen Cert.UpIdeal.Hand Idealize.ShloMosaic Idealize.ShloMosaic.TcCoe Idealize.SL.Sem
open Cert.UpValue

/-- The scales that grid point `i` stores, at rows `2 i` and `2 i + 1` of the scales' array (the other rows are not stored and this says nothing of them). -/
def rowsOf (x0 : Vec Ideal S2048x4096 .bf16) (wg wu : Vec Ideal S4096x256 .bf16) : Vec Ideal S48x2048 .f32 :=
  fun j => scale (group x0 wg wu (j 1) ⟨(j 0).val % 2, Nat.mod_lt _ (by decide)⟩)

/-- A stored piece that holds the part of `W` at row `2 i + q.1` and row block `q.2`. -/
def IsRow (i : grid0.Coords) (W : Vec Ideal S48x2048 .f32) (p : View.Piece (Elt Ideal) S48x2048 .f32) (q : ℕ × ℕ) : Prop :=
  (∀ x : p.1.shape.Idx, p.2 x = W (p.1.emb x)) ∧ ∀ y : S48x2048.Idx, y ∈ p.1.set ↔ (y 0).val = 2 * (i 0).val + q.1 ∧ (y 1).val / 256 = q.2

theorem row_set (i : grid0.Coords) (n a b : ℕ) (hb : b = 256 * a) (off : Fin 2 → ℕ) (hoff : off = ![2 * (i 0).val + n, b]) (inb) (y : S48x2048.Idx) :
    y ∈ (Rect.unit (s := S48x2048) off ![1, 256] inb).set ↔ (y 0).val = 2 * (i 0).val + n ∧ (y 1).val / 256 = a := by
  subst hoff
  rw [Rect.mem_set_unit]
  constructor
  · intro h
    have h0 := h 0; have h1 := h 1
    simp at h0 h1
    omega
  · intro h k
    match k with
    | ⟨0, _⟩ => simp; omega
    | ⟨1, _⟩ => simp; omega

section rows

variable (i : grid0.Coords) (x0 : Vec Ideal S2048x4096 .bf16) (wg wu : Vec Ideal S4096x256 .bf16) (a b : ℕ) (hb : b = 256 * a) (ha : b + 256 ≤ 2048) (off : Fin 2 → ℕ)

theorem emb_row (n : ℕ) (hoff : off = ![2 * (i 0).val + n, b]) (inb2) (z : Fin 1) (r : Fin 256) : (Rect.unit (s := S48x2048) off ![1, 256] inb2).emb (ix2 z r)
    = ix2 ⟨2 * (i 0).val + n, by subst hoff; have := inb2 0; simp at this; omega⟩ ⟨b + r.val, by omega⟩ := by
  subst hoff
  blk_ext

include hb ha in
theorem row_left (hoff : off = ![2 * (i 0).val + 0, b]) (inb) (inb') (inb2) (P : FVec Ideal S1x256 .f32) (hP : P = rowL (left (rowBlock x0 wg wu b inb inb')) (right (rowBlock x0 wg wu b inb inb'))) :
    IsRow i (rowsOf x0 wg wu) ⟨Rect.unit (s := S48x2048) off ![1, 256] inb2, P⟩ (0, a) := by
  refine ⟨fun x => ?_, row_set i 0 a b hb off hoff inb2⟩
  obtain ⟨z, r, rfl⟩ : ∃ (z : Fin 1) (r : Fin 256), x = ix2 z r := ⟨x 0, x 1, (ix2_eta x).symm⟩
  rw [emb_row i a b hb ha off 0 hoff inb2 z r]
  dsimp only
  rw [hP, scales_left x0 wg wu b ha]
  show scale (group x0 wg wu _ _) = scale (group x0 wg wu _ _)
  congr 2
  exact Fin.ext (by simp)
include hb ha in
theorem row_right (hoff : off = ![2 * (i 0).val + 1, b]) (inb) (inb') (inb2) (P : FVec Ideal S1x256 .f32) (hP : P = rowR (left (rowBlock x0 wg wu b inb inb')) (right (rowBlock x0 wg wu b inb inb'))) :
    IsRow i (rowsOf x0 wg wu) ⟨Rect.unit (s := S48x2048) off ![1, 256] inb2, P⟩ (1, a) := by
  refine ⟨fun x => ?_, row_set i 1 a b hb off hoff inb2⟩
  obtain ⟨z, r, rfl⟩ : ∃ (z : Fin 1) (r : Fin 256), x = ix2 z r := ⟨x 0, x 1, (ix2_eta x).symm⟩
  rw [emb_row i a b hb ha off 1 hoff inb2 z r]
  dsimp only
  rw [hP, scales_right x0 wg wu b ha]
  show scale (group x0 wg wu _ _) = scale (group x0 wg wu _ _)
  congr 2
  exact Fin.ext (by simp)

end rows

/-- The sixteen rows of scales, the last stored first. -/
abbrev rowKeys : List (ℕ × ℕ) := [(1, 7), (0, 7), (1, 6), (0, 6), (1, 5), (0, 5), (1, 4), (0, 4), (1, 3), (0, 3), (1, 2), (0, 2), (1, 1), (0, 1), (1, 0), (0, 0)]

set_option maxHeartbeats 4000000 in
/-- The pieces that a run stores are the parts of the closed forms at their places. -/
theorem pieces (c : Dev nD) (i : grid0.Coords) (arg1 : Memref sig .tc .vmem S2048x4096 .bf16) (harg1 : arg1.IsWhole) (arg2 : Memref sig .tc .vmem S4096x256 .fp8e4m3) (harg2 : arg2.IsWhole) (arg3 : Memref sig .tc .vmem S4096x256 .fp8e4m3) (harg3 : arg3.IsWhole) (arg4 : Memref sig .tc .smem S32x96 .f32) (harg4 : arg4.IsWhole) (arg5 : Memref sig .tc .vmem S2048x256 .fp8e4m3) (harg5 : arg5.IsWhole) (arg6 : Memref sig .tc .vmem S48x2048 .f32) (harg6 : arg6.IsWhole) (arg7 : Memref sig .tc .vmem S2048x256 .bf16) (harg7 : arg7.IsWhole) (x0 : Vec Ideal S2048x4096 .bf16) (x1 : Vec Ideal S4096x256 .fp8e4m3) (x2 : Vec Ideal S4096x256 .fp8e4m3) (x3 : Vec Ideal S32x96 .f32) :
    View.PiecesOf (codesOf x0 (wide 0 (by omega) i x1 x3) (wide 48 (by omega) i x2 x3)) (run (F := Ideal) c i arg1 harg1 arg2 harg2 arg3 harg3 arg4 harg4 arg5 harg5 arg6 harg6 arg7 harg7 sc0 (Memref.isWhole_whole _) sc1 (Memref.isWhole_whole _) x0 x1 x2 x3).1
    ∧ List.Forall₂ (IsRow i (rowsOf x0 (wide 0 (by omega) i x1 x3) (wide 48 (by omega) i x2 x3))) (run (F := Ideal) c i arg1 harg1 arg2 harg2 arg3 harg3 arg4 harg4 arg5 harg5 arg6 harg6 arg7 harg7 sc0 (Memref.isWhole_whole _) sc1 (Memref.isWhole_whole _) x0 x1 x2 x3).2.1 rowKeys
    ∧ View.PiecesOf (widesOf x0 (wide 0 (by omega) i x1 x3) (wide 48 (by omega) i x2 x3)) (run (F := Ideal) c i arg1 harg1 arg2 harg2 arg3 harg3 arg4 harg4 arg5 harg5 arg6 harg6 arg7 harg7 sc0 (Memref.isWhole_whole _) sc1 (Memref.isWhole_whole _) x0 x1 x2 x3).2.2.1 := by
  unfold run
  dsimp only
  frame_out
  rw [readCov_wide (View.whole cc0_scratch0) (wide 0 (by omega) i x1 x3)]
  rotate_left
  · repeat' first
      | exact trivial
      | refine ⟨fun x => block_piece 0 (by omega) i x1 x3 _ _ rfl rfl _ _ _ _ ((inferInstance : ClosedOff _).eq.trans rfl) x, ?_⟩
  · intro y
    refine View.cover_of_tiledL (s := S4096x256) _ S128x128.size ?_ y
    sl_kernel_rfl
  rw [readCov_wide (View.whole cc0_scratch1) (wide 48 (by omega) i x2 x3)]
  rotate_left
  · repeat' first
      | exact trivial
      | refine ⟨fun x => block_piece 48 (by omega) i x2 x3 _ _ rfl rfl _ _ _ _ ((inferInstance : ClosedOff _).eq.trans rfl) x, ?_⟩
  · intro y
    refine View.cover_of_tiledL (s := S4096x256) _ S128x128.size ?_ y
    sl_kernel_rfl
  generalize wide 0 (by omega) i x1 x3 = wg
  generalize wide 48 (by omega) i x2 x3 = wu
  refine ⟨?_, ?_, ?_⟩
  · refine ⟨fun x => (congrFun (codes_right_7 _ _ _) x).trans (codes_right x0 wg wu 1792 (by omega) _ _ inb_S2048x256_S256x128_1792_128 x), ?_⟩
    refine ⟨fun x => (congrFun (codes_left_7 _ _ _) x).trans (codes_left x0 wg wu 1792 (by omega) _ _ inb_S2048x256_S256x128_1792_0 x), ?_⟩
    refine ⟨fun x => (congrFun (codes_right_6 _ _ _) x).trans (codes_right x0 wg wu 1536 (by omega) _ _ inb_S2048x256_S256x128_1536_128 x), ?_⟩
    refine ⟨fun x => (congrFun (codes_left_6 _ _ _) x).trans (codes_left x0 wg wu 1536 (by omega) _ _ inb_S2048x256_S256x128_1536_0 x), ?_⟩
    refine ⟨fun x => (congrFun (codes_right_5 _ _ _) x).trans (codes_right x0 wg wu 1280 (by omega) _ _ inb_S2048x256_S256x128_1280_128 x), ?_⟩
    refine ⟨fun x => (congrFun (codes_left_5 _ _ _) x).trans (codes_left x0 wg wu 1280 (by omega) _ _ inb_S2048x256_S256x128_1280_0 x), ?_⟩
    refine ⟨fun x => (congrFun (codes_right_4 _ _ _) x).trans (codes_right x0 wg wu 1024 (by omega) _ _ inb_S2048x256_S256x128_1024_128 x), ?_⟩
    refine ⟨fun x => (congrFun (codes_left_4 _ _ _) x).trans (codes_left x0 wg wu 1024 (by omega) _ _ inb_S2048x256_S256x128_1024_0 x), ?_⟩
    refine ⟨fun x => (congrFun (codes_right_3 _ _ _) x).trans (codes_right x0 wg wu 768 (by omega) _ _ inb_S2048x256_S256x128_768_128 x), ?_⟩
    refine ⟨fun x => (congrFun (codes_left_3 _ _ _) x).trans (codes_left x0 wg wu 768 (by omega) _ _ inb_S2048x256_S256x128_768_0 x), ?_⟩
    refine ⟨fun x => (congrFun (codes_right_2 _ _ _) x).trans (codes_right x0 wg wu 512 (by omega) _ _ inb_S2048x256_S256x128_512_128 x), ?_⟩
    refine ⟨fun x => (congrFun (codes_left_2 _ _ _) x).trans (codes_left x0 wg wu 512 (by omega) _ _ inb_S2048x256_S256x128_512_0 x), ?_⟩
    refine ⟨fun x => (congrFun (codes_right_1 _ _ _) x).trans (codes_right x0 wg wu 256 (by omega) _ _ inb_S2048x256_S256x128_256_128 x), ?_⟩
    refine ⟨fun x => (congrFun (codes_left_1 _ _ _) x).trans (codes_left x0 wg wu 256 (by omega) _ _ inb_S2048x256_S256x128_256_0 x), ?_⟩
    refine ⟨fun x => (congrFun (codes_right_0 _ _ _) x).trans (codes_right x0 wg wu 0 (by omega) _ _ inb_S2048x256_S256x128_0_128 x), ?_⟩
    refine ⟨fun x => (congrFun (codes_left_0 _ _ _) x).trans (codes_left x0 wg wu 0 (by omega) _ _ inb_S2048x256_S256x128_0_0 x), ?_⟩
    exact trivial
  · refine .cons (row_right i x0 wg wu 7 1792 rfl (by omega) _ (ClosedOff.eq (off := k0_off72 i (BitVec.ofNat 32 1))) _ _ _ _ (scales_right_7 _ _ _)) ?_
    refine .cons (row_left i x0 wg wu 7 1792 rfl (by omega) _ (ClosedOff.eq (off := k0_off72 i (BitVec.ofNat 32 0))) _ _ _ _ (scales_left_7 _ _ _)) ?_
    refine .cons (row_right i x0 wg wu 6 1536 rfl (by omega) _ (ClosedOff.eq (off := k0_off71 i (BitVec.ofNat 32 1))) _ _ _ _ (scales_right_6 _ _ _)) ?_
    refine .cons (row_left i x0 wg wu 6 1536 rfl (by omega) _ (ClosedOff.eq (off := k0_off71 i (BitVec.ofNat 32 0))) _ _ _ _ (scales_left_6 _ _ _)) ?_
    refine .cons (row_right i x0 wg wu 5 1280 rfl (by omega) _ (ClosedOff.eq (off := k0_off70 i (BitVec.ofNat 32 1))) _ _ _ _ (scales_right_5 _ _ _)) ?_
    refine .cons (row_left i x0 wg wu 5 1280 rfl (by omega) _ (ClosedOff.eq (off := k0_off70 i (BitVec.ofNat 32 0))) _ _ _ _ (scales_left_5 _ _ _)) ?_
    refine .cons (row_right i x0 wg wu 4 1024 rfl (by omega) _ (ClosedOff.eq (off := k0_off69 i (BitVec.ofNat 32 1))) _ _ _ _ (scales_right_4 _ _ _)) ?_
    refine .cons (row_left i x0 wg wu 4 1024 rfl (by omega) _ (ClosedOff.eq (off := k0_off69 i (BitVec.ofNat 32 0))) _ _ _ _ (scales_left_4 _ _ _)) ?_
    refine .cons (row_right i x0 wg wu 3 768 rfl (by omega) _ (ClosedOff.eq (off := k0_off68 i (BitVec.ofNat 32 1))) _ _ _ _ (scales_right_3 _ _ _)) ?_
    refine .cons (row_left i x0 wg wu 3 768 rfl (by omega) _ (ClosedOff.eq (off := k0_off68 i (BitVec.ofNat 32 0))) _ _ _ _ (scales_left_3 _ _ _)) ?_
    refine .cons (row_right i x0 wg wu 2 512 rfl (by omega) _ (ClosedOff.eq (off := k0_off67 i (BitVec.ofNat 32 1))) _ _ _ _ (scales_right_2 _ _ _)) ?_
    refine .cons (row_left i x0 wg wu 2 512 rfl (by omega) _ (ClosedOff.eq (off := k0_off67 i (BitVec.ofNat 32 0))) _ _ _ _ (scales_left_2 _ _ _)) ?_
    refine .cons (row_right i x0 wg wu 1 256 rfl (by omega) _ (ClosedOff.eq (off := k0_off66 i (BitVec.ofNat 32 1))) _ _ _ _ (scales_right_1 _ _ _)) ?_
    refine .cons (row_left i x0 wg wu 1 256 rfl (by omega) _ (ClosedOff.eq (off := k0_off66 i (BitVec.ofNat 32 0))) _ _ _ _ (scales_left_1 _ _ _)) ?_
    refine .cons (row_right i x0 wg wu 0 0 rfl (by omega) _ (ClosedOff.eq (off := k0_off65 i (BitVec.ofNat 32 1))) _ _ _ _ (scales_right_0 _ _ _)) ?_
    refine .cons (row_left i x0 wg wu 0 0 rfl (by omega) _ (ClosedOff.eq (off := k0_off65 i (BitVec.ofNat 32 0))) _ _ _ _ (scales_left_0 _ _ _)) ?_
    exact .nil
  · refine ⟨fun x => (congrFun (wides_right_7 _ _ _) x).trans (wides_right x0 wg wu 1792 (by omega) _ _ inb_S2048x256_S256x128_1792_128 x), ?_⟩
    refine ⟨fun x => (congrFun (wides_left_7 _ _ _) x).trans (wides_left x0 wg wu 1792 (by omega) _ _ inb_S2048x256_S256x128_1792_0 x), ?_⟩
    refine ⟨fun x => (congrFun (wides_right_6 _ _ _) x).trans (wides_right x0 wg wu 1536 (by omega) _ _ inb_S2048x256_S256x128_1536_128 x), ?_⟩
    refine ⟨fun x => (congrFun (wides_left_6 _ _ _) x).trans (wides_left x0 wg wu 1536 (by omega) _ _ inb_S2048x256_S256x128_1536_0 x), ?_⟩
    refine ⟨fun x => (congrFun (wides_right_5 _ _ _) x).trans (wides_right x0 wg wu 1280 (by omega) _ _ inb_S2048x256_S256x128_1280_128 x), ?_⟩
    refine ⟨fun x => (congrFun (wides_left_5 _ _ _) x).trans (wides_left x0 wg wu 1280 (by omega) _ _ inb_S2048x256_S256x128_1280_0 x), ?_⟩
    refine ⟨fun x => (congrFun (wides_right_4 _ _ _) x).trans (wides_right x0 wg wu 1024 (by omega) _ _ inb_S2048x256_S256x128_1024_128 x), ?_⟩
    refine ⟨fun x => (congrFun (wides_left_4 _ _ _) x).trans (wides_left x0 wg wu 1024 (by omega) _ _ inb_S2048x256_S256x128_1024_0 x), ?_⟩
    refine ⟨fun x => (congrFun (wides_right_3 _ _ _) x).trans (wides_right x0 wg wu 768 (by omega) _ _ inb_S2048x256_S256x128_768_128 x), ?_⟩
    refine ⟨fun x => (congrFun (wides_left_3 _ _ _) x).trans (wides_left x0 wg wu 768 (by omega) _ _ inb_S2048x256_S256x128_768_0 x), ?_⟩
    refine ⟨fun x => (congrFun (wides_right_2 _ _ _) x).trans (wides_right x0 wg wu 512 (by omega) _ _ inb_S2048x256_S256x128_512_128 x), ?_⟩
    refine ⟨fun x => (congrFun (wides_left_2 _ _ _) x).trans (wides_left x0 wg wu 512 (by omega) _ _ inb_S2048x256_S256x128_512_0 x), ?_⟩
    refine ⟨fun x => (congrFun (wides_right_1 _ _ _) x).trans (wides_right x0 wg wu 256 (by omega) _ _ inb_S2048x256_S256x128_256_128 x), ?_⟩
    refine ⟨fun x => (congrFun (wides_left_1 _ _ _) x).trans (wides_left x0 wg wu 256 (by omega) _ _ inb_S2048x256_S256x128_256_0 x), ?_⟩
    refine ⟨fun x => (congrFun (wides_right_0 _ _ _) x).trans (wides_right x0 wg wu 0 (by omega) _ _ inb_S2048x256_S256x128_0_128 x), ?_⟩
    refine ⟨fun x => (congrFun (wides_left_0 _ _ _) x).trans (wides_left x0 wg wu 0 (by omega) _ _ inb_S2048x256_S256x128_0_0 x), ?_⟩
    exact trivial

end Cert.UpIdeal.Value

end
-- ==== Proof.UpClosed.lean ====
/- The results of `up` as functions of the argument arrays, index by index: the codes, the scales and their product, of the gated product quantised in groups of 128 columns. -/
module

public import proofs.«01_k».proof.Proof.UpIdealTile

@[expose] public section

noncomputable section

namespace Cert.UpValue

open Cert.UpIdeal Idealize.ShloMosaic Idealize.ShloMosaic.TcCoe

variable (a0 : Vec Ideal S2048x4096 .bf16) (a1 : Vec Ideal S4096x12288 .fp8e4m3) (a2 : Vec Ideal S32x96 .f32)

/-- A row of the activations times a column of the widened weights. -/
def product (r : Fin 2048) (c : Fin 12288) : EReal :=
  ∑ k : Fin 4096, a0 (ix2 r k) * (a1 (ix2 k c) * a2 (ix2 ⟨k.val / 128, by omega⟩ ⟨c.val / 128, by omega⟩))

/-- The gated product at row `r` and column `c`: the gate's column is `c`, the other factor's `6144 + c`. -/
def act (r : Fin 2048) (c : Fin 6144) : EReal :=
  gated (product a0 a1 a2 r ⟨c.val, by omega⟩) (product a0 a1 a2 r ⟨6144 + c.val, by omega⟩)

/-- Group `n` of row `r`. -/
def grp (r : Fin 2048) (n : Fin 48) (x : Fin 128) : EReal := act a0 a1 a2 r ⟨128 * n.val + x.val, by omega⟩

/-- The codes, -/
def resCodes : Vec Ideal S2048x6144 .fp8e4m3 :=
  fun j => code (grp a0 a1 a2 (j 0) ⟨(j 1).val / 128, by have : (j 1).val < 6144 := (j 1).isLt; omega⟩) (act a0 a1 a2 (j 0) (j 1))

/-- the scales, -/
def resScales : Vec Ideal S48x2048 .f32 := fun j => scale (grp a0 a1 a2 (j 1) (j 0))

/-- and the codes times their scales. -/
def resWide : Vec Ideal S2048x6144 .bf16 :=
  fun j => resCodes a0 a1 a2 j * scale (grp a0 a1 a2 (j 0) ⟨(j 1).val / 128, by have : (j 1).val < 6144 := (j 1).isLt; omega⟩)

end Cert.UpValue

end
-- ==== Proof.UpIdealValue.lean ====
/- The kernel `up` leaves the closed forms: the points' blocks as parts of them, the rows of scales put together over the grid, and the run read. -/
module

public import proofs.«01_k».proof.Proof.UpIdealPoint
public import proofs.«01_k».proof.Proof.UpClosed
public import Idealize.ShloMosaic.Lib.Pipeline.ArrRel
public import Idealize.ShloMosaic.Lib.Pipeline.ValueKit

@[expose] public section

set_option maxRecDepth 16384

noncomputable section

namespace Cert.UpIdeal.Value

open Cert.UpIdeal Cert.UpIdeal.Gen Cert.UpIdeal.Hand Idealize.ShloMosaic Idealize.ShloMosaic.TcCoe Idealize.SL.Sem
open Cert.UpValue
open Idealize.ShloMosaic.Pipeline (Dat)

/-! ## Rows laid over other contents -/

theorem over_hit (i : grid0.Coords) (W Y : Vec Ideal S48x2048 .f32) (y : S48x2048.Idx) : ∀ (L : List (View.Piece (Elt Ideal) S48x2048 .f32)) (K : List (ℕ × ℕ)),
    List.Forall₂ (IsRow i W) L K → (∃ q ∈ K, (y 0).val = 2 * (i 0).val + q.1 ∧ (y 1).val / 256 = q.2) → View.over L Y y = W y
  | _, _, .nil, ⟨_, hq, _⟩ => absurd hq List.not_mem_nil
  | p :: L, q :: K, .cons hp hL, ⟨q', hq', h'⟩ => by
    show p.1.overlay (View.over L Y) p.2 y = W y
    by_cases hy : y ∈ p.1.set
    · obtain ⟨x, rfl⟩ : ∃ x, p.1.emb x = y := p.1.exists_idx_of_mem hy
      rw [p.1.overlay_emb]
      exact hp.1 x
    · rw [p.1.overlay_of_not_mem _ _ hy]
      refine over_hit i W Y y L K hL ⟨q', ?_, h'⟩
      rcases List.mem_cons.mp hq' with rfl | h
      · exact absurd ((hp.2 y).mpr h') hy
      · exact h

theorem over_miss (i : grid0.Coords) (W Y : Vec Ideal S48x2048 .f32) (y : S48x2048.Idx) : ∀ (L : List (View.Piece (Elt Ideal) S48x2048 .f32)) (K : List (ℕ × ℕ)),
    List.Forall₂ (IsRow i W) L K → (∀ q ∈ K, ¬((y 0).val = 2 * (i 0).val + q.1 ∧ (y 1).val / 256 = q.2)) → View.over L Y y = Y y
  | _, _, .nil, _ => rfl
  | p :: L, q :: K, .cons hp hL, h => by
    show p.1.overlay (View.over L Y) p.2 y = Y y
    have hy : y ∉ p.1.set := fun hy => h q List.mem_cons_self ((hp.2 y).mp hy)
    rw [p.1.overlay_of_not_mem _ _ hy]
    exact over_miss i W Y y L K hL fun q' hq' => h q' (List.mem_cons_of_mem _ hq')

theorem rowKeys_mem : ∀ (a : Fin 2) (b : Fin 8), (a.val, b.val) ∈ rowKeys := by decide
theorem rowKeys_lt : ∀ q ∈ rowKeys, q.1 < 2 := by decide

/-! ## A grid point -/

variable (m : (ℓ : Loc nD τ sig) → Buf (Elt Ideal) ℓ) (ρ : Dev nD → PrngReg)

/-- The argument arrays. -/
abbrev arr0 (c : Dev nD) : Vec Ideal S2048x4096 .bf16 := V m c (Pipeline.arrRef spec0 0)
abbrev arr1 (c : Dev nD) : Vec Ideal S4096x12288 .fp8e4m3 := V m c (Pipeline.arrRef spec0 1)
abbrev arr2 (c : Dev nD) : Vec Ideal S32x96 .f32 := V m c (Pipeline.arrRef spec0 3)

/-- The two widened weight tiles of a grid point. -/
abbrev gates (c : Dev nD) (t : Fin cfg0.N) : Vec Ideal S4096x256 .bf16 := wide 0 (by omega) (grid0.coords t) (iblk m c 1 t) (iblk m c 3 t)
abbrev ups (c : Dev nD) (t : Fin cfg0.N) : Vec Ideal S4096x256 .bf16 := wide 48 (by omega) (grid0.coords t) (iblk m c 2 t) (iblk m c 3 t)

theorem codesAt_eq (c : Dev nD) (t : Fin cfg0.N) : codesAt m c t = codesOf (iblk m c 0 t) (gates m c t) (ups m c t) :=
  canon_of_piecesOf _ _ (pieces c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t)).1
    (cover4 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) (iblk m c 0 t) (iblk m c 1 t) (iblk m c 2 t) (iblk m c 3 t))

theorem wideAt_eq (c : Dev nD) (t : Fin cfg0.N) : wideAt m c t = widesOf (iblk m c 0 t) (gates m c t) (ups m c t) :=
  canon_of_piecesOf _ _ (pieces c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t)).2.2
    (cover6 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) (iblk m c 0 t) (iblk m c 1 t) (iblk m c 2 t) (iblk m c 3 t))

theorem scalesAt_rows (c : Dev nD) (t : Fin cfg0.N) : List.Forall₂ (IsRow (grid0.coords t) (rowsOf (iblk m c 0 t) (gates m c t) (ups m c t))) (scalesAt m c t) rowKeys :=
  (pieces c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t)).2.1

/-! Which block of each array a grid point takes. -/

theorem index0 : ∀ t : Fin cfg0.N, win0_0.index t = ![0, 0] := (by decide +kernel : ∀ t : Fin grid0.N, win0_0.index t = ![0, 0])
theorem index1 : ∀ t : Fin cfg0.N, win0_1.index t = ![0, (grid0.coords t 0).val] := (by decide +kernel : ∀ t : Fin grid0.N, win0_1.index t = ![0, (grid0.coords t 0).val])
theorem index2 : ∀ t : Fin cfg0.N, win0_2.index t = ![0, 24 + (grid0.coords t 0).val] := (by decide +kernel : ∀ t : Fin grid0.N, win0_2.index t = ![0, 24 + (grid0.coords t 0).val])
theorem index3 : ∀ t : Fin cfg0.N, win0_3.index t = ![0, 0] := (by decide +kernel : ∀ t : Fin grid0.N, win0_3.index t = ![0, 0])
theorem index4 : ∀ t : Fin cfg0.N, win0_4.index t = ![0, (grid0.coords t 0).val] := (by decide +kernel : ∀ t : Fin grid0.N, win0_4.index t = ![0, (grid0.coords t 0).val])
theorem index6 : ∀ t : Fin cfg0.N, win0_6.index t = ![0, (grid0.coords t 0).val] := (by decide +kernel : ∀ t : Fin grid0.N, win0_6.index t = ![0, (grid0.coords t 0).val])
theorem coords_val : ∀ t : Fin cfg0.N, (grid0.coords t 0).val = t.val := (by decide +kernel : ∀ t : Fin grid0.N, (grid0.coords t 0).val = t.val)

theorem act_eq (c : Dev nD) (t : Fin cfg0.N) (r : Fin 2048) (y : Fin 256) (z : Fin 6144) (hz : z.val = 256 * (grid0.coords t 0).val + y.val) :
    act (iblk m c 0 t) (gates m c t) (ups m c t) r y = UpValue.act (arr0 m c) (arr1 m c) (arr2 m c) r z := by
  have h0 : (grid0.coords t 0).val < 24 := (grid0.coords t 0).isLt
  have hy := y.isLt
  unfold act UpValue.act product gates ups wide
  congr 1
  · refine Finset.sum_congr rfl fun k _ => ?_
    congr 1
    · blk_ext [iblk, index0 t]
    · congr 1
      · blk_ext [iblk, index1 t]
      · blk_ext [iblk, index3 t]
  · refine Finset.sum_congr rfl fun k _ => ?_
    congr 1
    · blk_ext [iblk, index0 t]
    · congr 1
      · blk_ext [iblk, index2 t]
      · blk_ext [iblk, index3 t]

theorem group_eq (c : Dev nD) (t : Fin cfg0.N) (r : Fin 2048) (n : Fin 2) (z : Fin 48) (hz : z.val = 2 * (grid0.coords t 0).val + n.val) :
    group (iblk m c 0 t) (gates m c t) (ups m c t) r n = grp (arr0 m c) (arr1 m c) (arr2 m c) r z := by
  funext x
  exact act_eq m c t r _ _ (by simp only; omega)

theorem codesOf_eq (c : Dev nD) (t : Fin cfg0.N) (r : Fin 2048) (y : Fin 256) (z : Fin 6144) (hz : z.val = 256 * (grid0.coords t 0).val + y.val) :
    codesOf (iblk m c 0 t) (gates m c t) (ups m c t) (ix2 r y) = resCodes (arr0 m c) (arr1 m c) (arr2 m c) (ix2 r z) := by
  have hy := y.isLt
  show code (group _ _ _ r ⟨y.val / 128, _⟩) (act _ _ _ r y) = code (grp _ _ _ r ⟨z.val / 128, _⟩) (UpValue.act _ _ _ r z)
  rw [act_eq m c t r y z hz, group_eq m c t r _ ⟨z.val / 128, by omega⟩ (by simp only; omega)]

theorem widesOf_eq (c : Dev nD) (t : Fin cfg0.N) (r : Fin 2048) (y : Fin 256) (z : Fin 6144) (hz : z.val = 256 * (grid0.coords t 0).val + y.val) :
    widesOf (iblk m c 0 t) (gates m c t) (ups m c t) (ix2 r y) = resWide (arr0 m c) (arr1 m c) (arr2 m c) (ix2 r z) := by
  have hy := y.isLt
  show codesOf _ _ _ (ix2 r y) * scale (group _ _ _ r ⟨y.val / 128, _⟩) = resCodes _ _ _ (ix2 r z) * scale (grp _ _ _ r ⟨z.val / 128, _⟩)
  rw [codesOf_eq m c t r y z hz, group_eq m c t r _ ⟨z.val / 128, by omega⟩ (by simp only; omega)]

/-- A stored row of scales is a row of the closed form. -/
theorem rowsOf_eq (c : Dev nD) (t : Fin cfg0.N) (y : S48x2048.Idx) (hy : (y 0).val / 2 = (grid0.coords t 0).val) :
    rowsOf (iblk m c 0 t) (gates m c t) (ups m c t) y = resScales (arr0 m c) (arr1 m c) (arr2 m c) y := by
  show scale (group _ _ _ (y 1) ⟨(y 0).val % 2, _⟩) = scale (grp _ _ _ (y 1) (y 0))
  rw [group_eq m c t (y 1) _ (y 0) (by simp only; omega)]

/-! ## The arrays after the run -/

/-- The codes' array. -/
theorem arrAt4_eq (c : Dev nD) : (dats m 0 c).arrAt 4 cfg0.N = resCodes (arr0 m c) (arr1 m c) (arr2 m c) := by
  refine (dats m 0 c).arrAt_eq_of_covers 4 _ (by decide +kernel) fun t hf y => ?_
  blk_simp
  rw [after4, codesAt_eq]
  have h0 : (grid0.coords t 0).val < 24 := (grid0.coords t 0).isLt
  obtain ⟨r, y, rfl⟩ : ∃ (r : Fin 2048) (z : Fin 256), y = ix2 r z := ⟨y 0, y 1, (ix2_eta y).symm⟩
  refine (codesOf_eq m c t r y ⟨256 * (grid0.coords t 0).val + y.val, by omega⟩ rfl).trans (congrArg (resCodes _ _ _) ?_)
  blk_ext [index4 t]

/-- The widened activations' array. -/
theorem arrAt6_eq (c : Dev nD) : (dats m 0 c).arrAt 6 cfg0.N = resWide (arr0 m c) (arr1 m c) (arr2 m c) := by
  refine (dats m 0 c).arrAt_eq_of_covers 6 _ (by decide +kernel) fun t hf y => ?_
  blk_simp
  rw [after6, wideAt_eq]
  have h0 : (grid0.coords t 0).val < 24 := (grid0.coords t 0).isLt
  obtain ⟨r, y, rfl⟩ : ∃ (r : Fin 2048) (z : Fin 256), y = ix2 r z := ⟨y 0, y 1, (ix2_eta y).symm⟩
  refine (widesOf_eq m c t r y ⟨256 * (grid0.coords t 0).val + y.val, by omega⟩ rfl).trans (congrArg (resWide _ _ _) ?_)
  blk_ext [index6 t]

/-- A chain of partial stores over the whole grid ends at the closed form of the scales, whatever it starts from. -/
theorem held_eq (c : Dev nD) (X : Vec Ideal S48x2048 .f32) (h : Held m c 24 X) : X = resScales (arr0 m c) (arr1 m c) (arr2 m c) := by
  obtain ⟨Z, rfl, hZ⟩ := h
  have key : ∀ k : ℕ, k ≤ 24 → ∀ y : S48x2048.Idx, (y 0).val < 2 * k → Z k y = resScales (arr0 m c) (arr1 m c) (arr2 m c) y := by
    intro k
    induction k with
    | zero => intro _ y hy; omega
    | succ k ih =>
      intro hk y hy
      have hkN : k < cfg0.N := lt_of_lt_of_eq (by omega) N_0.symm
      have e := hZ ⟨k, hkN⟩ (by simp only; omega)
      simp only at e
      have hc := coords_val ⟨k, hkN⟩
      simp only at hc
      have h1 : (y 1).val < 2048 := (y 1).isLt
      rw [e]
      by_cases hyk : (y 0).val / 2 = k
      · rw [over_hit (grid0.coords ⟨k, hkN⟩) _ _ y _ _ (scalesAt_rows m c ⟨k, hkN⟩)
          ⟨_, rowKeys_mem ⟨(y 0).val % 2, by omega⟩ ⟨(y 1).val / 256, by omega⟩, by simp only; omega, rfl⟩]
        exact rowsOf_eq m c ⟨k, hkN⟩ y (hyk.trans hc.symm)
      · rw [over_miss (grid0.coords ⟨k, hkN⟩) _ _ y _ _ (scalesAt_rows m c ⟨k, hkN⟩) fun q hq hh => by
          have := rowKeys_lt q hq
          omega]
        exact ih (by omega) y (by omega)
  funext y
  exact key 24 (by omega) y (by have : (y 0).val < 48 := (y 0).isLt; omega)

/-! ## The run, read -/

/-- An array whose window is not held to a predicate ends at what the exact data say. -/
theorem arr_exact (c : Dev nD) (w : Fin cfg0.W) (hf : fgt w = false) (r) (h : Pipeline.RDat.FramePost cfg0 (rdat m) (V m) r) :
    r.2.mem ((cfg0.spec w).arr.view.loc (c.tc : Thread nD τ)) = (dats m 0 c).arrAt w cfg0.N :=
  (((dats m 0 c).toR.override_arrAt (by simp only [hf]) _ _).trans ((dats m 0 c).toR_arrAt_iff w _ _)).mp ((h c).1 w)

/-- An array written back whole, once, holds what the body left there. -/
theorem arr_marked (c : Dev nD) (w : Fin cfg0.W) (hf : fgt w = true) (t : Fin cfg0.N) (hW : (cfg0.win w).WholeAt t) (r) (h : Pipeline.RDat.FramePost cfg0 (rdat m) (V m) r) :
    ∃ X, Rl m c w t X ∧ ∀ j : (cfg0.win w).shape.Idx,
      r.2.mem ((cfg0.spec w).arr.view.loc (c.tc : Thread nD τ)) ((cfg0.win w).arr.view.emb j)
        = _root_.cast (congrArg (Elt Ideal) (cfg0.win w).arr.view.elt_eq.symm) (X fun a => ⟨j a, hW.lt_size j a⟩) := by
  obtain ⟨X, hX, hj⟩ := ((h c).1 w).emb_eq_of_wholeAt hW
  exact ⟨X, (dats m 0 c).toRRel_leaves hf hX, hj⟩

theorem whole5 : ∀ t : Fin cfg0.N, t.val = 23 → (cfg0.win 5).WholeAt t := (by decide +kernel : ∀ t : Fin grid0.N, t.val = 23 → win0_5.WholeAt t)

theorem arr5_eq (c : Dev nD) (r) (h : Pipeline.RDat.FramePost cfg0 (rdat m) (V m) r) :
    r.2.mem ((c : Thread nD τ).loc main_v0_1) = resScales (arr0 m c) (arr1 m c) (arr2 m c) := by
  have hN : (23 : ℕ) < cfg0.N := lt_of_lt_of_eq (by decide) N_0.symm
  obtain ⟨X, hX, hj⟩ := arr_marked m c 5 rfl ⟨23, hN⟩ (whole5 _ rfl) r h
  have e := held_eq m c X hX
  subst e
  funext y
  exact hj y

/-- The run: each result array at its closed form of the arguments, the arguments kept. -/
theorem run_eq : θ_run defs (onTc (τ := τ) (main (F := Ideal))) ⟨m, fun _ => 0, ρ⟩ fun r => ∀ c : Dev nD,
      r.2.mem ((c : Thread nD τ).loc main_v0_0) = resCodes (m ((c : Thread nD τ).loc main_arg0)) (m ((c : Thread nD τ).loc main_arg1)) (m ((c : Thread nD τ).loc main_arg2))
      ∧ r.2.mem ((c : Thread nD τ).loc main_v0_1) = resScales (m ((c : Thread nD τ).loc main_arg0)) (m ((c : Thread nD τ).loc main_arg1)) (m ((c : Thread nD τ).loc main_arg2))
      ∧ r.2.mem ((c : Thread nD τ).loc main_v0_2) = resWide (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(arr_exact m c 4 rfl r h.1).trans (arrAt4_eq m c), arr5_eq m c r h.1, (arr_exact m c 6 rfl r h.1).trans (arrAt6_eq m c),
    (h.1.arr_in c 0 rfl).trans (A_eq m c 0), (h.1.arr_in c 2 rfl).trans (A_eq m c 2), (h.1.arr_in c 3 rfl).trans (A_eq m c 3)⟩) (run_main m ρ)

end Cert.UpIdeal.Value

end
-- ==== Proof.UpRefRun.lean ====
/- The run of the reference of `up`: its one point leaves each output array whole, at the payload that it stores. -/
module

public import proofs.«01_k».proof.Proof.Gen.UpRefIdeal.Frame
public import Idealize.ShloMosaic.Lib.Pipeline.Value

@[expose] public section

noncomputable section

namespace Cert.UpRefIdeal.Hand

open Cert.UpRefIdeal Cert.UpRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S2048x4096.Idx) : ((cfg0.win 0).blk t).view.emb j = j := by
  obtain ⟨e0, e1⟩ := idx_zero0 t
  funext a; apply Fin.ext
  match a with
  | ⟨0, _⟩ => show win0_0.index t (0 : Fin 2) * 2048 + 1 * (j 0).val = (j 0).val; omega
  | ⟨1, _⟩ => show win0_0.index t (1 : Fin 2) * 4096 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S4096x12288.Idx) : ((cfg0.win 1).blk t).view.emb j = j := by
  obtain ⟨e0, e1⟩ := idx_zero1 t
  funext a; apply Fin.ext
  match a with
  | ⟨0, _⟩ => show win0_1.index t (0 : Fin 2) * 4096 + 1 * (j 0).val = (j 0).val; omega
  | ⟨1, _⟩ => show win0_1.index t (1 : Fin 2) * 12288 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S32x96.Idx) : ((cfg0.win 2).blk t).view.emb j = j := by
  obtain ⟨e0, e1⟩ := idx_zero2 t
  funext a; apply Fin.ext
  match a with
  | ⟨0, _⟩ => show win0_2.index t (0 : Fin 2) * 32 + 1 * (j 0).val = (j 0).val; omega
  | ⟨1, _⟩ => show win0_2.index t (1 : Fin 2) * 96 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S2048x6144.Idx) : ((cfg0.win 3).blk t).view.emb j = j := by
  obtain ⟨e0, e1⟩ := idx_zero3 t
  funext a; apply Fin.ext
  match a with
  | ⟨0, _⟩ => show win0_3.index t (0 : Fin 2) * 2048 + 1 * (j 0).val = (j 0).val; omega
  | ⟨1, _⟩ => show win0_3.index t (1 : Fin 2) * 6144 + 1 * (j 1).val = (j 1).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S48x2048.Idx) : ((cfg0.win 4).blk t).view.emb j = j := by
  obtain ⟨e0, e1⟩ := idx_zero4 t
  funext a; apply Fin.ext
  match a with
  | ⟨0, _⟩ => show win0_4.index t (0 : Fin 2) * 48 + 1 * (j 0).val = (j 0).val; omega
  | ⟨1, _⟩ => show win0_4.index t (1 : Fin 2) * 2048 + 1 * (j 1).val = (j 1).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S2048x6144.Idx) : ((cfg0.win 5).blk t).view.emb j = j := by
  obtain ⟨e0, e1⟩ := idx_zero5 t
  funext a; apply Fin.ext
  match a with
  | ⟨0, _⟩ => show win0_5.index t (0 : Fin 2) * 2048 + 1 * (j 0).val = (j 0).val; omega
  | ⟨1, _⟩ => show win0_5.index t (1 : Fin 2) * 6144 + 1 * (j 1).val = (j 1).val; omega

/-! ### Output window 3: the array after the run -/

/-- What the window's array ends holding: `out0_3` applied to the argument arrays in place of the input blocks (a value that the
    frame states apart, `kK_payN a…`, keeps its loads inside its own definition). -/
abbrev G3 (a0 : Vec F S2048x4096 .bf16) (a1 : Vec F S4096x12288 .fp8e4m3) (a2 : Vec F S32x96 .f32) : Vec F S2048x6144 .fp8e4m3 :=
  k0_pay4 (k0_pay10 a0 a1 a2) (k0_pay11 a0 a1 a2) (k0_pay12 a0 a1 a2)

/-- The one store through the whole rectangle leaves its payload. -/
theorem out3_eq (a0 : Vec F S2048x4096 .bf16) (a1 : Vec F S4096x12288 .fp8e4m3) (a2 : Vec F S32x96 .f32) : out0_3 (F := F) a0 a1 a2 = G3 a0 a1 a2 := by
  unfold out0_3
  rw [View.canon_unit_zero hz3]

/-- Cutting the point's block out of `X` and reading `X` through the block's view give the same. -/
theorem cut3_eq (t : Fin cfg0.N) (X : Vec F S2048x6144 .fp8e4m3) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S2048x6144.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S2048x4096 .bf16) (a1 : Vec F S4096x12288 .fp8e4m3) (a2 : Vec F S32x96 .f32) : Vec F S48x2048 .f32 :=
  k0_pay2 (k0_pay11 a0 a1 a2) (k0_pay12 a0 a1 a2)

/-- The one store through the whole rectangle leaves its payload. -/
theorem out4_eq (a0 : Vec F S2048x4096 .bf16) (a1 : Vec F S4096x12288 .fp8e4m3) (a2 : Vec F S32x96 .f32) : out0_4 (F := F) a0 a1 a2 = G4 a0 a1 a2 := by
  unfold out0_4
  rw [View.canon_unit_zero hz4]

/-- Cutting the point's block out of `X` and reading `X` through the block's view give the same. -/
theorem cut4_eq (t : Fin cfg0.N) (X : Vec F S48x2048 .f32) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S48x2048.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S2048x4096 .bf16) (a1 : Vec F S4096x12288 .fp8e4m3) (a2 : Vec F S32x96 .f32) : Vec F S2048x6144 .bf16 :=
  k0_pay5 (k0_pay10 a0 a1 a2) (k0_pay11 a0 a1 a2) (k0_pay12 a0 a1 a2)

/-- The one store through the whole rectangle leaves its payload. -/
theorem out5_eq (a0 : Vec F S2048x4096 .bf16) (a1 : Vec F S4096x12288 .fp8e4m3) (a2 : Vec F S32x96 .f32) : out0_5 (F := F) a0 a1 a2 = G5 a0 a1 a2 := by
  unfold out0_5
  rw [View.canon_unit_zero hz5]

/-- Cutting the point's block out of `X` and reading `X` through the block's view give the same. -/
theorem cut5_eq (t : Fin cfg0.N) (X : Vec F S2048x6144 .bf16) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S2048x6144.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      kept_main_arg0 m r h c,
      kept_main_arg1 m r h c,
      kept_main_arg2 m r h c⟩)
    (run_main m ρ)

end Cert.UpRefIdeal.Hand

end
-- ==== Proof.UpRefValue.lean ====
/- The reference of `up` leaves the closed forms. -/
module

public import proofs.«01_k».proof.Proof.UpClosed
public import proofs.«01_k».proof.Proof.UpRefRun
public import Idealize.ShloMosaic.Lib.Pipeline.ValueKit
public import Idealize.ShloMosaic.Lib.Pointwise

@[expose] public section

set_option maxRecDepth 16384

noncomputable section

namespace Cert.UpRefIdeal.Hand

open Cert.UpRefIdeal Cert.UpRefIdeal.Gen Idealize.ShloMosaic Idealize.ShloMosaic.TcCoe Idealize.SL.Sem
open Cert.UpValue

variable (a0 : Vec Ideal S2048x4096 .bf16) (a1 : Vec Ideal S4096x12288 .fp8e4m3) (a2 : Vec Ideal S32x96 .f32)

/-- The gated product in groups. -/
theorem pay6_at (n : Fin 48) (r : Fin 2048) (x : Fin 128) : k0_pay6 a0 a1 a2 (ix3 n r x) = grp a0 a1 a2 r n x := by
  pointwise [k0_pay6, grp, act, product, gated, Ideal.ofBits_zero_f32]
  simp only [Nat.mul_comm n.val 128, show (128 * n.val + x.val) / 128 = n.val by omega, show (6144 + (128 * n.val + x.val)) / 128 = 48 + n.val by omega]

/-- The largest magnitude of each group as the reference computes it, -/
def amaxOf (p : FVec Ideal S48x2048x128 .f32) : FVec Ideal S48x2048 .f32 :=
  multiReduction .maximumf [2] S48x2048 (absf p) 0xFF800000#32 reduces_S48x2048x128_S48x2048 (.inl rfl) rfl

theorem amaxOf_at (p : FVec Ideal S48x2048x128 .f32) (n : Fin 48) (r : Fin 2048) : amaxOf p (ix2 n r)
    = Finset.fold max (Ideal.ofBits .f32 0xFF800000#32) (fun x : Fin 128 => (FloatOps.absf (F := Ideal) (φ := .f32) (p (ix3 n r x)) : EReal)) Finset.univ := by
  pointwise [amaxOf]

/-- the exponent of its scale, from the magnitude, -/
def floorOf (p : FVec Ideal S48x2048 .f32) : FVec Ideal S48x2048 .f32 :=
  addf (floor (divf (log (mulf p (broadcast S48x2048 (Scalar.ofBits .f32 0x3B124925#32)))) (log (broadcast S48x2048 (Scalar.ofBits .f32 0x40000000#32)))))
    (broadcast S48x2048 (Scalar.ofBits .f32 0x3F800000#32))
def zeroOf (p : FVec Ideal S48x2048 .f32) : IVec S48x2048 1 := cmpf .oeq p (broadcast S48x2048 (Scalar.ofBits .f32 0x00000000#32))

theorem exponentOf_at (p : FVec Ideal S48x2048 .f32) (j : S48x2048.Idx) :
    k0_pay1 (floorOf p) (zeroOf p) j = GroupScale.exponent (p j * Ideal.ofBits .f32 0x3B124925#32) := by
  obtain ⟨c, hc, hcc⟩ := GroupScale.ofBits_step
  pointwise [k0_pay1, floorOf, zeroOf, GroupScale.exponent, GroupScale.floorLog]
  rw [hcc, GroupScale.ofBits_two]
  simp only [GroupScale.mul_pos_eq_zero hc]

theorem pay8_eq : k0_pay8 a0 a1 a2 = floorOf (amaxOf (k0_pay6 a0 a1 a2)) := rfl
theorem pay9_eq : k0_pay9 a0 a1 a2 = zeroOf (amaxOf (k0_pay6 a0 a1 a2)) := rfl

/-- and of the product's groups. -/
theorem exponent_at (n : Fin 48) (r : Fin 2048) : k0_pay1 (k0_pay8 a0 a1 a2) (k0_pay9 a0 a1 a2) (ix2 n r) = GroupScale.exponent (step (grp a0 a1 a2 r n)) := by
  rw [pay8_eq, pay9_eq, exponentOf_at, amaxOf_at, step]
  simp only [pay6_at]

/-! The three results, of any product `p` and exponents `e` (`z` where the group is zero). -/

theorem pay2_at (e : FVec Ideal S48x2048 .f32) (z : IVec S48x2048 1) (j : S48x2048.Idx) : k0_pay2 e z j = Ideal.exp2 (k0_pay1 e z j) := rfl

theorem pay3_at (p : FVec Ideal S48x2048x128 .f32) (e : FVec Ideal S48x2048 .f32) (z : IVec S48x2048 1) (n : Fin 48) (r : Fin 2048) (x : Fin 128) :
    k0_pay3 p e z (ix3 n r x) = min (Ideal.ofBits .f32 0x43E00000#32) (max (Ideal.ofBits .f32 0xC3E00000#32) (p (ix3 n r x) * Ideal.exp2 (0 - k0_pay1 e z (ix2 n r)))) := by
  unfold k0_pay3
  generalize k0_pay1 e z = q
  pointwise
  rfl

theorem pay4_at (p : FVec Ideal S48x2048x128 .f32) (e : FVec Ideal S48x2048 .f32) (z : IVec S48x2048 1) (r : Fin 2048) (c : Fin 6144) :
    k0_pay4 p e z (ix2 r c) = k0_pay3 p e z (ix3 ⟨c.val / 128, by omega⟩ r ⟨c.val % 128, by omega⟩) := by
  unfold k0_pay4
  generalize k0_pay3 p e z = q
  pointwise

theorem pay5_at (p : FVec Ideal S48x2048x128 .f32) (e : FVec Ideal S48x2048 .f32) (z : IVec S48x2048 1) (r : Fin 2048) (c : Fin 6144) :
    k0_pay5 p e z (ix2 r c) = k0_pay3 p e z (ix3 ⟨c.val / 128, by omega⟩ r ⟨c.val % 128, by omega⟩) * k0_pay2 e z (ix2 ⟨c.val / 128, by omega⟩ r) := by
  unfold k0_pay5
  generalize k0_pay3 p e z = q
  generalize k0_pay2 e z = q'
  pointwise

theorem codes_at (r : Fin 2048) (c : Fin 6144) :
    k0_pay3 (k0_pay6 a0 a1 a2) (k0_pay8 a0 a1 a2) (k0_pay9 a0 a1 a2) (ix3 ⟨c.val / 128, by omega⟩ r ⟨c.val % 128, by omega⟩) = resCodes a0 a1 a2 (ix2 r c) := by
  rw [pay3_at, pay6_at, exponent_at]
  show code (grp a0 a1 a2 r _) (grp a0 a1 a2 r _ _) = code (grp a0 a1 a2 r _) (act a0 a1 a2 r c)
  congr 1
  show act a0 a1 a2 r _ = act a0 a1 a2 r c
  congr 1
  exact Fin.ext (by show 128 * (c.val / 128) + c.val % 128 = c.val; omega)

/-- The stored payloads are the closed forms. -/
theorem codes_eq : k0_pay4 (k0_pay6 a0 a1 a2) (k0_pay8 a0 a1 a2) (k0_pay9 a0 a1 a2) = resCodes a0 a1 a2 := by
  funext j
  obtain ⟨r, c, rfl⟩ : ∃ (r : Fin 2048) (c : Fin 6144), j = ix2 r c := ⟨j 0, j 1, (ix2_eta j).symm⟩
  rw [pay4_at, codes_at]

theorem scales_eq : k0_pay2 (k0_pay8 a0 a1 a2) (k0_pay9 a0 a1 a2) = resScales a0 a1 a2 := by
  funext j
  obtain ⟨n, r, rfl⟩ : ∃ (n : Fin 48) (r : Fin 2048), j = ix2 n r := ⟨j 0, j 1, (ix2_eta j).symm⟩
  rw [pay2_at, exponent_at]
  rfl

theorem wide_eq : k0_pay5 (k0_pay6 a0 a1 a2) (k0_pay8 a0 a1 a2) (k0_pay9 a0 a1 a2) = resWide a0 a1 a2 := by
  funext j
  obtain ⟨r, c, rfl⟩ : ∃ (r : Fin 2048) (c : Fin 6144), j = ix2 r c := ⟨j 0, j 1, (ix2_eta j).symm⟩
  rw [pay5_at, codes_at, pay2_at, exponent_at]
  rfl

/-! The loads of whole arrays are the arrays. -/

theorem ld0 : View.ld a0 r0_0 = a0 := by funext j; exact congrArg a0 (show (Rect.unit (s := _) ![0, 0] _ _).emb j = j by blk_ext)
theorem ld1 : View.ld a1 r0_1 = a1 := by funext j; exact congrArg a1 (show (Rect.unit (s := _) ![0, 0] _ _).emb j = j by blk_ext)
theorem ld2 : View.ld a2 r0_2 = a2 := by funext j; exact congrArg a2 (show (Rect.unit (s := _) ![0, 0] _ _).emb j = j by blk_ext)

theorem G3_eq : G3 a0 a1 a2 = resCodes a0 a1 a2 := by
  unfold G3 k0_pay10 k0_pay11 k0_pay12
  rw [ld0, ld1, ld2, codes_eq]
theorem G4_eq : G4 a0 a1 a2 = resScales a0 a1 a2 := by
  unfold G4 k0_pay11 k0_pay12
  rw [ld0, ld1, ld2, scales_eq]
theorem G5_eq : G5 a0 a1 a2 = resWide a0 a1 a2 := by
  unfold G5 k0_pay10 k0_pay11 k0_pay12
  rw [ld0, ld1, ld2, wide_eq]

end Cert.UpRefIdeal.Hand

end
-- ==== Proof.NormTile.lean ====
/- The arithmetic of one row block of the norm and quantiser, over the reals: 32 groups of 128 columns divided by the root of the row's mean square, times the weights, each group quantised. The groups
   and the weights are any; the mean square is taken group by group as the kernel takes it. -/
module

public import proofs.«01_k».proof.Proof.UpIdealTile
public import proofs.«01_k».proof.Proof.Gen.NormIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.NormValue

open Cert.NormIdeal Cert.NormIdeal.Gen Idealize.ShloMosaic Idealize.ShloMosaic.TcCoe
open Cert.UpValue

/-! ## A row of 4096 values, normed -/

/-- The reciprocal root of the mean square of a row. -/
def rootOf (v : Fin 4096 → EReal) : EReal := Ideal.rsqrt ((∑ k, v k * v k) * Ideal.ofBits .f32 0x39800000#32 + Ideal.ofBits .f32 0x358637BD#32)

/-- The row normed, at column `k`. -/
def norm (v w : Fin 4096 → EReal) (k : Fin 4096) : EReal := v k * rootOf v * w k

/-- Group `n` of the normed row. -/
def group (v w : Fin 4096 → EReal) (n : Fin 32) (x : Fin 128) : EReal := norm v w ⟨128 * n.val + x.val, by omega⟩

/-- The group of a column. -/
def groupOf (k : Fin 4096) : Fin 32 := ⟨k.val / 128, by omega⟩

/-- The code at column `k`, -/
def rowCode (v w : Fin 4096 → EReal) (k : Fin 4096) : EReal := code (group v w (groupOf k)) (norm v w k)
/-- the scale of group `n`, -/
def rowScale (v w : Fin 4096 → EReal) (n : Fin 32) : EReal := scale (group v w n)
/-- and the code times its scale. -/
def rowWide (v w : Fin 4096 → EReal) (k : Fin 4096) : EReal := rowCode v w k * rowScale v w (groupOf k)

/-- The value at column `128 n + x` of a row given group by group. -/
theorem sum_groups (f : Fin 4096 → EReal) : ∑ x : Fin 128, ∑ n : Fin 32, f ⟨128 * n.val + x.val, by omega⟩ = ∑ k, f k := by
  rw [Finset.sum_comm, ← Fintype.sum_prod_type']
  exact Fintype.sum_equiv (finProdFinEquiv (m := 32) (n := 128)) _ f fun p => by
    congr 1
    exact Fin.ext (by simp [finProdFinEquiv, Nat.add_comm])

/-! ## The root -/

/-- The squares of the first groups, added up lane by lane. -/
def sumSq (v : ℕ → FVec Ideal S256x128 .f32) : ℕ → FVec Ideal S256x128 .f32
  | 0 => broadcast S256x128 (Scalar.ofBits .f32 0x00000000#32)
  | n + 1 => addf (sumSq v n) (mulf (v n) (v n))

theorem sumSq_apply (v : ℕ → FVec Ideal S256x128 .f32) (n : ℕ) (j : S256x128.Idx) : sumSq v n j = ∑ k : Fin n, v k.val j * v k.val j := by
  induction n with
  | zero => simp only [sumSq]; pointwise [Ideal.ofBits_zero_f32]; simp
  | succ n ih => rw [Fin.sum_univ_castSucc, sumSq]; pointwise; rw [ih]; rfl

/-- The reciprocal root of the mean square of each row, from the squares added up. -/
def rootFrom (q : FVec Ideal S256x128 .f32) : FVec Ideal S256x1 .f32 :=
  rsqrt (addf (mulf (shapeCast S256x1 (multiReduction .add [1] S256 q 0x00000000#32 reduces_S256x128_S256 (.inl rfl) rfl) shapeCasts_S256_S256x1)
    (broadcast S256x1 (Scalar.ofBits .f32 0x39800000#32))) (broadcast S256x1 (Scalar.ofBits .f32 0x358637BD#32)))

theorem rootFrom_apply (q : FVec Ideal S256x128 .f32) (r : Fin 256) (z : Fin 1) :
    rootFrom q (ix2 r z) = Ideal.rsqrt ((∑ x : Fin 128, q (ix2 r x)) * Ideal.ofBits .f32 0x39800000#32 + Ideal.ofBits .f32 0x358637BD#32) := by
  pointwise [rootFrom, Ideal.ofBits_zero_f32]

/-- A row of the groups `v`. -/
def Row (v : ℕ → FVec Ideal S256x128 .f32) (r : Fin 256) (f : Fin 4096 → EReal) : Prop :=
  ∀ (n : Fin 32) (x : Fin 128), v n.val (ix2 r x) = f ⟨128 * n.val + x.val, by omega⟩

theorem root_row {v : ℕ → FVec Ideal S256x128 .f32} {r : Fin 256} {f : Fin 4096 → EReal} (h : Row v r f) (z : Fin 1) : rootFrom (sumSq v 32) (ix2 r z) = rootOf f := by
  rw [rootFrom_apply, rootOf, ← sum_groups]
  simp only [sumSq_apply, h _ _]

/-! ## A group -/

/-- The normed group: its values times the root times the weights. -/
def normed (R : FVec Ideal S256x1 .f32) (v : FVec Ideal S256x128 .f32) (w : FVec Ideal S1x128 .f32) : FVec Ideal S256x128 .f32 :=
  mulf (mulf v (broadcastTo S256x128 R broadcasts_S256x1_S256x128)) (broadcastTo S256x128 w broadcasts_S1x128_S256x128)

theorem normed_apply (R : FVec Ideal S256x1 .f32) (v : FVec Ideal S256x128 .f32) (w : FVec Ideal S1x128 .f32) (r : Fin 256) (x : Fin 128) :
    normed R v w (ix2 r x) = v (ix2 r x) * R (ix2 r 0) * w (ix2 0 x) := by
  pointwise [normed]

/-- The largest magnitude of each row over 448. -/
def steps (v : FVec Ideal S256x128 .f32) : FVec Ideal S256x1 .f32 :=
  mulf (shapeCast S256x1 (multiReduction .maximumf [1] S256 (absf v) 0xFF800000#32 reduces_S256x128_S256 (.inl rfl) rfl) shapeCasts_S256_S256x1)
    (broadcast S256x1 (Scalar.ofBits .f32 0x3B124925#32))

theorem steps_apply (v : FVec Ideal S256x128 .f32) (r : Fin 256) (z : Fin 1) : steps v (ix2 r z) = step fun x => v (ix2 r x) := by
  pointwise [steps, step]

/-- The power of two below a step as the logarithm has it, -/
def powers (t : FVec Ideal S256x1 .f32) : FVec Ideal S256x1 .f32 := exp2 (floor (divf (log t) (log (broadcast S256x1 (Scalar.ofBits .f32 0x40000000#32)))))

/-- and the scale. -/
def scalesFrom (t : FVec Ideal S256x1 .f32) : FVec Ideal S256x1 .f32 :=
  select (cmpf .oeq t (broadcast S256x1 (Scalar.ofBits .f32 0x00000000#32))) (broadcast S256x1 (Scalar.ofBits .f32 0x3F800000#32))
    (mulf (broadcast S256x1 (Scalar.ofBits .f32 0x40000000#32))
      (select (cmpf .oge t (mulf (broadcast S256x1 (Scalar.ofBits .f32 0x40000000#32)) (powers t))) (mulf (broadcast S256x1 (Scalar.ofBits .f32 0x40000000#32)) (powers t))
        (select (cmpf .olt t (powers t)) (mulf (broadcast S256x1 (Scalar.ofBits .f32 0x3F000000#32)) (powers t)) (powers t))))

theorem scalesFrom_apply (t : FVec Ideal S256x1 .f32) (j : S256x1.Idx) : scalesFrom t j = GroupScale.kernelScale (t j) := by
  pointwise [scalesFrom, powers]
  rw [GroupScale.ofBits_two, GroupScale.ofBits_half]
  rfl

def scales (v : FVec Ideal S256x128 .f32) : FVec Ideal S256x1 .f32 := scalesFrom (steps v)

theorem scales_at (v : FVec Ideal S256x128 .f32) (r : Fin 256) (z : Fin 1) : scales v (ix2 r z) = scale fun x => v (ix2 r x) := by
  rw [scales, scalesFrom_apply, GroupScale.kernelScale_eq, steps_apply]; rfl

/-- The codes of each row, -/
def codesFrom (v : FVec Ideal S256x128 .f32) (s : FVec Ideal S256x1 .f32) : FVec Ideal S256x128 .fp8e4m3 :=
  truncf .fp8e4m3 (minimumf (broadcast S256x128 (Scalar.ofBits .f32 0x43E00000#32)) (maximumf (broadcast S256x128 (Scalar.ofBits .f32 0xC3E00000#32))
    (mulf v (broadcastTo S256x128 (divf (broadcast S256x1 (Scalar.ofBits .f32 0x3F800000#32)) s) broadcasts_S256x1_S256x128)))) bitsLt_fp8e4m3_f32

theorem codesFrom_at (v : FVec Ideal S256x128 .f32) (s : FVec Ideal S256x1 .f32) (r : Fin 256) (x : Fin 128) :
    codesFrom v s (ix2 r x) = min (Ideal.ofBits .f32 0x43E00000#32) (max (Ideal.ofBits .f32 0xC3E00000#32) (v (ix2 r x) * Ideal.div 1 (s (ix2 r 0)))) := by
  pointwise [codesFrom]

def codes (v : FVec Ideal S256x128 .f32) : FVec Ideal S256x128 .fp8e4m3 := codesFrom v (scales v)

theorem codes_at (v : FVec Ideal S256x128 .f32) (r : Fin 256) (x : Fin 128) : codes v (ix2 r x) = code (fun x => v (ix2 r x)) (v (ix2 r x)) := by
  rw [codes, codesFrom_at, scales, scalesFrom_apply, GroupScale.kernelInv_eq, steps_apply]
  rfl

/-- and the codes times the scale. -/
def widesFrom (c : FVec Ideal S256x128 .fp8e4m3) (s : FVec Ideal S256x1 .f32) : FVec Ideal S256x128 .bf16 :=
  mulf (extf .bf16 c bitsLt_fp8e4m3_bf16) (broadcastTo S256x128 (truncf .bf16 s bitsLt_bf16_f32) broadcasts_S256x1_S256x128)

theorem widesFrom_at (c : FVec Ideal S256x128 .fp8e4m3) (s : FVec Ideal S256x1 .f32) (r : Fin 256) (x : Fin 128) : widesFrom c s (ix2 r x) = c (ix2 r x) * s (ix2 r 0) := by
  pointwise [widesFrom]

def wides (v : FVec Ideal S256x128 .f32) : FVec Ideal S256x128 .bf16 := widesFrom (codes v) (scales v)

theorem wides_at (v : FVec Ideal S256x128 .f32) (r : Fin 256) (x : Fin 128) :
    wides v (ix2 r x) = code (fun x => v (ix2 r x)) (v (ix2 r x)) * scale fun x => v (ix2 r x) := by
  rw [wides, widesFrom_at, codes_at, scales_at]

/-! ## The scales of all groups, one row for each -/

/-- The first columns set to the scales of their groups. -/
def cols (s : ℕ → FVec Ideal S256x1 .f32) : ℕ → FVec Ideal S256x128 .f32
  | 0 => broadcast S256x128 (Scalar.ofBits .f32 0x00000000#32)
  | n + 1 => select (cmpi .eq (iota .tc S256x128 32 [1] iota_S256x128_d1_w32) (broadcast S256x128 (BitVec.ofNat 32 n)))
      (broadcastTo S256x128 (shapeCast S256x1 (s n) shapeCasts_S256x1_S256x1) broadcasts_S256x1_S256x128) (cols s n)

theorem cols_step (a : FVec Ideal S256x1 .f32) (b : FVec Ideal S256x128 .f32) (n : ℕ) (r : Fin 256) (x : Fin 128) :
    (select (cmpi .eq (iota .tc S256x128 32 [1] iota_S256x128_d1_w32) (broadcast S256x128 (BitVec.ofNat 32 n)))
      (broadcastTo S256x128 (shapeCast S256x1 a shapeCasts_S256x1_S256x1) broadcasts_S256x1_S256x128) b : FVec Ideal S256x128 .f32) (ix2 r x)
      = Scalar.select (IntOp.cmpi .eq (BitVec.ofNat 32 x.val) (BitVec.ofNat 32 n)) (a (ix2 r 0)) (b (ix2 r x)) := by
  pointwise

theorem cols_apply (s : ℕ → FVec Ideal S256x1 .f32) (n : ℕ) (hn : n ≤ 128) (r : Fin 256) (x : Fin 128) (hx : x.val < n) : cols s n (ix2 r x) = s x.val (ix2 r 0) := by
  induction n with
  | zero => omega
  | succ n ih =>
    rw [cols, cols_step]
    by_cases h : x.val = n
    · rw [h]
      simp [IntOp.cmpi, Scalar.select]
    · have hne : BitVec.ofNat 32 x.val ≠ BitVec.ofNat 32 n := fun e => h (by
        have := congrArg BitVec.toNat e
        simp only [BitVec.toNat_ofNat] at this
        omega)
      rw [show IntOp.cmpi .eq (BitVec.ofNat 32 x.val) (BitVec.ofNat 32 n) = 0#1 by
        simp only [IntOp.cmpi, beq_eq_false_iff_ne.mpr hne]; rfl]
      exact ih (by omega) (by omega)

/-- The rows of scales. -/
def rowsFrom (q : FVec Ideal S256x128 .f32) : FVec Ideal S32x256 .f32 :=
  extractStridedSlice S32x256 ![0, 0] (transpose S128x256 [1, 0] q transposes_S256x128_p1_0_S128x256) slices_S128x256_o0_0_S32x256

theorem rowsFrom_at (q : FVec Ideal S256x128 .f32) (n : Fin 32) (r : Fin 256) : rowsFrom q (ix2 n r) = q (ix2 r ⟨n.val, by omega⟩) := by
  pointwise [rowsFrom]

theorem rows_at (s : ℕ → FVec Ideal S256x1 .f32) (n : Fin 32) (r : Fin 256) : rowsFrom (cols s 32) (ix2 n r) = s n.val (ix2 r 0) := by
  rw [rowsFrom_at, cols_apply s 32 (by omega) r _ n.isLt]

/-! ## The groups of a row, normed and quantised -/

section row

variable {v : ℕ → FVec Ideal S256x128 .f32} {w : ℕ → FVec Ideal S1x128 .f32} {r : Fin 256} {f g : Fin 4096 → EReal}
  (h : Row v r f) (hw : ∀ (n : Fin 32) (x : Fin 128), w n.val (ix2 0 x) = g ⟨128 * n.val + x.val, by omega⟩)

include h hw

theorem normed_row (n : Fin 32) (x : Fin 128) : normed (rootFrom (sumSq v 32)) (v n.val) (w n.val) (ix2 r x) = group f g n x := by
  rw [normed_apply, root_row h, h, hw]; rfl

theorem codes_row (n : Fin 32) (x : Fin 128) : codes (normed (rootFrom (sumSq v 32)) (v n.val) (w n.val)) (ix2 r x) = rowCode f g ⟨128 * n.val + x.val, by omega⟩ := by
  rw [codes_at]
  simp only [normed_row h hw]
  have e : groupOf ⟨128 * n.val + x.val, by omega⟩ = n := Fin.ext (by simp only [groupOf]; omega)
  rw [rowCode, e]; rfl

theorem scales_row (n : Fin 32) (z : Fin 1) : scales (normed (rootFrom (sumSq v 32)) (v n.val) (w n.val)) (ix2 r z) = rowScale f g n := by
  rw [scales_at]
  simp only [normed_row h hw]
  rfl

theorem wides_row (n : Fin 32) (x : Fin 128) : wides (normed (rootFrom (sumSq v 32)) (v n.val) (w n.val)) (ix2 r x) = rowWide f g ⟨128 * n.val + x.val, by omega⟩ := by
  have e : groupOf ⟨128 * n.val + x.val, by omega⟩ = n := Fin.ext (by simp only [groupOf]; omega)
  rw [rowWide, ← codes_row h hw n x, e, ← scales_row h hw n 0]
  rw [wides, widesFrom_at]

end row

end Cert.NormValue

end
-- ==== Proof.NormPays.lean ====
/- The stores of one grid point of the first norm: each is the codes, or the codes times the scale, of one normed group, and the last the scales of all groups, by definition. -/
module

public import proofs.«01_k».proof.Proof.NormTile

@[expose] public section

set_option maxRecDepth 65536

noncomputable section

namespace Cert.NormIdeal.Value

open Cert.NormIdeal Cert.NormIdeal.Gen Idealize.ShloMosaic Idealize.ShloMosaic.TcCoe
open Cert.NormValue

variable (x0 : Vec Ideal S256x4096 .bf16) (x1 : Vec Ideal S1x4096 .f32)

theorem inb_x (n : ℕ) (h : n < 32) : ∀ k, (![0, 128 * n] : Fin 2 → ℕ) k + (![256, 128] : Fin 2 → ℕ) k ≤ S256x4096.size k := by
  intro k; fin_cases k <;> simp; omega
theorem inb_w (n : ℕ) (h : n < 32) : ∀ k, (![0, 128 * n] : Fin 2 → ℕ) k + (![1, 128] : Fin 2 → ℕ) k ≤ S1x4096.size k := by
  intro k; fin_cases k <;> simp; omega

/-- The groups of the row block, -/
def vAt (n : ℕ) : FVec Ideal S256x128 .f32 :=
  if h : n < 32 then extf .f32 (View.ld x0 (Rect.unit (s := S256x4096) ![0, 128 * n] ![256, 128] (inb_x n h))) bitsLt_bf16_f32 else broadcast S256x128 (Scalar.ofBits .f32 0x00000000#32)
/-- of the weights, -/
def wAt (n : ℕ) : FVec Ideal S1x128 .f32 :=
  if h : n < 32 then View.ld x1 (Rect.unit (s := S1x4096) ![0, 128 * n] ![1, 128] (inb_w n h)) else broadcast S1x128 (Scalar.ofBits .f32 0x00000000#32)

/-- the root, -/
theorem root_eq : k0_pay213 x0 x1 = rootFrom (sumSq (vAt x0) 32) := rfl

/-- and the normed groups. -/
abbrev gAt (n : ℕ) : FVec Ideal S256x128 .f32 := normed (k0_pay213 x0 x1) (vAt x0 n) (wAt x1 n)

theorem codes_31 : k0_pay199 (k0_pay303 x0 x1) (Scalar.ofBits .f32 0xC3E00000#32) (Scalar.ofBits .f32 0x43E00000#32) = codes (gAt x0 x1 31) := rfl
theorem codes_30 : k0_pay194 (k0_pay300 x0 x1) (k0_pay301 x0 x1) (View.ld x1 r0_62) = codes (gAt x0 x1 30) := rfl
theorem codes_29 : k0_pay188 (k0_pay298 x0 x1) (k0_pay299 x0 x1) (Scalar.ofBits .f32 0x3B124925#32) = codes (gAt x0 x1 29) := rfl
theorem codes_28 : k0_pay183 (k0_pay294 x0 x1) (k0_pay295 x0 x1) (k0_pay296 x0 x1) (k0_pay297 x0 x1) = codes (gAt x0 x1 28) := rfl
theorem codes_27 : k0_pay176 (k0_pay291 x0 x1) (k0_pay292 x0 x1) (k0_pay293 x0 x1) = codes (gAt x0 x1 27) := rfl
theorem codes_26 : k0_pay170 (k0_pay288 x0 x1) (k0_pay289 x0 x1) (k0_pay290 x0 x1) = codes (gAt x0 x1 26) := rfl
theorem codes_25 : k0_pay164 (k0_pay213 x0 x1) (View.ld x0 r0_25) (View.ld x1 r0_57) = codes (gAt x0 x1 25) := rfl
theorem codes_24 : k0_pay160 (k0_pay286 x0 x1) = codes (gAt x0 x1 24) := rfl
theorem codes_23 : k0_pay156 (k0_pay282 x0 x1) (k0_pay283 x0 x1) (k0_pay284 x0 x1) (k0_pay285 x0 x1) = codes (gAt x0 x1 23) := rfl
theorem codes_22 : k0_pay149 (k0_pay276 x0 x1) (k0_pay277 x0 x1) (k0_pay278 x0 x1) (k0_pay279 x0 x1) (k0_pay280 x0 x1) (k0_pay281 x0 x1) = codes (gAt x0 x1 22) := rfl
theorem codes_21 : k0_pay140 (k0_pay273 x0 x1) (k0_pay274 x0 x1) (k0_pay275 x0 x1) = codes (gAt x0 x1 21) := rfl
theorem codes_20 : k0_pay133 (k0_pay271 x0 x1) (Scalar.ofBits .f32 0x43E00000#32) (k0_pay272 x0 x1) = codes (gAt x0 x1 20) := rfl
theorem codes_19 : k0_pay127 (k0_pay269 x0 x1) (View.ld x1 r0_51) = codes (gAt x0 x1 19) := rfl
theorem codes_18 : k0_pay122 (k0_pay266 x0 x1) (k0_pay267 x0 x1) (k0_pay268 x0 x1) = codes (gAt x0 x1 18) := rfl
theorem codes_17 : k0_pay116 (k0_pay262 x0 x1) (k0_pay263 x0 x1) (k0_pay264 x0 x1) (k0_pay265 x0 x1) = codes (gAt x0 x1 17) := rfl
theorem codes_16 : k0_pay109 (k0_pay259 x0 x1) (k0_pay260 x0 x1) (k0_pay261 x0 x1) (Scalar.ofBits .f32 0x00000000#32) = codes (gAt x0 x1 16) := rfl
theorem codes_15 : k0_pay103 (k0_pay256 x0 x1) (k0_pay258 x0 x1) = codes (gAt x0 x1 15) := rfl
theorem codes_14 : k0_pay96 (k0_pay213 x0 x1) (View.ld x0 r0_14) (View.ld x1 r0_46) = codes (gAt x0 x1 14) := rfl
theorem codes_13 : k0_pay92 (k0_pay254 x0 x1) (k0_pay255 x0 x1) = codes (gAt x0 x1 13) := rfl
theorem codes_12 : k0_pay87 (k0_pay251 x0 x1) (k0_pay252 x0 x1) (k0_pay253 x0 x1) = codes (gAt x0 x1 12) := rfl
theorem codes_11 : k0_pay81 (k0_pay245 x0 x1) (k0_pay246 x0 x1) (k0_pay247 x0 x1) (k0_pay248 x0 x1) (k0_pay249 x0 x1) (k0_pay250 x0 x1) (Scalar.ofBits .f32 0x3F000000#32) = codes (gAt x0 x1 11) := rfl
theorem codes_10 : k0_pay72 (k0_pay242 x0 x1) (k0_pay243 x0 x1) (k0_pay244 x0 x1) (Scalar.ofBits .f32 0x3F800000#32) = codes (gAt x0 x1 10) := rfl
theorem codes_9 : k0_pay65 (Scalar.ofBits .f32 0x43E00000#32) (k0_pay241 x0 x1) = codes (gAt x0 x1 9) := rfl
theorem codes_8 : k0_pay60 (k0_pay239 x0 x1) (View.ld x1 r0_40) = codes (gAt x0 x1 8) := rfl
theorem codes_7 : k0_pay55 (k0_pay237 x0 x1) (k0_pay238 x0 x1) = codes (gAt x0 x1 7) := rfl
theorem codes_6 : k0_pay50 (k0_pay233 x0 x1) (k0_pay234 x0 x1) (k0_pay235 x0 x1) (k0_pay236 x0 x1) = codes (gAt x0 x1 6) := rfl
theorem codes_5 : k0_pay43 (k0_pay229 x0 x1) (k0_pay230 x0 x1) (k0_pay231 x0 x1) (k0_pay232 x0 x1) = codes (gAt x0 x1 5) := rfl
theorem codes_4 : k0_pay36 (k0_pay226 x0 x1) (k0_pay228 x0 x1) = codes (gAt x0 x1 4) := rfl
theorem codes_3 : k0_pay29 (k0_pay213 x0 x1) (View.ld x0 r0_3) (View.ld x1 r0_35) = codes (gAt x0 x1 3) := rfl
theorem codes_2 : k0_pay25 (k0_pay224 x0 x1) (k0_pay225 x0 x1) = codes (gAt x0 x1 2) := rfl
theorem codes_1 : k0_pay20 (k0_pay221 x0 x1) (k0_pay222 x0 x1) (k0_pay223 x0 x1) = codes (gAt x0 x1 1) := rfl
theorem codes_0 : k0_pay14 (k0_pay214 x0 x1) (k0_pay215 x0 x1) (k0_pay216 x0 x1) (k0_pay217 x0 x1) (k0_pay218 x0 x1) (k0_pay219 x0 x1) (k0_pay220 x0 x1) = codes (gAt x0 x1 0) := rfl
theorem wides_31 : k0_pay200 (k0_pay302 x0 x1) (k0_pay303 x0 x1) (Scalar.ofBits .f32 0xC3E00000#32) (Scalar.ofBits .f32 0x43E00000#32) = wides (gAt x0 x1 31) := rfl
theorem wides_30 : k0_pay195 (k0_pay300 x0 x1) (k0_pay301 x0 x1) (View.ld x1 r0_62) = wides (gAt x0 x1 30) := rfl
theorem wides_29 : k0_pay189 (k0_pay298 x0 x1) (k0_pay299 x0 x1) (Scalar.ofBits .f32 0x3B124925#32) = wides (gAt x0 x1 29) := rfl
theorem wides_28 : k0_pay184 (k0_pay294 x0 x1) (k0_pay295 x0 x1) (k0_pay296 x0 x1) (k0_pay297 x0 x1) = wides (gAt x0 x1 28) := rfl
theorem wides_27 : k0_pay177 (k0_pay291 x0 x1) (k0_pay292 x0 x1) (k0_pay293 x0 x1) = wides (gAt x0 x1 27) := rfl
theorem wides_26 : k0_pay171 (k0_pay288 x0 x1) (k0_pay289 x0 x1) (k0_pay290 x0 x1) = wides (gAt x0 x1 26) := rfl
theorem wides_25 : k0_pay166 (k0_pay287 x0 x1) (k0_pay165 (k0_pay213 x0 x1) (View.ld x0 r0_25) (View.ld x1 r0_57)) = wides (gAt x0 x1 25) := rfl
theorem wides_24 : k0_pay161 (k0_pay286 x0 x1) = wides (gAt x0 x1 24) := rfl
theorem wides_23 : k0_pay157 (k0_pay282 x0 x1) (k0_pay283 x0 x1) (k0_pay284 x0 x1) (k0_pay285 x0 x1) = wides (gAt x0 x1 23) := rfl
theorem wides_22 : k0_pay150 (k0_pay276 x0 x1) (k0_pay277 x0 x1) (k0_pay278 x0 x1) (k0_pay279 x0 x1) (k0_pay280 x0 x1) (k0_pay281 x0 x1) = wides (gAt x0 x1 22) := rfl
theorem wides_21 : k0_pay141 (k0_pay273 x0 x1) (k0_pay274 x0 x1) (k0_pay275 x0 x1) = wides (gAt x0 x1 21) := rfl
theorem wides_20 : k0_pay134 (k0_pay270 x0 x1) (k0_pay271 x0 x1) (Scalar.ofBits .f32 0x43E00000#32) (k0_pay272 x0 x1) = wides (gAt x0 x1 20) := rfl
theorem wides_19 : k0_pay128 (k0_pay269 x0 x1) (View.ld x1 r0_51) = wides (gAt x0 x1 19) := rfl
theorem wides_18 : k0_pay123 (k0_pay266 x0 x1) (k0_pay267 x0 x1) (k0_pay268 x0 x1) = wides (gAt x0 x1 18) := rfl
theorem wides_17 : k0_pay117 (k0_pay262 x0 x1) (k0_pay263 x0 x1) (k0_pay264 x0 x1) (k0_pay265 x0 x1) = wides (gAt x0 x1 17) := rfl
theorem wides_16 : k0_pay110 (k0_pay259 x0 x1) (k0_pay260 x0 x1) (k0_pay261 x0 x1) (Scalar.ofBits .f32 0x00000000#32) = wides (gAt x0 x1 16) := rfl
theorem wides_15 : k0_pay104 (k0_pay256 x0 x1) (k0_pay257 x0 x1) (k0_pay258 x0 x1) = wides (gAt x0 x1 15) := rfl
theorem wides_14 : k0_pay99 (k0_pay97 (k0_pay213 x0 x1) (View.ld x0 r0_14) (View.ld x1 r0_46)) (k0_pay98 (k0_pay213 x0 x1) (View.ld x0 r0_14) (View.ld x1 r0_46)) = wides (gAt x0 x1 14) := rfl
theorem wides_13 : k0_pay93 (k0_pay254 x0 x1) (k0_pay255 x0 x1) = wides (gAt x0 x1 13) := rfl
theorem wides_12 : k0_pay88 (k0_pay251 x0 x1) (k0_pay252 x0 x1) (k0_pay253 x0 x1) = wides (gAt x0 x1 12) := rfl
theorem wides_11 : k0_pay82 (k0_pay245 x0 x1) (k0_pay246 x0 x1) (k0_pay247 x0 x1) (k0_pay248 x0 x1) (k0_pay249 x0 x1) (k0_pay250 x0 x1) (Scalar.ofBits .f32 0x3F000000#32) = wides (gAt x0 x1 11) := rfl
theorem wides_10 : k0_pay73 (k0_pay242 x0 x1) (k0_pay243 x0 x1) (k0_pay244 x0 x1) (Scalar.ofBits .f32 0x3F800000#32) = wides (gAt x0 x1 10) := rfl
theorem wides_9 : k0_pay66 (k0_pay240 x0 x1) (Scalar.ofBits .f32 0x43E00000#32) (k0_pay241 x0 x1) = wides (gAt x0 x1 9) := rfl
theorem wides_8 : k0_pay61 (k0_pay239 x0 x1) (View.ld x1 r0_40) = wides (gAt x0 x1 8) := rfl
theorem wides_7 : k0_pay56 (k0_pay237 x0 x1) (k0_pay238 x0 x1) = wides (gAt x0 x1 7) := rfl
theorem wides_6 : k0_pay51 (k0_pay233 x0 x1) (k0_pay234 x0 x1) (k0_pay235 x0 x1) (k0_pay236 x0 x1) = wides (gAt x0 x1 6) := rfl
theorem wides_5 : k0_pay44 (k0_pay229 x0 x1) (k0_pay230 x0 x1) (k0_pay231 x0 x1) (k0_pay232 x0 x1) = wides (gAt x0 x1 5) := rfl
theorem wides_4 : k0_pay37 (k0_pay226 x0 x1) (k0_pay227 x0 x1) (k0_pay228 x0 x1) = wides (gAt x0 x1 4) := rfl
theorem wides_3 : k0_pay32 (k0_pay30 (k0_pay213 x0 x1) (View.ld x0 r0_3) (View.ld x1 r0_35)) (k0_pay31 (k0_pay213 x0 x1) (View.ld x0 r0_3) (View.ld x1 r0_35)) = wides (gAt x0 x1 3) := rfl
theorem wides_2 : k0_pay26 (k0_pay224 x0 x1) (k0_pay225 x0 x1) = wides (gAt x0 x1 2) := rfl
theorem wides_1 : k0_pay21 (k0_pay221 x0 x1) (k0_pay222 x0 x1) (k0_pay223 x0 x1) = wides (gAt x0 x1 1) := rfl
theorem wides_0 : k0_pay15 (k0_pay214 x0 x1) (k0_pay215 x0 x1) (k0_pay216 x0 x1) (k0_pay217 x0 x1) (k0_pay218 x0 x1) (k0_pay219 x0 x1) (k0_pay220 x0 x1) = wides (gAt x0 x1 0) := rfl

theorem rows_eq : k0_pay1 (k0_pay187 (k0_pay299 x0 x1) (Scalar.ofBits .f32 0x3B124925#32)) (k0_pay193 (k0_pay300 x0 x1) (k0_pay301 x0 x1) (View.ld x1 r0_62)) (k0_pay302 x0 x1) (k0_pay304 x0 x1) (k0_pay210 (k0_pay175 (k0_pay292 x0 x1) (k0_pay293 x0 x1)) (k0_pay182 (k0_pay295 x0 x1) (k0_pay296 x0 x1) (k0_pay297 x0 x1)) (k0_pay304 x0 x1) (k0_pay207 (k0_pay115 (k0_pay263 x0 x1) (k0_pay264 x0 x1) (k0_pay265 x0 x1)) (k0_pay121 (k0_pay267 x0 x1) (k0_pay268 x0 x1)) (k0_pay126 (k0_pay269 x0 x1) (View.ld x1 r0_51)) (k0_pay270 x0 x1) (k0_pay139 (k0_pay274 x0 x1) (k0_pay275 x0 x1)) (k0_pay148 (k0_pay277 x0 x1) (k0_pay278 x0 x1) (k0_pay279 x0 x1) (k0_pay280 x0 x1) (k0_pay281 x0 x1)) (k0_pay155 (k0_pay283 x0 x1) (k0_pay284 x0 x1) (k0_pay285 x0 x1)) (k0_pay159 (k0_pay286 x0 x1)) (k0_pay287 x0 x1) (k0_pay304 x0 x1) (k0_pay204 (k0_pay54 (k0_pay238 x0 x1)) (k0_pay59 (k0_pay239 x0 x1) (View.ld x1 r0_40)) (k0_pay240 x0 x1) (k0_pay71 (k0_pay243 x0 x1) (k0_pay244 x0 x1) (Scalar.ofBits .f32 0x3F800000#32)) (k0_pay80 (k0_pay246 x0 x1) (k0_pay247 x0 x1) (k0_pay248 x0 x1) (k0_pay249 x0 x1) (k0_pay250 x0 x1) (Scalar.ofBits .f32 0x3F000000#32)) (k0_pay86 (k0_pay252 x0 x1) (k0_pay253 x0 x1)) (k0_pay91 (k0_pay255 x0 x1)) (k0_pay95 (k0_pay213 x0 x1) (View.ld x0 r0_14) (View.ld x1 r0_46)) (k0_pay257 x0 x1) (k0_pay304 x0 x1) (k0_pay201 (k0_pay13 (k0_pay215 x0 x1) (k0_pay216 x0 x1) (k0_pay217 x0 x1) (k0_pay218 x0 x1) (k0_pay219 x0 x1) (k0_pay220 x0 x1)) (k0_pay19 (k0_pay222 x0 x1) (k0_pay223 x0 x1)) (k0_pay24 (k0_pay225 x0 x1)) (k0_pay28 (k0_pay213 x0 x1) (View.ld x0 r0_3) (View.ld x1 r0_35)) (k0_pay227 x0 x1) (k0_pay42 (k0_pay230 x0 x1) (k0_pay231 x0 x1) (k0_pay232 x0 x1))) k0_pay202 (k0_pay203 (k0_pay49 (k0_pay234 x0 x1) (k0_pay235 x0 x1) (k0_pay236 x0 x1)))) (k0_pay205 (k0_pay304 x0 x1)) (k0_pay206 (k0_pay108 (k0_pay260 x0 x1) (k0_pay261 x0 x1) (Scalar.ofBits .f32 0x00000000#32)))) (k0_pay208 (k0_pay304 x0 x1)) (k0_pay209 (k0_pay289 x0 x1))) k0_pay211 = rowsFrom (cols (fun n => scales (gAt x0 x1 n)) 32) := rfl

end Cert.NormIdeal.Value

end
-- ==== Proof.NormClosed.lean ====
/- The results of `norm1` as functions of the argument arrays, index by index: the codes, the scales and their product, of the normed rows quantised in groups of 128 columns. -/
module

public import proofs.«01_k».proof.Proof.NormTile

@[expose] public section

noncomputable section

namespace Cert.NormValue

open Cert.NormIdeal Idealize.ShloMosaic Idealize.ShloMosaic.TcCoe

variable (a0 : Vec Ideal S2048x4096 .bf16) (a1 : Vec Ideal S1x4096 .f32)

/-- A row of the array, -/
def row (r : Fin 2048) (k : Fin 4096) : EReal := a0 (ix2 r k)
/-- and the weights. -/
def weights (k : Fin 4096) : EReal := a1 (ix2 0 k)

/-- The codes, -/
def resCodes : Vec Ideal S2048x4096 .fp8e4m3 := fun j => rowCode (row a0 (j 0)) (weights a1) (j 1)

/-- the scales, -/
def resScales : Vec Ideal S32x2048 .f32 := fun j => rowScale (row a0 (j 1)) (weights a1) (j 0)

/-- and the codes times their scales. -/
def resWide : Vec Ideal S2048x4096 .bf16 := fun j => rowWide (row a0 (j 0)) (weights a1) (j 1)

end Cert.NormValue

end
-- ==== Proof.NormIdealValue.lean ====
/- The kernel `norm1` leaves the closed forms: what a grid point stores as parts of them, and the run read. -/
module

public import proofs.«01_k».proof.Proof.NormPays
public import proofs.«01_k».proof.Proof.NormClosed
public import proofs.«01_k».proof.Proof.Gen.NormIdeal.Value
public import proofs.«01_k».proof.Proof.Gen.DownIdeal.Value
public import proofs.«01_k».proof.Proof.UpIdealBlocks
public import Idealize.ShloMosaic.Lib.Pipeline.ValueKit

@[expose] public section

set_option maxRecDepth 16384

noncomputable section

namespace Cert.NormIdeal.Value

open Cert.NormIdeal Cert.NormIdeal.Gen Idealize.ShloMosaic Idealize.ShloMosaic.TcCoe Idealize.SL.Sem
open Cert.NormValue
open Idealize.ShloMosaic.Pipeline (Dat)

section point

variable (x0 : Vec Ideal S256x4096 .bf16) (x1 : Vec Ideal S1x4096 .f32)

/-! ## A grid point -/

/-- A row of the row block, -/
def blockRow (r : Fin 256) (k : Fin 4096) : EReal := x0 (ix2 r k)
/-- and the weights. -/
def blockWeights (k : Fin 4096) : EReal := x1 (ix2 0 k)

theorem emb_group (n : ℕ) (h : n < 32) (inb) (r : Fin 256) (z : Fin 128) :
    (Rect.unit (s := S256x4096) ![0, 128 * n] ![256, 128] inb).emb (ix2 r z) = ix2 r ⟨128 * n + z.val, by omega⟩ := by
  blk_ext

theorem emb_weights (n : ℕ) (h : n < 32) (inb) (z : Fin 128) :
    (Rect.unit (s := S1x4096) ![0, 128 * n] ![1, 128] inb).emb (ix2 0 z) = ix2 0 ⟨128 * n + z.val, by omega⟩ := by
  blk_ext

theorem row_vAt (r : Fin 256) : Row (vAt x0) r (blockRow x0 r) := by
  intro n x
  rw [vAt, dif_pos n.isLt]
  exact congrArg x0 (emb_group n.val n.isLt (inb_x n.val n.isLt) r x)

theorem weights_wAt (n : Fin 32) (x : Fin 128) : wAt x1 n.val (ix2 0 x) = blockWeights x1 ⟨128 * n.val + x.val, by omega⟩ := by
  rw [wAt, dif_pos n.isLt]
  exact congrArg x1 (emb_weights n.val n.isLt (inb_w n.val n.isLt) x)

/-- What the point leaves: the codes, the scales and their product. -/
def codesOf : Vec Ideal S256x4096 .fp8e4m3 := fun j => rowCode (blockRow x0 (j 0)) (blockWeights x1) (j 1)
def scalesOf : Vec Ideal S32x256 .f32 := fun j => rowScale (blockRow x0 (j 1)) (blockWeights x1) (j 0)
def widesOf : Vec Ideal S256x4096 .bf16 := fun j => rowWide (blockRow x0 (j 0)) (blockWeights x1) (j 1)

/-- The codes of group `n` are the part of the codes at its columns, -/
theorem codes_piece (n : ℕ) (h : n < 32) (inb) (x : S256x128.Idx) :
    codes (gAt x0 x1 n) x = codesOf x0 x1 ((Rect.unit (s := S256x4096) ![0, 128 * n] ![256, 128] inb).emb x) := by
  obtain ⟨r, z, rfl⟩ : ∃ (r : Fin 256) (z : Fin 128), x = ix2 r z := ⟨x 0, x 1, (ix2_eta x).symm⟩
  rw [emb_group n h, gAt, root_eq]
  exact codes_row (row_vAt x0 r) (weights_wAt x1) ⟨n, h⟩ z

/-- and the same for their products with the scales. -/
theorem wides_piece (n : ℕ) (h : n < 32) (inb) (x : S256x128.Idx) :
    wides (gAt x0 x1 n) x = widesOf x0 x1 ((Rect.unit (s := S256x4096) ![0, 128 * n] ![256, 128] inb).emb x) := by
  obtain ⟨r, z, rfl⟩ : ∃ (r : Fin 256) (z : Fin 128), x = ix2 r z := ⟨x 0, x 1, (ix2_eta x).symm⟩
  rw [emb_group n h, gAt, root_eq]
  exact wides_row (row_vAt x0 r) (weights_wAt x1) ⟨n, h⟩ z

theorem rows_piece (inb) (x : S32x256.Idx) :
    rowsFrom (cols (fun n => scales (gAt x0 x1 n)) 32) x = scalesOf x0 x1 ((Rect.unit (s := S32x256) ![0, 0] ![32, 256] inb).emb x) := by
  obtain ⟨n, r, rfl⟩ : ∃ (n : Fin 32) (r : Fin 256), x = ix2 n r := ⟨x 0, x 1, (ix2_eta x).symm⟩
  rw [show (Rect.unit (s := S32x256) ![0, 0] ![32, 256] inb).emb (ix2 n r) = ix2 n r by blk_ext, rows_at, gAt, root_eq]
  exact scales_row (row_vAt x0 r) (weights_wAt x1) n 0

/-- The stores of a point leave these. -/
theorem out2_eq : out0_2 x0 x1 = codesOf x0 x1 := by
  unfold out0_2
  refine Cert.UpIdeal.Value.canon_of_piecesOf _ _ ?_ ?_
  · exact
      ⟨fun x => (congrFun (codes_31 x0 x1) x).trans (codes_piece x0 x1 31 (by decide) (inb_x 31 (by decide)) x),
      ⟨fun x => (congrFun (codes_30 x0 x1) x).trans (codes_piece x0 x1 30 (by decide) (inb_x 30 (by decide)) x),
      ⟨fun x => (congrFun (codes_29 x0 x1) x).trans (codes_piece x0 x1 29 (by decide) (inb_x 29 (by decide)) x),
      ⟨fun x => (congrFun (codes_28 x0 x1) x).trans (codes_piece x0 x1 28 (by decide) (inb_x 28 (by decide)) x),
      ⟨fun x => (congrFun (codes_27 x0 x1) x).trans (codes_piece x0 x1 27 (by decide) (inb_x 27 (by decide)) x),
      ⟨fun x => (congrFun (codes_26 x0 x1) x).trans (codes_piece x0 x1 26 (by decide) (inb_x 26 (by decide)) x),
      ⟨fun x => (congrFun (codes_25 x0 x1) x).trans (codes_piece x0 x1 25 (by decide) (inb_x 25 (by decide)) x),
      ⟨fun x => (congrFun (codes_24 x0 x1) x).trans (codes_piece x0 x1 24 (by decide) (inb_x 24 (by decide)) x),
      ⟨fun x => (congrFun (codes_23 x0 x1) x).trans (codes_piece x0 x1 23 (by decide) (inb_x 23 (by decide)) x),
      ⟨fun x => (congrFun (codes_22 x0 x1) x).trans (codes_piece x0 x1 22 (by decide) (inb_x 22 (by decide)) x),
      ⟨fun x => (congrFun (codes_21 x0 x1) x).trans (codes_piece x0 x1 21 (by decide) (inb_x 21 (by decide)) x),
      ⟨fun x => (congrFun (codes_20 x0 x1) x).trans (codes_piece x0 x1 20 (by decide) (inb_x 20 (by decide)) x),
      ⟨fun x => (congrFun (codes_19 x0 x1) x).trans (codes_piece x0 x1 19 (by decide) (inb_x 19 (by decide)) x),
      ⟨fun x => (congrFun (codes_18 x0 x1) x).trans (codes_piece x0 x1 18 (by decide) (inb_x 18 (by decide)) x),
      ⟨fun x => (congrFun (codes_17 x0 x1) x).trans (codes_piece x0 x1 17 (by decide) (inb_x 17 (by decide)) x),
      ⟨fun x => (congrFun (codes_16 x0 x1) x).trans (codes_piece x0 x1 16 (by decide) (inb_x 16 (by decide)) x),
      ⟨fun x => (congrFun (codes_15 x0 x1) x).trans (codes_piece x0 x1 15 (by decide) (inb_x 15 (by decide)) x),
      ⟨fun x => (congrFun (codes_14 x0 x1) x).trans (codes_piece x0 x1 14 (by decide) (inb_x 14 (by decide)) x),
      ⟨fun x => (congrFun (codes_13 x0 x1) x).trans (codes_piece x0 x1 13 (by decide) (inb_x 13 (by decide)) x),
      ⟨fun x => (congrFun (codes_12 x0 x1) x).trans (codes_piece x0 x1 12 (by decide) (inb_x 12 (by decide)) x),
      ⟨fun x => (congrFun (codes_11 x0 x1) x).trans (codes_piece x0 x1 11 (by decide) (inb_x 11 (by decide)) x),
      ⟨fun x => (congrFun (codes_10 x0 x1) x).trans (codes_piece x0 x1 10 (by decide) (inb_x 10 (by decide)) x),
      ⟨fun x => (congrFun (codes_9 x0 x1) x).trans (codes_piece x0 x1 9 (by decide) (inb_x 9 (by decide)) x),
      ⟨fun x => (congrFun (codes_8 x0 x1) x).trans (codes_piece x0 x1 8 (by decide) (inb_x 8 (by decide)) x),
      ⟨fun x => (congrFun (codes_7 x0 x1) x).trans (codes_piece x0 x1 7 (by decide) (inb_x 7 (by decide)) x),
      ⟨fun x => (congrFun (codes_6 x0 x1) x).trans (codes_piece x0 x1 6 (by decide) (inb_x 6 (by decide)) x),
      ⟨fun x => (congrFun (codes_5 x0 x1) x).trans (codes_piece x0 x1 5 (by decide) (inb_x 5 (by decide)) x),
      ⟨fun x => (congrFun (codes_4 x0 x1) x).trans (codes_piece x0 x1 4 (by decide) (inb_x 4 (by decide)) x),
      ⟨fun x => (congrFun (codes_3 x0 x1) x).trans (codes_piece x0 x1 3 (by decide) (inb_x 3 (by decide)) x),
      ⟨fun x => (congrFun (codes_2 x0 x1) x).trans (codes_piece x0 x1 2 (by decide) (inb_x 2 (by decide)) x),
      ⟨fun x => (congrFun (codes_1 x0 x1) x).trans (codes_piece x0 x1 1 (by decide) (inb_x 1 (by decide)) x),
      ⟨fun x => (congrFun (codes_0 x0 x1) x).trans (codes_piece x0 x1 0 (by decide) (inb_x 0 (by decide)) x), trivial⟩⟩⟩⟩⟩⟩⟩⟩⟩⟩⟩⟩⟩⟩⟩⟩⟩⟩⟩⟩⟩⟩⟩⟩⟩⟩⟩⟩⟩⟩⟩⟩
  · intro y
    refine View.cover_of_tiledL (s := S256x4096) _ S256x128.size ?_ y
    sl_kernel_rfl

theorem out4_eq : out0_4 x0 x1 = widesOf x0 x1 := by
  unfold out0_4
  refine Cert.UpIdeal.Value.canon_of_piecesOf _ _ ?_ ?_
  · exact
      ⟨fun x => (congrFun (wides_31 x0 x1) x).trans (wides_piece x0 x1 31 (by decide) (inb_x 31 (by decide)) x),
      ⟨fun x => (congrFun (wides_30 x0 x1) x).trans (wides_piece x0 x1 30 (by decide) (inb_x 30 (by decide)) x),
      ⟨fun x => (congrFun (wides_29 x0 x1) x).trans (wides_piece x0 x1 29 (by decide) (inb_x 29 (by decide)) x),
      ⟨fun x => (congrFun (wides_28 x0 x1) x).trans (wides_piece x0 x1 28 (by decide) (inb_x 28 (by decide)) x),
      ⟨fun x => (congrFun (wides_27 x0 x1) x).trans (wides_piece x0 x1 27 (by decide) (inb_x 27 (by decide)) x),
      ⟨fun x => (congrFun (wides_26 x0 x1) x).trans (wides_piece x0 x1 26 (by decide) (inb_x 26 (by decide)) x),
      ⟨fun x => (congrFun (wides_25 x0 x1) x).trans (wides_piece x0 x1 25 (by decide) (inb_x 25 (by decide)) x),
      ⟨fun x => (congrFun (wides_24 x0 x1) x).trans (wides_piece x0 x1 24 (by decide) (inb_x 24 (by decide)) x),
      ⟨fun x => (congrFun (wides_23 x0 x1) x).trans (wides_piece x0 x1 23 (by decide) (inb_x 23 (by decide)) x),
      ⟨fun x => (congrFun (wides_22 x0 x1) x).trans (wides_piece x0 x1 22 (by decide) (inb_x 22 (by decide)) x),
      ⟨fun x => (congrFun (wides_21 x0 x1) x).trans (wides_piece x0 x1 21 (by decide) (inb_x 21 (by decide)) x),
      ⟨fun x => (congrFun (wides_20 x0 x1) x).trans (wides_piece x0 x1 20 (by decide) (inb_x 20 (by decide)) x),
      ⟨fun x => (congrFun (wides_19 x0 x1) x).trans (wides_piece x0 x1 19 (by decide) (inb_x 19 (by decide)) x),
      ⟨fun x => (congrFun (wides_18 x0 x1) x).trans (wides_piece x0 x1 18 (by decide) (inb_x 18 (by decide)) x),
      ⟨fun x => (congrFun (wides_17 x0 x1) x).trans (wides_piece x0 x1 17 (by decide) (inb_x 17 (by decide)) x),
      ⟨fun x => (congrFun (wides_16 x0 x1) x).trans (wides_piece x0 x1 16 (by decide) (inb_x 16 (by decide)) x),
      ⟨fun x => (congrFun (wides_15 x0 x1) x).trans (wides_piece x0 x1 15 (by decide) (inb_x 15 (by decide)) x),
      ⟨fun x => (congrFun (wides_14 x0 x1) x).trans (wides_piece x0 x1 14 (by decide) (inb_x 14 (by decide)) x),
      ⟨fun x => (congrFun (wides_13 x0 x1) x).trans (wides_piece x0 x1 13 (by decide) (inb_x 13 (by decide)) x),
      ⟨fun x => (congrFun (wides_12 x0 x1) x).trans (wides_piece x0 x1 12 (by decide) (inb_x 12 (by decide)) x),
      ⟨fun x => (congrFun (wides_11 x0 x1) x).trans (wides_piece x0 x1 11 (by decide) (inb_x 11 (by decide)) x),
      ⟨fun x => (congrFun (wides_10 x0 x1) x).trans (wides_piece x0 x1 10 (by decide) (inb_x 10 (by decide)) x),
      ⟨fun x => (congrFun (wides_9 x0 x1) x).trans (wides_piece x0 x1 9 (by decide) (inb_x 9 (by decide)) x),
      ⟨fun x => (congrFun (wides_8 x0 x1) x).trans (wides_piece x0 x1 8 (by decide) (inb_x 8 (by decide)) x),
      ⟨fun x => (congrFun (wides_7 x0 x1) x).trans (wides_piece x0 x1 7 (by decide) (inb_x 7 (by decide)) x),
      ⟨fun x => (congrFun (wides_6 x0 x1) x).trans (wides_piece x0 x1 6 (by decide) (inb_x 6 (by decide)) x),
      ⟨fun x => (congrFun (wides_5 x0 x1) x).trans (wides_piece x0 x1 5 (by decide) (inb_x 5 (by decide)) x),
      ⟨fun x => (congrFun (wides_4 x0 x1) x).trans (wides_piece x0 x1 4 (by decide) (inb_x 4 (by decide)) x),
      ⟨fun x => (congrFun (wides_3 x0 x1) x).trans (wides_piece x0 x1 3 (by decide) (inb_x 3 (by decide)) x),
      ⟨fun x => (congrFun (wides_2 x0 x1) x).trans (wides_piece x0 x1 2 (by decide) (inb_x 2 (by decide)) x),
      ⟨fun x => (congrFun (wides_1 x0 x1) x).trans (wides_piece x0 x1 1 (by decide) (inb_x 1 (by decide)) x),
      ⟨fun x => (congrFun (wides_0 x0 x1) x).trans (wides_piece x0 x1 0 (by decide) (inb_x 0 (by decide)) x), trivial⟩⟩⟩⟩⟩⟩⟩⟩⟩⟩⟩⟩⟩⟩⟩⟩⟩⟩⟩⟩⟩⟩⟩⟩⟩⟩⟩⟩⟩⟩⟩⟩
  · intro y
    refine View.cover_of_tiledL (s := S256x4096) _ S256x128.size ?_ y
    sl_kernel_rfl

theorem out3_eq : out0_3 x0 x1 = scalesOf x0 x1 := by
  unfold out0_3
  refine Cert.UpIdeal.Value.canon_of_piecesOf _ _ ?_ ?_
  · exact ⟨fun x => (congrFun (rows_eq x0 x1) x).trans (rows_piece x0 x1 inb_S32x256_S32x256_0_0 x), trivial⟩
  · intro y
    refine View.cover_of_tiledL (s := S32x256) _ S32x256.size ?_ y
    sl_kernel_rfl

end point

variable (m : (ℓ : Loc nD τ sig) → Buf (Elt Ideal) ℓ) (ρ : Dev nD → PrngReg)

/-- The argument arrays. -/
abbrev arr0 (c : Dev nD) : Vec Ideal S2048x4096 .bf16 := V m c (Pipeline.arrRef spec0 0)
abbrev arr1 (c : Dev nD) : Vec Ideal S1x4096 .f32 := V m c (Pipeline.arrRef spec0 1)

/-! Which block of each array a grid point takes. -/

theorem index0 : ∀ t : Fin cfg0.N, win0_0.index t = ![(grid0.coords t 0).val, 0] := (by decide +kernel : ∀ t : Fin grid0.N, win0_0.index t = ![(grid0.coords t 0).val, 0])
theorem index1 : ∀ t : Fin cfg0.N, win0_1.index t = ![0, 0] := (by decide +kernel : ∀ t : Fin grid0.N, win0_1.index t = ![0, 0])
theorem index2 : ∀ t : Fin cfg0.N, win0_2.index t = ![(grid0.coords t 0).val, 0] := (by decide +kernel : ∀ t : Fin grid0.N, win0_2.index t = ![(grid0.coords t 0).val, 0])
theorem index3 : ∀ t : Fin cfg0.N, win0_3.index t = ![0, (grid0.coords t 0).val] := (by decide +kernel : ∀ t : Fin grid0.N, win0_3.index t = ![0, (grid0.coords t 0).val])
theorem index4 : ∀ t : Fin cfg0.N, win0_4.index t = ![(grid0.coords t 0).val, 0] := (by decide +kernel : ∀ t : Fin grid0.N, win0_4.index t = ![(grid0.coords t 0).val, 0])

theorem blockRow_eq (c : Dev nD) (t : Fin cfg0.N) (r : Fin 256) (z : Fin 2048) (hz : z.val = 256 * (grid0.coords t 0).val + r.val) :
    blockRow (iblk m c 0 t) r = row (arr0 m c) z := by
  have h0 : (grid0.coords t 0).val < 8 := (grid0.coords t 0).isLt
  funext k
  unfold blockRow row
  blk_ext [iblk, index0 t]

theorem blockWeights_eq (c : Dev nD) (t : Fin cfg0.N) : blockWeights (iblk m c 1 t) = weights (arr1 m c) := by
  funext k
  unfold blockWeights weights
  blk_ext [iblk, index1 t]

theorem codesOf_eq (c : Dev nD) (t : Fin cfg0.N) (r : Fin 256) (k : Fin 4096) (z : Fin 2048) (hz : z.val = 256 * (grid0.coords t 0).val + r.val) :
    codesOf (iblk m c 0 t) (iblk m c 1 t) (ix2 r k) = resCodes (arr0 m c) (arr1 m c) (ix2 z k) := by
  show rowCode (blockRow _ r) (blockWeights _) k = rowCode (row _ z) (weights _) k
  rw [blockRow_eq m c t r z hz, blockWeights_eq]

theorem scalesOf_eq (c : Dev nD) (t : Fin cfg0.N) (n : Fin 32) (r : Fin 256) (z : Fin 2048) (hz : z.val = 256 * (grid0.coords t 0).val + r.val) :
    scalesOf (iblk m c 0 t) (iblk m c 1 t) (ix2 n r) = resScales (arr0 m c) (arr1 m c) (ix2 n z) := by
  show rowScale (blockRow _ r) (blockWeights _) n = rowScale (row _ z) (weights _) n
  rw [blockRow_eq m c t r z hz, blockWeights_eq]

theorem widesOf_eq (c : Dev nD) (t : Fin cfg0.N) (r : Fin 256) (k : Fin 4096) (z : Fin 2048) (hz : z.val = 256 * (grid0.coords t 0).val + r.val) :
    widesOf (iblk m c 0 t) (iblk m c 1 t) (ix2 r k) = resWide (arr0 m c) (arr1 m c) (ix2 z k) := by
  show rowWide (blockRow _ r) (blockWeights _) k = rowWide (row _ z) (weights _) k
  rw [blockRow_eq m c t r z hz, blockWeights_eq]

/-! ## The arrays after the run -/

theorem arrAt2_eq (c : Dev nD) : (dats m 0 c).arrAt 2 cfg0.N = resCodes (arr0 m c) (arr1 m c) := by
  refine (dats m 0 c).arrAt_eq_of_covers 2 _ (by decide +kernel) fun t hf y => ?_
  blk_simp
  rw [after0_2, out2_eq]
  have h0 : (grid0.coords t 0).val < 8 := (grid0.coords t 0).isLt
  obtain ⟨r, k, rfl⟩ : ∃ (r : Fin 256) (k : Fin 4096), y = ix2 r k := ⟨y 0, y 1, (ix2_eta y).symm⟩
  refine (codesOf_eq m c t r k ⟨256 * (grid0.coords t 0).val + r.val, by omega⟩ rfl).trans (congrArg (resCodes _ _) ?_)
  blk_ext [index2 t]

theorem arrAt3_eq (c : Dev nD) : (dats m 0 c).arrAt 3 cfg0.N = resScales (arr0 m c) (arr1 m c) := by
  refine (dats m 0 c).arrAt_eq_of_covers 3 _ (by decide +kernel) fun t hf y => ?_
  blk_simp
  rw [after0_3, out3_eq]
  have h0 : (grid0.coords t 0).val < 8 := (grid0.coords t 0).isLt
  obtain ⟨n, r, rfl⟩ : ∃ (n : Fin 32) (r : Fin 256), y = ix2 n r := ⟨y 0, y 1, (ix2_eta y).symm⟩
  refine (scalesOf_eq m c t n r ⟨256 * (grid0.coords t 0).val + r.val, by omega⟩ rfl).trans (congrArg (resScales _ _) ?_)
  blk_ext [index3 t]

theorem arrAt4_eq (c : Dev nD) : (dats m 0 c).arrAt 4 cfg0.N = resWide (arr0 m c) (arr1 m c) := by
  refine (dats m 0 c).arrAt_eq_of_covers 4 _ (by decide +kernel) fun t hf y => ?_
  blk_simp
  rw [after0_4, out4_eq]
  have h0 : (grid0.coords t 0).val < 8 := (grid0.coords t 0).isLt
  obtain ⟨r, k, rfl⟩ : ∃ (r : Fin 256) (k : Fin 4096), y = ix2 r k := ⟨y 0, y 1, (ix2_eta y).symm⟩
  refine (widesOf_eq m c t r k ⟨256 * (grid0.coords t 0).val + r.val, by omega⟩ rfl).trans (congrArg (resWide _ _) ?_)
  blk_ext [index4 t]

/-- The run: each result array at its closed form of the arguments, the arguments kept. -/
theorem run_eq : θ_run defs (onTc (τ := τ) (main (F := Ideal))) ⟨m, fun _ => 0, ρ⟩ fun r => ∀ c : Dev nD,
      r.2.mem ((c : Thread nD τ).loc main_v0_0) = resCodes (m ((c : Thread nD τ).loc main_arg0)) (m ((c : Thread nD τ).loc main_arg1))
      ∧ r.2.mem ((c : Thread nD τ).loc main_v0_1) = resScales (m ((c : Thread nD τ).loc main_arg0)) (m ((c : Thread nD τ).loc main_arg1))
      ∧ r.2.mem ((c : Thread nD τ).loc main_v0_2) = resWide (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arrAt2_eq m c), (h c).2.1.trans (arrAt3_eq m c), (h c).2.2.1.trans (arrAt4_eq m c), (h c).2.2.2⟩) (run_blocks m ρ)

end Cert.NormIdeal.Value

end
-- ==== Proof.MeanRoot.lean ====
/- Dividing by the root of a row's mean square is multiplying by its reciprocal root, over the extended reals: the mean square plus epsilon is positive, and at infinity both are zero. -/
module

public import proofs.«01_k».proof.Proof.NormTile

@[expose] public section

noncomputable section

namespace Cert.NormValue

open Idealize.ShloMosaic

theorem ofBits_width : Ideal.ofBits .f32 0x45800000#32 = ((4096 : ℝ) : EReal) := by
  simp [Ideal.ofBits, Ideal.ieee, -EReal.coe_mul]; norm_num
theorem ofBits_inv_width : Ideal.ofBits .f32 0x39800000#32 = ((1 / 4096 : ℝ) : EReal) := by
  simp [Ideal.ofBits, Ideal.ieee, -EReal.coe_mul]; norm_num
theorem ofBits_eps : ∃ c : ℝ, 0 < c ∧ Ideal.ofBits .f32 0x358637BD#32 = (c : EReal) := by
  refine ⟨_, ?_, by simp [Ideal.ofBits, Ideal.ieee, -EReal.coe_mul]; rfl⟩
  positivity

theorem square_nonneg (x : EReal) : 0 ≤ x * x := by
  rcases le_total 0 x with h | h
  · exact EReal.mul_nonneg h h
  · have h' : 0 ≤ -x := EReal.neg_nonneg.mpr h
    have := EReal.mul_nonneg h' h'
    rwa [EReal.neg_mul, mul_comm, EReal.neg_mul, neg_neg] at this

theorem squares_nonneg (v : Fin 4096 → EReal) : 0 ≤ ∑ k, v k * v k := Finset.sum_nonneg fun k _ => square_nonneg (v k)

/-- Division by the root of a positive value is multiplication by its reciprocal root. -/
theorem div_sqrt {y : EReal} (hy : 0 < y) (x : EReal) : Ideal.div x (Ideal.sqrt y) = x * Ideal.rsqrt y := by
  induction y with
  | bot => exact absurd hy (by simp)
  | top =>
    show Ideal.div x ⊤ = x * 0
    rw [Ideal.div, if_neg (by simp), EReal.inv_top]
  | coe r =>
    have hr : 0 < r := by exact_mod_cast hy
    show Ideal.div x (if r < 0 then (⊥ : EReal) else (Real.sqrt r : EReal)) = x * (if r < 0 then (⊥ : EReal) else if r = 0 then (⊤ : EReal) else (((Real.sqrt r)⁻¹ : ℝ) : EReal))
    rw [if_neg (not_lt.mpr hr.le), if_neg (not_lt.mpr hr.le), if_neg hr.ne', Ideal.div_coe (Real.sqrt_pos.mpr hr).ne', one_div]

/-- A value of a row over the root of the row's mean square, as the reference has it. -/
theorem div_root (v : Fin 4096 → EReal) (x : EReal) :
    Ideal.div x (Ideal.sqrt (Ideal.div (∑ k, v k * v k) (Ideal.ofBits .f32 0x45800000#32) + Ideal.ofBits .f32 0x358637BD#32)) = x * rootOf v := by
  obtain ⟨c, hc, hcc⟩ := ofBits_eps
  rw [rootOf, ofBits_width, ofBits_inv_width, Ideal.div_coe (by norm_num), div_sqrt]
  rw [hcc]
  have h0 : 0 ≤ (∑ k, v k * v k) * ((1 / 4096 : ℝ) : EReal) := EReal.mul_nonneg (squares_nonneg v) (by exact_mod_cast (by norm_num : (0 : ℝ) ≤ 1 / 4096))
  exact lt_of_lt_of_le (by exact_mod_cast hc : (0 : EReal) < (c : EReal)) (le_add_of_nonneg_left h0)

end Cert.NormValue

end
-- ==== Proof.NormRefRun.lean ====
/- The run of the reference of `norm1`: its one point leaves each output array whole, at the payload that it stores. -/
module

public import proofs.«01_k».proof.Proof.Gen.NormRefIdeal.Frame
public import Idealize.ShloMosaic.Lib.Pipeline.Value

@[expose] public section

noncomputable section

namespace Cert.NormRefIdeal.Hand

open Cert.NormRefIdeal Cert.NormRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_2) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S2048x4096.Idx) : ((cfg0.win 0).blk t).view.emb j = j := by
  obtain ⟨e0, e1⟩ := idx_zero0 t
  funext a; apply Fin.ext
  match a with
  | ⟨0, _⟩ => show win0_0.index t (0 : Fin 2) * 2048 + 1 * (j 0).val = (j 0).val; omega
  | ⟨1, _⟩ => show win0_0.index t (1 : Fin 2) * 4096 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1x4096.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 4096 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S2048x4096.Idx) : ((cfg0.win 2).blk t).view.emb j = j := by
  obtain ⟨e0, e1⟩ := idx_zero2 t
  funext a; apply Fin.ext
  match a with
  | ⟨0, _⟩ => show win0_2.index t (0 : Fin 2) * 2048 + 1 * (j 0).val = (j 0).val; omega
  | ⟨1, _⟩ => show win0_2.index t (1 : Fin 2) * 4096 + 1 * (j 1).val = (j 1).val; omega

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S32x2048.Idx) : ((cfg0.win 3).blk t).view.emb j = j := by
  obtain ⟨e0, e1⟩ := idx_zero3 t
  funext a; apply Fin.ext
  match a with
  | ⟨0, _⟩ => show win0_3.index t (0 : Fin 2) * 32 + 1 * (j 0).val = (j 0).val; omega
  | ⟨1, _⟩ => show win0_3.index t (1 : Fin 2) * 2048 + 1 * (j 1).val = (j 1).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S2048x4096.Idx) : ((cfg0.win 4).blk t).view.emb j = j := by
  obtain ⟨e0, e1⟩ := idx_zero4 t
  funext a; apply Fin.ext
  match a with
  | ⟨0, _⟩ => show win0_4.index t (0 : Fin 2) * 2048 + 1 * (j 0).val = (j 0).val; omega
  | ⟨1, _⟩ => show win0_4.index t (1 : Fin 2) * 4096 + 1 * (j 1).val = (j 1).val; omega

/-! ### Output window 2: the array after the run -/

/-- What the window's array ends holding: `out0_2` applied to the argument arrays in place of the input blocks (a value that the
    frame states apart, `kK_payN a…`, keeps its loads inside its own definition). -/
abbrev G2 (a0 : Vec F S2048x4096 .bf16) (a1 : Vec F S1x4096 .f32) : Vec F S2048x4096 .fp8e4m3 :=
  k0_pay1 (k0_pay8 a0 a1)

/-- The one store through the whole rectangle leaves its payload. -/
theorem out2_eq (a0 : Vec F S2048x4096 .bf16) (a1 : Vec F S1x4096 .f32) : out0_2 (F := F) a0 a1 = G2 a0 a1 := by
  unfold out0_2
  rw [View.canon_unit_zero hz2]

/-- Cutting the point's block out of `X` and reading `X` through the block's view give the same. -/
theorem cut2_eq (t : Fin cfg0.N) (X : Vec F S2048x4096 .fp8e4m3) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0) (V m c main_arg1)) := by
  show (cfg0.win 2).cut (grid0.coords t) ((dats m 0 c).after 2 t) = _
  rw [after0_2, out2_eq, iblk0_eq, iblk1_eq]
  exact cut2_eq t _

/-- Every index of the array is in the point's block. -/
theorem covered2 (i : S2048x4096.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) (m ((c : Thread nD τ).loc main_arg1)) :=
  ((dats m 0 c).arrAt_eq_of_cover 2 (G2 (V m c main_arg0) (V m c main_arg1)) (fun t _ => flushed2_eq m c t) covered2).trans (by rw [V_main_arg0, V_main_arg1])

/-! ### Output window 3: the array after the run -/

/-- What the window's array ends holding: `out0_3` applied to the argument arrays in place of the input blocks (a value that the
    frame states apart, `kK_payN a…`, keeps its loads inside its own definition). -/
abbrev G3 (a0 : Vec F S2048x4096 .bf16) (a1 : Vec F S1x4096 .f32) : Vec F S32x2048 .f32 :=
  k0_pay7 a0 a1

/-- The one store through the whole rectangle leaves its payload. -/
theorem out3_eq (a0 : Vec F S2048x4096 .bf16) (a1 : Vec F S1x4096 .f32) : out0_3 (F := F) a0 a1 = G3 a0 a1 := by
  unfold out0_3
  rw [View.canon_unit_zero hz3]

/-- Cutting the point's block out of `X` and reading `X` through the block's view give the same. -/
theorem cut3_eq (t : Fin cfg0.N) (X : Vec F S32x2048 .f32) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1)) := by
  show (cfg0.win 3).cut (grid0.coords t) ((dats m 0 c).after 3 t) = _
  rw [after0_3, out3_eq, iblk0_eq, iblk1_eq]
  exact cut3_eq t _

/-- Every index of the array is in the point's block. -/
theorem covered3 (i : S32x2048.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) :=
  ((dats m 0 c).arrAt_eq_of_cover 3 (G3 (V m c main_arg0) (V m c main_arg1)) (fun t _ => flushed3_eq m c t) covered3).trans (by rw [V_main_arg0, V_main_arg1])

/-! ### Output window 4: the array after the run -/

/-- What the window's array ends holding: `out0_4` applied to the argument arrays in place of the input blocks (a value that the
    frame states apart, `kK_payN a…`, keeps its loads inside its own definition). -/
abbrev G4 (a0 : Vec F S2048x4096 .bf16) (a1 : Vec F S1x4096 .f32) : Vec F S2048x4096 .bf16 :=
  k0_pay2 (k0_pay7 a0 a1) (k0_pay8 a0 a1)

/-- The one store through the whole rectangle leaves its payload. -/
theorem out4_eq (a0 : Vec F S2048x4096 .bf16) (a1 : Vec F S1x4096 .f32) : out0_4 (F := F) a0 a1 = G4 a0 a1 := by
  unfold out0_4
  rw [View.canon_unit_zero hz4]

/-- Cutting the point's block out of `X` and reading `X` through the block's view give the same. -/
theorem cut4_eq (t : Fin cfg0.N) (X : Vec F S2048x4096 .bf16) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1)) := by
  show (cfg0.win 4).cut (grid0.coords t) ((dats m 0 c).after 4 t) = _
  rw [after0_4, out4_eq, iblk0_eq, iblk1_eq]
  exact cut4_eq t _

/-- Every index of the array is in the point's block. -/
theorem covered4 (i : S2048x4096.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) :=
  ((dats m 0 c).arrAt_eq_of_cover 4 (G4 (V m c main_arg0) (V m c main_arg1)) (fun t _ => flushed4_eq m c t) covered4).trans (by rw [V_main_arg0, V_main_arg1])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_v0_1) = G3 (m ((c : Thread nD τ).loc main_arg0)) (m ((c : Thread nD τ).loc main_arg1))
      ∧ r.2.mem ((c : Thread nD τ).loc main_v0_2) = G4 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      (post4 m r h c).trans (final4 m c),
      kept_main_arg0 m r h c,
      kept_main_arg1 m r h c⟩)
    (run_main m ρ)

end Cert.NormRefIdeal.Hand

end
-- ==== Proof.NormRefValue.lean ====
/- The reference of `norm1` leaves the closed forms. -/
module

public import proofs.«01_k».proof.Proof.NormClosed
public import proofs.«01_k».proof.Proof.MeanRoot
public import proofs.«01_k».proof.Proof.NormRefRun
public import Idealize.ShloMosaic.Lib.Pipeline.ValueKit
public import Idealize.ShloMosaic.Lib.Pointwise

@[expose] public section

set_option maxRecDepth 16384

noncomputable section

namespace Cert.NormRefIdeal.Hand

open Cert.NormRefIdeal Cert.NormRefIdeal.Gen Idealize.ShloMosaic Idealize.ShloMosaic.TcCoe Idealize.SL.Sem
open Cert.UpValue Cert.NormValue

variable (a0 : Vec Ideal S2048x4096 .bf16) (a1 : Vec Ideal S1x4096 .f32)

/-- The normed rows in groups. -/
theorem pay3_at (n : Fin 32) (r : Fin 2048) (x : Fin 128) : k0_pay3 a0 a1 (ix3 n r x) = group (row a0 r) (weights a1) n x := by
  show _ = row a0 r ⟨128 * n.val + x.val, _⟩ * rootOf (row a0 r) * weights a1 ⟨128 * n.val + x.val, _⟩
  rw [← div_root]
  pointwise [k0_pay3, row, weights, Ideal.ofBits_zero_f32]
  simp only [Nat.mul_comm n.val 128]

/-- The largest magnitude of each group as the reference computes it, -/
def amaxOf (p : FVec Ideal S32x2048x128 .f32) : FVec Ideal S32x2048 .f32 :=
  multiReduction .maximumf [2] S32x2048 (absf p) 0xFF800000#32 reduces_S32x2048x128_S32x2048 (.inl rfl) rfl

theorem amaxOf_at (p : FVec Ideal S32x2048x128 .f32) (n : Fin 32) (r : Fin 2048) : amaxOf p (ix2 n r)
    = Finset.fold max (Ideal.ofBits .f32 0xFF800000#32) (fun x : Fin 128 => (FloatOps.absf (F := Ideal) (φ := .f32) (p (ix3 n r x)) : EReal)) Finset.univ := by
  pointwise [amaxOf]

/-- and the exponent of its scale, from the magnitude. -/
def exponentOf (p : FVec Ideal S32x2048 .f32) : FVec Ideal S32x2048 .f32 :=
  select (cmpf .oeq p (broadcast S32x2048 (Scalar.ofBits .f32 0x00000000#32))) (broadcast S32x2048 (Scalar.ofBits .f32 0x00000000#32))
    (addf (floor (divf (log (mulf p (broadcast S32x2048 (Scalar.ofBits .f32 0x3B124925#32)))) (log (broadcast S32x2048 (Scalar.ofBits .f32 0x40000000#32)))))
      (broadcast S32x2048 (Scalar.ofBits .f32 0x3F800000#32)))

theorem exponentOf_at (p : FVec Ideal S32x2048 .f32) (j : S32x2048.Idx) : exponentOf p j = GroupScale.exponent (p j * Ideal.ofBits .f32 0x3B124925#32) := by
  obtain ⟨c, hc, hcc⟩ := GroupScale.ofBits_step
  pointwise [exponentOf, GroupScale.exponent, GroupScale.floorLog]
  rw [hcc, GroupScale.ofBits_two]
  simp only [GroupScale.mul_pos_eq_zero hc]

theorem pay4_eq : k0_pay4 a0 a1 = exponentOf (amaxOf (k0_pay3 a0 a1)) := rfl

theorem exponent_at (n : Fin 32) (r : Fin 2048) : k0_pay4 a0 a1 (ix2 n r) = GroupScale.exponent (step (group (row a0 r) (weights a1) n)) := by
  rw [pay4_eq, exponentOf_at, amaxOf_at, step]
  simp only [pay3_at]

theorem exp2_at (e : FVec Ideal S32x2048 .f32) (j : S32x2048.Idx) : (exp2 e : FVec Ideal S32x2048 .f32) j = Ideal.exp2 (e j) := rfl

theorem pay5_eq : k0_pay5 a0 a1 = exp2 (k0_pay4 a0 a1) := rfl

theorem pay5_at (j : S32x2048.Idx) : k0_pay5 a0 a1 j = Ideal.exp2 (k0_pay4 a0 a1 j) :=
  (congrFun (pay5_eq a0 a1) j).trans (exp2_at _ j)

theorem scales_at (n : Fin 32) (r : Fin 2048) : k0_pay5 a0 a1 (ix2 n r) = rowScale (row a0 r) (weights a1) n := by
  rw [pay5_at]
  rw [exponent_at]; rfl

/-- The codes in groups, of any groups `p` and exponents `e`. -/
def codesIn (p : FVec Ideal S32x2048x128 .f32) (e : FVec Ideal S32x2048 .f32) : FVec Ideal S32x2048x128 .fp8e4m3 :=
  truncf .fp8e4m3 (minimumf (broadcast S32x2048x128 (Scalar.ofBits .f32 0x43E00000#32)) (maximumf (broadcast S32x2048x128 (Scalar.ofBits .f32 0xC3E00000#32))
    (mulf p (broadcastTo S32x2048x128 (shapeCast S32x2048x1 (exp2 (subf (broadcast S32x2048 (Scalar.ofBits .f32 0x00000000#32)) e)) shapeCasts_S32x2048_S32x2048x1) broadcasts_S32x2048x1_S32x2048x128)))) bitsLt_fp8e4m3_f32

theorem codesIn_at (p : FVec Ideal S32x2048x128 .f32) (e : FVec Ideal S32x2048 .f32) (n : Fin 32) (r : Fin 2048) (x : Fin 128) :
    codesIn p e (ix3 n r x) = min (Ideal.ofBits .f32 0x43E00000#32) (max (Ideal.ofBits .f32 0xC3E00000#32) (p (ix3 n r x) * Ideal.exp2 (0 - e (ix2 n r)))) := by
  pointwise [codesIn]
  rfl

theorem pay6_eq : k0_pay6 a0 a1 = codesIn (k0_pay3 a0 a1) (k0_pay4 a0 a1) := rfl

theorem codes_at (n : Fin 32) (r : Fin 2048) (x : Fin 128) : k0_pay6 a0 a1 (ix3 n r x) = code (group (row a0 r) (weights a1) n) (group (row a0 r) (weights a1) n x) := by
  rw [pay6_eq, codesIn_at, exponent_at, pay3_at]; rfl

theorem pay1_at (q : FVec Ideal S32x2048x128 .fp8e4m3) (r : Fin 2048) (c : Fin 4096) : k0_pay1 q (ix2 r c) = q (ix3 ⟨c.val / 128, by omega⟩ r ⟨c.val % 128, by omega⟩) := by
  pointwise [k0_pay1]

theorem pay2_at (s : FVec Ideal S32x2048 .f32) (q : FVec Ideal S32x2048x128 .fp8e4m3) (r : Fin 2048) (c : Fin 4096) :
    k0_pay2 s q (ix2 r c) = q (ix3 ⟨c.val / 128, by omega⟩ r ⟨c.val % 128, by omega⟩) * s (ix2 ⟨c.val / 128, by omega⟩ r) := by
  pointwise [k0_pay2]

theorem group_column (f g : Fin 4096 → EReal) (c : Fin 4096) : group f g ⟨c.val / 128, by omega⟩ ⟨c.val % 128, by omega⟩ = norm f g c :=
  congrArg (norm f g) (Fin.ext (by show 128 * (c.val / 128) + c.val % 128 = c.val; omega))

theorem rowCode_at (r : Fin 2048) (c : Fin 4096) : k0_pay6 a0 a1 (ix3 ⟨c.val / 128, by omega⟩ r ⟨c.val % 128, by omega⟩) = rowCode (row a0 r) (weights a1) c := by
  rw [codes_at, group_column]; rfl

/-- The stored payloads are the closed forms. -/
theorem codes_eq : k0_pay1 (k0_pay6 a0 a1) = resCodes a0 a1 := by
  funext j
  obtain ⟨r, c, rfl⟩ : ∃ (r : Fin 2048) (c : Fin 4096), j = ix2 r c := ⟨j 0, j 1, (ix2_eta j).symm⟩
  rw [pay1_at, rowCode_at]; rfl

theorem scales_eq : k0_pay5 a0 a1 = resScales a0 a1 := by
  funext j
  obtain ⟨n, r, rfl⟩ : ∃ (n : Fin 32) (r : Fin 2048), j = ix2 n r := ⟨j 0, j 1, (ix2_eta j).symm⟩
  rw [scales_at]; rfl

theorem wide_eq : k0_pay2 (k0_pay5 a0 a1) (k0_pay6 a0 a1) = resWide a0 a1 := by
  funext j
  obtain ⟨r, c, rfl⟩ : ∃ (r : Fin 2048) (c : Fin 4096), j = ix2 r c := ⟨j 0, j 1, (ix2_eta j).symm⟩
  rw [pay2_at, rowCode_at, scales_at]; rfl

/-! The loads of whole arrays are the arrays. -/

theorem ld0 : View.ld a0 r0_0 = a0 := by funext j; exact congrArg a0 (show (Rect.unit (s := _) ![0, 0] _ _).emb j = j by blk_ext)
theorem ld1 : View.ld a1 r0_1 = a1 := by funext j; exact congrArg a1 (show (Rect.unit (s := _) ![0, 0] _ _).emb j = j by blk_ext)

theorem G2_eq : G2 a0 a1 = resCodes a0 a1 := by
  unfold G2 k0_pay8
  rw [ld0, ld1, codes_eq]
theorem G3_eq : G3 a0 a1 = resScales a0 a1 := by
  unfold G3 k0_pay7
  rw [ld0, ld1, scales_eq]
theorem G4_eq : G4 a0 a1 = resWide a0 a1 := by
  unfold G4 k0_pay7 k0_pay8
  rw [ld0, ld1, wide_eq]

end Cert.NormRefIdeal.Hand

end
-- ==== Proof.OprojTile.lean ====
/- The tiles of one grid point of `oproj`: the widened weight blocks, the tiles of h1 and the groups of the normed rows, what they are loaded from, and lists of their stores. -/
module

public import proofs.«01_k».proof.Proof.NormTile
public import proofs.«01_k».proof.Proof.DownValue
public import proofs.«01_k».proof.Proof.Gen.OprojIdeal.Frame

@[expose] public section

set_option maxRecDepth 65536

noncomputable section

namespace Cert.OprojIdeal.Value

open Cert.OprojIdeal Cert.OprojIdeal.Gen Idealize.ShloMosaic Idealize.ShloMosaic.TcCoe Idealize.SL.Sem
open Cert.NormValue
open Cert.DownIdeal.Value (block)

/-! ## Boxes -/

theorem inb_tile (n : ℕ) (h : n < 8) : ∀ k, (![0, 512 * n] : Fin 2 → ℕ) k + (![256, 512] : Fin 2 → ℕ) k ≤ S256x4096.size k := by
  intro k; fin_cases k <;> simp; omega
theorem inb_cols (n : ℕ) (h : n < 8) : ∀ k, (![0, 512 * n] : Fin 2 → ℕ) k + (![2048, 512] : Fin 2 → ℕ) k ≤ S2048x4096.size k := by
  intro k; fin_cases k <;> simp; omega
theorem inb_acts : ∀ k, (![0, 0] : Fin 2 → ℕ) k + (![256, 2048] : Fin 2 → ℕ) k ≤ S256x2048.size k := by
  intro k; fin_cases k <;> simp
theorem inb_group (n : ℕ) (h : n < 32) : ∀ k, (![0, 128 * n] : Fin 2 → ℕ) k + (![256, 128] : Fin 2 → ℕ) k ≤ S256x4096.size k := by
  intro k; fin_cases k <;> simp; omega
theorem inb_weights (n : ℕ) (h : n < 32) : ∀ k, (![0, 128 * n] : Fin 2 → ℕ) k + (![1, 128] : Fin 2 → ℕ) k ≤ S1x4096.size k := by
  intro k; fin_cases k <;> simp; omega
theorem inb_block (n : ℕ) (h : n < 512) : ∀ k, (![128 * (n / 32), 128 * (n % 32)] : Fin 2 → ℕ) k + (![128, 128] : Fin 2 → ℕ) k ≤ S2048x4096.size k := by
  intro k; fin_cases k <;> simp <;> omega
theorem inb_scale (n : ℕ) (h : n < 512) : ∀ k, (![n / 32, n % 32] : Fin 2 → ℕ) k + (![1, 1] : Fin 2 → ℕ) k ≤ S16x32.size k := by
  intro k; fin_cases k <;> simp <;> omega
theorem inb_rows : ∀ k, (![0, 0] : Fin 2 → ℕ) k + (![32, 256] : Fin 2 → ℕ) k ≤ S32x256.size k := by
  intro k; fin_cases k <;> simp

/-! ## Lists of stores, the last first -/

variable {e : EltTy}

/-- Tiles of 512 columns, -/
def tilePieces (f : ∀ n, n < 8 → S256x512.Idx → Elt Ideal e) : (n : ℕ) → n ≤ 8 → List (View.Piece (Elt Ideal) S256x4096 e)
  | 0, _ => []
  | n + 1, h => ⟨Rect.unit (s := S256x4096) ![0, 512 * n] ![256, 512] (inb_tile n h), f n h⟩ :: tilePieces f n (Nat.le_of_succ_le h)

/-- groups of 128 columns, -/
def groupPieces (f : ℕ → S256x128.Idx → Elt Ideal e) : (n : ℕ) → n ≤ 32 → List (View.Piece (Elt Ideal) S256x4096 e)
  | 0, _ => []
  | n + 1, h => ⟨Rect.unit (s := S256x4096) ![0, 128 * n] ![256, 128] (inb_group n h), f n⟩ :: groupPieces f n (Nat.le_of_succ_le h)

/-- and blocks of the weights. -/
def blockPieces (f : ∀ n, n < 512 → S128x128.Idx → Elt Ideal e) : (n : ℕ) → n ≤ 512 → List (View.Piece (Elt Ideal) S2048x4096 e)
  | 0, _ => []
  | n + 1, h => ⟨Rect.unit (s := S2048x4096) ![128 * (n / 32), 128 * (n % 32)] ![128, 128] (inb_block n h), f n h⟩ :: blockPieces f n (Nat.le_of_succ_le h)

theorem tilePieces_of (G : S256x4096.Idx → Elt Ideal e) (f : ∀ n, n < 8 → S256x512.Idx → Elt Ideal e)
    (hf : ∀ n h x, f n h x = G ((Rect.unit (s := S256x4096) ![0, 512 * n] ![256, 512] (inb_tile n h)).emb x)) : ∀ n h, View.PiecesOf G (tilePieces f n h)
  | 0, _ => trivial
  | n + 1, h => ⟨hf n h, tilePieces_of G f hf n _⟩

theorem groupPieces_of (G : S256x4096.Idx → Elt Ideal e) (f : ℕ → S256x128.Idx → Elt Ideal e)
    (hf : ∀ n h x, f n x = G ((Rect.unit (s := S256x4096) ![0, 128 * n] ![256, 128] (inb_group n h)).emb x)) : ∀ n h, View.PiecesOf G (groupPieces f n h)
  | 0, _ => trivial
  | n + 1, h => ⟨hf n h, groupPieces_of G f hf n _⟩

theorem blockPieces_of (G : S2048x4096.Idx → Elt Ideal e) (f : ∀ n, n < 512 → S128x128.Idx → Elt Ideal e)
    (hf : ∀ n h x, f n h x = G ((Rect.unit (s := S2048x4096) ![128 * (n / 32), 128 * (n % 32)] ![128, 128] (inb_block n h)).emb x)) : ∀ n h, View.PiecesOf G (blockPieces f n h)
  | 0, _ => trivial
  | n + 1, h => ⟨hf n h, blockPieces_of G f hf n _⟩

theorem group_cons (n : ℕ) (h : n < 32) {p : S256x128.Idx → Elt Ideal e} {f : ℕ → S256x128.Idx → Elt Ideal e} {L : List (View.Piece (Elt Ideal) S256x4096 e)} (hp : p = f n)
    (hL : L = groupPieces f n (Nat.le_of_lt h)) :
    (⟨Rect.unit (s := S256x4096) ![0, 128 * n] ![256, 128] (inb_group n h), p⟩ : View.Piece (Elt Ideal) S256x4096 e) :: L = groupPieces f (n + 1) h := by
  subst hp hL; rfl

/-! ## The tiles -/

/-- A tile of h1: the input tile plus the activations times the widened columns. -/
def h1Tile (x : Vec Ideal S256x512 .bf16) (a : Vec Ideal S256x2048 .bf16) (w : Vec Ideal S2048x512 .bf16) : FVec Ideal S256x512 .f32 :=
  addf (extf .f32 x bitsLt_bf16_f32) (matmul (φ₁ := .bf16) (φ₂ := .bf16) dot_S256x2048_S2048x512_S256x512_1_0_0_1_n_n none a w (constant S256x512 .f32 0x00000000#32))

/-- A group of the normed rows. -/
def gAt (v : ℕ → FVec Ideal S256x128 .f32) (w : ℕ → FVec Ideal S1x128 .f32) (n : ℕ) : FVec Ideal S256x128 .f32 := normed (rootFrom (sumSq v 32)) (v n) (w n)

/-! ## The loads -/

def xLoad (M : Memref sig .tc .vmem S256x4096 .bf16) (hM : M.IsWhole) (x : Vec Ideal S256x4096 .bf16) (n : ℕ) (h : n < 8) : Vec Ideal S256x512 .bf16 :=
  View.readAt (Elt Ideal) M.view (Rect.unit (s := S256x4096) ![0, 512 * n] ![256, 512] (inb_tile n h)).toLoadRect (hM.unread x)
def aLoad (M : Memref sig .tc .vmem S256x2048 .bf16) (hM : M.IsWhole) (x : Vec Ideal S256x2048 .bf16) : Vec Ideal S256x2048 .bf16 :=
  View.readAt (Elt Ideal) M.view (Rect.unit (s := S256x2048) ![0, 0] ![256, 2048] inb_acts).toLoadRect (hM.unread x)
def sLoad (M : Memref sig .tc .vmem S2048x4096 .bf16) (hM : M.IsWhole) (x : Vec Ideal S2048x4096 .bf16) (n : ℕ) (h : n < 8) : Vec Ideal S2048x512 .bf16 :=
  View.readAt (Elt Ideal) M.view (Rect.unit (s := S2048x4096) ![0, 512 * n] ![2048, 512] (inb_cols n h)).toLoadRect (hM.unread x)
/-- The columns loaded back from the blocks just stored. -/
def sBack (M : Memref sig .tc .vmem S2048x4096 .bf16) (L : List (View.Piece (Elt Ideal) S2048x4096 .bf16)) (n : ℕ) (h : n < 8) : Vec Ideal S2048x512 .bf16 :=
  M.view.readCov L (Rect.unit (s := S2048x4096) ![0, 512 * n] ![2048, 512] (inb_cols n h)).toLoadRect
def wAt (M : Memref sig .tc .vmem S1x4096 .f32) (hM : M.IsWhole) (x : Vec Ideal S1x4096 .f32) (n : ℕ) : FVec Ideal S1x128 .f32 :=
  if h : n < 32 then View.readAt (Elt Ideal) M.view (Rect.unit (s := S1x4096) ![0, 128 * n] ![1, 128] (inb_weights n h)).toLoadRect (hM.unread x)
  else broadcast S1x128 (Scalar.ofBits .f32 0x00000000#32)
/-- The groups of h1 loaded back from the tiles just stored. -/
def vAt (M : Memref sig .tc .vmem S256x4096 .f32) (L : List (View.Piece (Elt Ideal) S256x4096 .f32)) (n : ℕ) : FVec Ideal S256x128 .f32 :=
  if h : n < 32 then M.view.readCov L (Rect.unit (s := S256x4096) ![0, 128 * n] ![256, 128] (inb_group n h)).toLoadRect
  else broadcast S256x128 (Scalar.ofBits .f32 0x00000000#32)
/-- A widened block. -/
def bAt (M : Memref sig .tc .vmem S2048x4096 .fp8e4m3) (hM : M.IsWhole) (x : Vec Ideal S2048x4096 .fp8e4m3) (K : Memref sig .tc .smem S16x32 .f32) (hK : K.IsWhole) (s : Vec Ideal S16x32 .f32)
    (n : ℕ) (h : n < 512) : FVec Ideal S128x128 .bf16 :=
  block (View.readAt (Elt Ideal) K.view (Rect.unit (s := S16x32) ![n / 32, n % 32] ![1, 1] (inb_scale n h)).toLoadRect (hK.unread s) (Shape.Idx.first (numel1_S1x1.symm ▸ Nat.one_pos)))
    (View.readAt (Elt Ideal) M.view (Rect.unit (s := S2048x4096) ![128 * (n / 32), 128 * (n % 32)] ![128, 128] (inb_block n h)).toLoadRect (hM.unread x))

end Cert.OprojIdeal.Value

end
-- ==== Proof.OprojGroups.lean ====
/- The stores of one grid point of `oproj` after h1: each is the codes, or the codes times the scale, of one normed group, and the last the scales of all groups, by definition. -/
module

public import proofs.«01_k».proof.Proof.OprojTile

@[expose] public section

set_option maxRecDepth 65536

noncomputable section

namespace Cert.OprojIdeal.Value

open Cert.OprojIdeal Cert.OprojIdeal.Gen Idealize.ShloMosaic Idealize.ShloMosaic.TcCoe
open Cert.NormValue

variable (v : ℕ → FVec Ideal S256x128 .f32) (w : ℕ → FVec Ideal S1x128 .f32)

/-- The sum of the squares of the first groups, as the point computes it, -/
def sumAt : FVec Ideal S256x128 .f32 := k0_pay627 (k0_pay626 (k0_pay625 (v 0) (v 1) (v 2) (v 3) (v 4) (v 5) (v 6) (v 7) (v 8)) (v 9) (v 10) (v 11) (v 12) (v 13) (v 14) (v 15) (v 16) (v 17) (v 18)) (v 19) (v 20) (v 21) (v 22) (v 23) (v 24) (v 25) (v 26) (v 27) (v 28)

/-- and the root of the rows, as the point computes it. -/
def rootAt : FVec Ideal S256x1 .f32 := k0_pay628 (F := Ideal) (sumAt v) (v 29) (v 30) (v 31)

/-- The groups as the point uses them. -/
def cast (n : ℕ) : FVec Ideal S256x128 .f32 := shapeCast S256x128 (v n) shapeCasts_S256x128_S256x128

theorem cast_apply (n : ℕ) (j : S256x128.Idx) : cast v n j = v n j := by
  pointwise [cast]

theorem rootAt_eq : rootAt v = rootFrom (sumSq (cast v) 32) := rfl

theorem codes_31 (R : FVec Ideal S256x1 .f32) : k0_pay821 (F := Ideal) (k0_pay820 (F := Ideal) R (v 31) (w 31)) (Scalar.ofBits (F := Ideal) .f32 0xC3E00000#32) = codes (normed R (cast v 31) (w 31)) := by sl_kernel_rfl
theorem codes_30 (R : FVec Ideal S256x1 .f32) : k0_pay816 (F := Ideal) R (k0_pay813 (F := Ideal) (v 30)) (w 30) = codes (normed R (cast v 30) (w 30)) := by sl_kernel_rfl
theorem codes_29 (R : FVec Ideal S256x1 .f32) : k0_pay811 (F := Ideal) (k0_pay808 (F := Ideal) R (v 29) (w 29)) (k0_pay809 (F := Ideal) R (v 29) (w 29)) = codes (normed R (cast v 29) (w 29)) := by sl_kernel_rfl
theorem codes_28 (R : FVec Ideal S256x1 .f32) : k0_pay806 (F := Ideal) (k0_pay802 (F := Ideal) R (v 28) (w 28)) (k0_pay803 (F := Ideal) R (v 28) (w 28)) (k0_pay804 (F := Ideal) R (v 28) (w 28)) (Scalar.ofBits (F := Ideal) .f32 0x40000000#32) = codes (normed R (cast v 28) (w 28)) := by sl_kernel_rfl
theorem codes_27 (R : FVec Ideal S256x1 .f32) : k0_pay800 (F := Ideal) (k0_pay793 (F := Ideal) R (v 27) (w 27)) (k0_pay794 (F := Ideal) R (v 27) (w 27)) (k0_pay796 (F := Ideal) R (v 27) (w 27)) (k0_pay797 (F := Ideal) R (v 27) (w 27)) (k0_pay798 (F := Ideal) R (v 27) (w 27)) = codes (normed R (cast v 27) (w 27)) := by sl_kernel_rfl
theorem codes_26 (R : FVec Ideal S256x1 .f32) : k0_pay791 (F := Ideal) (k0_pay789 (F := Ideal) R (v 26) (w 26)) (k0_pay790 (F := Ideal) R (v 26) (w 26)) (Scalar.ofBits (F := Ideal) .f32 0x3F800000#32) = codes (normed R (cast v 26) (w 26)) := by sl_kernel_rfl
theorem codes_25 (R : FVec Ideal S256x1 .f32) : k0_pay787 (F := Ideal) R (v 25) (w 25) = codes (normed R (cast v 25) (w 25)) := by sl_kernel_rfl
theorem codes_24 (R : FVec Ideal S256x1 .f32) : k0_pay783 (F := Ideal) (k0_pay779 (F := Ideal) R (v 24)) (k0_pay780 (F := Ideal) (w 24)) = codes (normed R (cast v 24) (w 24)) := by sl_kernel_rfl
theorem codes_23 (R : FVec Ideal S256x1 .f32) : k0_pay777 (F := Ideal) (k0_pay772 (F := Ideal) R (v 23) (w 23)) (k0_pay773 (F := Ideal) R (v 23) (w 23)) (k0_pay774 (F := Ideal) R (v 23) (w 23)) (k0_pay775 (F := Ideal) ) = codes (normed R (cast v 23) (w 23)) := by sl_kernel_rfl
theorem codes_22 (R : FVec Ideal S256x1 .f32) : k0_pay770 (F := Ideal) (k0_pay764 (F := Ideal) R (v 22) (w 22)) (k0_pay765 (F := Ideal) R (v 22) (w 22)) (k0_pay766 (F := Ideal) R (v 22) (w 22)) (k0_pay767 (F := Ideal) R (v 22) (w 22)) (k0_pay768 (F := Ideal) R (v 22) (w 22)) = codes (normed R (cast v 22) (w 22)) := by sl_kernel_rfl
theorem codes_21 (R : FVec Ideal S256x1 .f32) : k0_pay762 (F := Ideal) (k0_pay756 (F := Ideal) R (v 21) (w 21)) (k0_pay758 (F := Ideal) R (v 21) (w 21)) (k0_pay759 (F := Ideal) R (v 21) (w 21)) (k0_pay760 (F := Ideal) ) = codes (normed R (cast v 21) (w 21)) := by sl_kernel_rfl
theorem codes_20 (R : FVec Ideal S256x1 .f32) : k0_pay754 (F := Ideal) (k0_pay753 (F := Ideal) R (v 20) (w 20)) (Scalar.ofBits (F := Ideal) .f32 0xC3E00000#32) (Scalar.ofBits (F := Ideal) .f32 0x43E00000#32) = codes (normed R (cast v 20) (w 20)) := by sl_kernel_rfl
theorem codes_19 (R : FVec Ideal S256x1 .f32) : k0_pay749 (F := Ideal) (k0_pay745 (F := Ideal) (v 19)) (k0_pay746 (F := Ideal) R) (w 19) = codes (normed R (cast v 19) (w 19)) := by sl_kernel_rfl
theorem codes_18 (R : FVec Ideal S256x1 .f32) : k0_pay743 (F := Ideal) (k0_pay740 (F := Ideal) R (v 18) (w 18)) (k0_pay741 (F := Ideal) R (v 18) (w 18)) (Scalar.ofBits (F := Ideal) .f32 0x3B124925#32) = codes (normed R (cast v 18) (w 18)) := by sl_kernel_rfl
theorem codes_17 (R : FVec Ideal S256x1 .f32) : k0_pay738 (F := Ideal) (k0_pay733 (F := Ideal) R (v 17) (w 17)) (k0_pay734 (F := Ideal) R (v 17) (w 17)) (k0_pay735 (F := Ideal) R (v 17) (w 17)) (k0_pay736 (F := Ideal) ) = codes (normed R (cast v 17) (w 17)) := by sl_kernel_rfl
theorem codes_16 (R : FVec Ideal S256x1 .f32) : k0_pay731 (F := Ideal) (k0_pay727 (F := Ideal) R (v 16) (w 16)) (k0_pay728 (F := Ideal) R (v 16) (w 16)) (k0_pay729 (F := Ideal) R (v 16) (w 16)) = codes (normed R (cast v 16) (w 16)) := by sl_kernel_rfl
theorem codes_15 (R : FVec Ideal S256x1 .f32) : k0_pay725 (F := Ideal) (k0_pay722 (F := Ideal) R (v 15) (w 15)) (k0_pay723 (F := Ideal) R (v 15) (w 15)) (k0_pay724 (F := Ideal) ) = codes (normed R (cast v 15) (w 15)) := by sl_kernel_rfl
theorem codes_14 (R : FVec Ideal S256x1 .f32) : k0_pay719 (F := Ideal) R (v 14) (w 14) = codes (normed R (cast v 14) (w 14)) := by sl_kernel_rfl
theorem codes_13 (R : FVec Ideal S256x1 .f32) : k0_pay715 (F := Ideal) (k0_pay713 (F := Ideal) R (v 13) (w 13)) = codes (normed R (cast v 13) (w 13)) := by sl_kernel_rfl
theorem codes_12 (R : FVec Ideal S256x1 .f32) : k0_pay711 (F := Ideal) (k0_pay706 (F := Ideal) R (v 12) (w 12)) (k0_pay707 (F := Ideal) R (v 12) (w 12)) (k0_pay708 (F := Ideal) R (v 12) (w 12)) (k0_pay709 (F := Ideal) ) = codes (normed R (cast v 12) (w 12)) := by sl_kernel_rfl
theorem codes_11 (R : FVec Ideal S256x1 .f32) : k0_pay704 (F := Ideal) (k0_pay697 (F := Ideal) R (v 11) (w 11)) (k0_pay698 (F := Ideal) R (v 11) (w 11)) (k0_pay699 (F := Ideal) R (v 11) (w 11)) (k0_pay700 (F := Ideal) R (v 11) (w 11)) (k0_pay701 (F := Ideal) R (v 11) (w 11)) (k0_pay702 (F := Ideal) R (v 11) (w 11)) = codes (normed R (cast v 11) (w 11)) := by sl_kernel_rfl
theorem codes_10 (R : FVec Ideal S256x1 .f32) : k0_pay695 (F := Ideal) (k0_pay690 (F := Ideal) R (v 10) (w 10)) (k0_pay692 (F := Ideal) R (v 10) (w 10)) (k0_pay693 (F := Ideal) R (v 10) (w 10)) = codes (normed R (cast v 10) (w 10)) := by sl_kernel_rfl
theorem codes_9 (R : FVec Ideal S256x1 .f32) : k0_pay688 (F := Ideal) (k0_pay686 (F := Ideal) R (v 9) (w 9)) (Scalar.ofBits (F := Ideal) .f32 0x43E00000#32) (k0_pay687 (F := Ideal) ) = codes (normed R (cast v 9) (w 9)) := by sl_kernel_rfl
theorem codes_8 (R : FVec Ideal S256x1 .f32) : k0_pay682 (F := Ideal) (k0_pay679 (F := Ideal) R (v 8)) (w 8) = codes (normed R (cast v 8) (w 8)) := by sl_kernel_rfl
theorem codes_7 (R : FVec Ideal S256x1 .f32) : k0_pay677 (F := Ideal) (k0_pay673 (F := Ideal) R (v 7) (w 7)) (k0_pay674 (F := Ideal) R (v 7) (w 7)) (k0_pay675 (F := Ideal) ) = codes (normed R (cast v 7) (w 7)) := by sl_kernel_rfl
theorem codes_6 (R : FVec Ideal S256x1 .f32) : k0_pay671 (F := Ideal) (k0_pay666 (F := Ideal) R (v 6) (w 6)) (k0_pay667 (F := Ideal) R (v 6) (w 6)) (k0_pay668 (F := Ideal) R (v 6) (w 6)) (k0_pay669 (F := Ideal) R (v 6) (w 6)) = codes (normed R (cast v 6) (w 6)) := by sl_kernel_rfl
theorem codes_5 (R : FVec Ideal S256x1 .f32) : k0_pay664 (F := Ideal) (k0_pay660 (F := Ideal) R (v 5) (w 5)) (k0_pay661 (F := Ideal) R (v 5) (w 5)) (k0_pay662 (F := Ideal) R (v 5) (w 5)) (Scalar.ofBits (F := Ideal) .f32 0x00000000#32) = codes (normed R (cast v 5) (w 5)) := by sl_kernel_rfl
theorem codes_4 (R : FVec Ideal S256x1 .f32) : k0_pay658 (F := Ideal) (k0_pay655 (F := Ideal) R (v 4) (w 4)) (k0_pay657 (F := Ideal) R (v 4) (w 4)) = codes (normed R (cast v 4) (w 4)) := by sl_kernel_rfl
theorem codes_3 (R : FVec Ideal S256x1 .f32) : k0_pay651 (F := Ideal) R (v 3) (w 3) = codes (normed R (cast v 3) (w 3)) := by sl_kernel_rfl
theorem codes_2 (R : FVec Ideal S256x1 .f32) : k0_pay647 (F := Ideal) (k0_pay644 (F := Ideal) R (v 2) (w 2)) (k0_pay645 (F := Ideal) R (v 2) (w 2)) = codes (normed R (cast v 2) (w 2)) := by sl_kernel_rfl
theorem codes_1 (R : FVec Ideal S256x1 .f32) : k0_pay642 (F := Ideal) (k0_pay638 (F := Ideal) R (v 1) (w 1)) (k0_pay639 (F := Ideal) R (v 1) (w 1)) (k0_pay640 (F := Ideal) R (v 1) (w 1)) = codes (normed R (cast v 1) (w 1)) := by sl_kernel_rfl
theorem wides_31 (R : FVec Ideal S256x1 .f32) : k0_pay822 (k0_pay819 (F := Ideal) R (v 31) (w 31)) (k0_pay820 (F := Ideal) R (v 31) (w 31)) (Scalar.ofBits (F := Ideal) .f32 0xC3E00000#32) = wides (normed R (cast v 31) (w 31)) := by sl_kernel_rfl
theorem wides_30 (R : FVec Ideal S256x1 .f32) : k0_pay817 (F := Ideal) R (k0_pay813 (F := Ideal) (v 30)) (w 30) = wides (normed R (cast v 30) (w 30)) := by sl_kernel_rfl
theorem wides_29 (R : FVec Ideal S256x1 .f32) : k0_pay812 (F := Ideal) (k0_pay808 (F := Ideal) R (v 29) (w 29)) (k0_pay809 (F := Ideal) R (v 29) (w 29)) = wides (normed R (cast v 29) (w 29)) := by sl_kernel_rfl
theorem wides_28 (R : FVec Ideal S256x1 .f32) : k0_pay807 (F := Ideal) (k0_pay802 (F := Ideal) R (v 28) (w 28)) (k0_pay803 (F := Ideal) R (v 28) (w 28)) (k0_pay804 (F := Ideal) R (v 28) (w 28)) (Scalar.ofBits (F := Ideal) .f32 0x40000000#32) = wides (normed R (cast v 28) (w 28)) := by sl_kernel_rfl
theorem wides_27 (R : FVec Ideal S256x1 .f32) : k0_pay801 (F := Ideal) (k0_pay793 (F := Ideal) R (v 27) (w 27)) (k0_pay794 (F := Ideal) R (v 27) (w 27)) (k0_pay796 (F := Ideal) R (v 27) (w 27)) (k0_pay797 (F := Ideal) R (v 27) (w 27)) (k0_pay798 (F := Ideal) R (v 27) (w 27)) = wides (normed R (cast v 27) (w 27)) := by sl_kernel_rfl
theorem wides_26 (R : FVec Ideal S256x1 .f32) : k0_pay792 (F := Ideal) (k0_pay789 (F := Ideal) R (v 26) (w 26)) (k0_pay790 (F := Ideal) R (v 26) (w 26)) (Scalar.ofBits (F := Ideal) .f32 0x3F800000#32) = wides (normed R (cast v 26) (w 26)) := by sl_kernel_rfl
theorem wides_25 (R : FVec Ideal S256x1 .f32) : k0_pay788 (F := Ideal) (k0_pay786 (F := Ideal) R (v 25) (w 25)) (k0_pay787 (F := Ideal) R (v 25) (w 25)) = wides (normed R (cast v 25) (w 25)) := by sl_kernel_rfl
theorem wides_24 (R : FVec Ideal S256x1 .f32) : k0_pay784 (F := Ideal) (k0_pay779 (F := Ideal) R (v 24)) (k0_pay780 (F := Ideal) (w 24)) = wides (normed R (cast v 24) (w 24)) := by sl_kernel_rfl
theorem wides_23 (R : FVec Ideal S256x1 .f32) : k0_pay778 (F := Ideal) (k0_pay772 (F := Ideal) R (v 23) (w 23)) (k0_pay773 (F := Ideal) R (v 23) (w 23)) (k0_pay774 (F := Ideal) R (v 23) (w 23)) (k0_pay775 (F := Ideal) ) = wides (normed R (cast v 23) (w 23)) := by sl_kernel_rfl
theorem wides_22 (R : FVec Ideal S256x1 .f32) : k0_pay771 (F := Ideal) (k0_pay764 (F := Ideal) R (v 22) (w 22)) (k0_pay765 (F := Ideal) R (v 22) (w 22)) (k0_pay766 (F := Ideal) R (v 22) (w 22)) (k0_pay767 (F := Ideal) R (v 22) (w 22)) (k0_pay768 (F := Ideal) R (v 22) (w 22)) = wides (normed R (cast v 22) (w 22)) := by sl_kernel_rfl
theorem wides_21 (R : FVec Ideal S256x1 .f32) : k0_pay763 (F := Ideal) (k0_pay756 (F := Ideal) R (v 21) (w 21)) (k0_pay758 (F := Ideal) R (v 21) (w 21)) (k0_pay759 (F := Ideal) R (v 21) (w 21)) (k0_pay760 (F := Ideal) ) = wides (normed R (cast v 21) (w 21)) := by sl_kernel_rfl
theorem wides_20 (R : FVec Ideal S256x1 .f32) : k0_pay755 (F := Ideal) (k0_pay752 (F := Ideal) R (v 20) (w 20)) (k0_pay753 (F := Ideal) R (v 20) (w 20)) (Scalar.ofBits (F := Ideal) .f32 0xC3E00000#32) (Scalar.ofBits (F := Ideal) .f32 0x43E00000#32) = wides (normed R (cast v 20) (w 20)) := by sl_kernel_rfl
theorem wides_19 (R : FVec Ideal S256x1 .f32) : k0_pay750 (F := Ideal) (k0_pay745 (F := Ideal) (v 19)) (k0_pay746 (F := Ideal) R) (w 19) = wides (normed R (cast v 19) (w 19)) := by sl_kernel_rfl
theorem wides_18 (R : FVec Ideal S256x1 .f32) : k0_pay744 (F := Ideal) (k0_pay740 (F := Ideal) R (v 18) (w 18)) (k0_pay741 (F := Ideal) R (v 18) (w 18)) (Scalar.ofBits (F := Ideal) .f32 0x3B124925#32) = wides (normed R (cast v 18) (w 18)) := by sl_kernel_rfl
theorem wides_17 (R : FVec Ideal S256x1 .f32) : k0_pay739 (F := Ideal) (k0_pay733 (F := Ideal) R (v 17) (w 17)) (k0_pay734 (F := Ideal) R (v 17) (w 17)) (k0_pay735 (F := Ideal) R (v 17) (w 17)) (k0_pay736 (F := Ideal) ) = wides (normed R (cast v 17) (w 17)) := by sl_kernel_rfl
theorem wides_16 (R : FVec Ideal S256x1 .f32) : k0_pay732 (F := Ideal) (k0_pay727 (F := Ideal) R (v 16) (w 16)) (k0_pay728 (F := Ideal) R (v 16) (w 16)) (k0_pay729 (F := Ideal) R (v 16) (w 16)) = wides (normed R (cast v 16) (w 16)) := by sl_kernel_rfl
theorem wides_15 (R : FVec Ideal S256x1 .f32) : k0_pay726 (F := Ideal) (k0_pay722 (F := Ideal) R (v 15) (w 15)) (k0_pay723 (F := Ideal) R (v 15) (w 15)) (k0_pay724 (F := Ideal) ) = wides (normed R (cast v 15) (w 15)) := by sl_kernel_rfl
theorem wides_14 (R : FVec Ideal S256x1 .f32) : k0_pay721 (F := Ideal) (k0_pay718 (F := Ideal) R (v 14) (w 14)) (k0_pay720 (F := Ideal) R (v 14) (w 14)) = wides (normed R (cast v 14) (w 14)) := by sl_kernel_rfl
theorem wides_13 (R : FVec Ideal S256x1 .f32) : k0_pay716 (F := Ideal) (k0_pay713 (F := Ideal) R (v 13) (w 13)) = wides (normed R (cast v 13) (w 13)) := by sl_kernel_rfl
theorem wides_12 (R : FVec Ideal S256x1 .f32) : k0_pay712 (F := Ideal) (k0_pay706 (F := Ideal) R (v 12) (w 12)) (k0_pay707 (F := Ideal) R (v 12) (w 12)) (k0_pay708 (F := Ideal) R (v 12) (w 12)) (k0_pay709 (F := Ideal) ) = wides (normed R (cast v 12) (w 12)) := by sl_kernel_rfl
theorem wides_11 (R : FVec Ideal S256x1 .f32) : k0_pay705 (F := Ideal) (k0_pay697 (F := Ideal) R (v 11) (w 11)) (k0_pay698 (F := Ideal) R (v 11) (w 11)) (k0_pay699 (F := Ideal) R (v 11) (w 11)) (k0_pay700 (F := Ideal) R (v 11) (w 11)) (k0_pay701 (F := Ideal) R (v 11) (w 11)) (k0_pay702 (F := Ideal) R (v 11) (w 11)) = wides (normed R (cast v 11) (w 11)) := by sl_kernel_rfl
theorem wides_10 (R : FVec Ideal S256x1 .f32) : k0_pay696 (F := Ideal) (k0_pay690 (F := Ideal) R (v 10) (w 10)) (k0_pay692 (F := Ideal) R (v 10) (w 10)) (k0_pay693 (F := Ideal) R (v 10) (w 10)) = wides (normed R (cast v 10) (w 10)) := by sl_kernel_rfl
theorem wides_9 (R : FVec Ideal S256x1 .f32) : k0_pay689 (F := Ideal) (k0_pay685 (F := Ideal) R (v 9) (w 9)) (k0_pay686 (F := Ideal) R (v 9) (w 9)) (Scalar.ofBits (F := Ideal) .f32 0x43E00000#32) (k0_pay687 (F := Ideal) ) = wides (normed R (cast v 9) (w 9)) := by sl_kernel_rfl
theorem wides_8 (R : FVec Ideal S256x1 .f32) : k0_pay683 (F := Ideal) (k0_pay679 (F := Ideal) R (v 8)) (w 8) = wides (normed R (cast v 8) (w 8)) := by sl_kernel_rfl
theorem wides_7 (R : FVec Ideal S256x1 .f32) : k0_pay678 (F := Ideal) (k0_pay673 (F := Ideal) R (v 7) (w 7)) (k0_pay674 (F := Ideal) R (v 7) (w 7)) (k0_pay675 (F := Ideal) ) = wides (normed R (cast v 7) (w 7)) := by sl_kernel_rfl
theorem wides_6 (R : FVec Ideal S256x1 .f32) : k0_pay672 (F := Ideal) (k0_pay666 (F := Ideal) R (v 6) (w 6)) (k0_pay667 (F := Ideal) R (v 6) (w 6)) (k0_pay668 (F := Ideal) R (v 6) (w 6)) (k0_pay669 (F := Ideal) R (v 6) (w 6)) = wides (normed R (cast v 6) (w 6)) := by sl_kernel_rfl
theorem wides_5 (R : FVec Ideal S256x1 .f32) : k0_pay665 (F := Ideal) (k0_pay660 (F := Ideal) R (v 5) (w 5)) (k0_pay661 (F := Ideal) R (v 5) (w 5)) (k0_pay662 (F := Ideal) R (v 5) (w 5)) (Scalar.ofBits (F := Ideal) .f32 0x00000000#32) = wides (normed R (cast v 5) (w 5)) := by sl_kernel_rfl
theorem wides_4 (R : FVec Ideal S256x1 .f32) : k0_pay659 (F := Ideal) (k0_pay655 (F := Ideal) R (v 4) (w 4)) (k0_pay656 (F := Ideal) R (v 4) (w 4)) (k0_pay657 (F := Ideal) R (v 4) (w 4)) = wides (normed R (cast v 4) (w 4)) := by sl_kernel_rfl
theorem wides_3 (R : FVec Ideal S256x1 .f32) : k0_pay654 (F := Ideal) (k0_pay652 (F := Ideal) R (v 3) (w 3)) (k0_pay653 (F := Ideal) R (v 3) (w 3)) = wides (normed R (cast v 3) (w 3)) := by sl_kernel_rfl
theorem wides_2 (R : FVec Ideal S256x1 .f32) : k0_pay648 (F := Ideal) (k0_pay644 (F := Ideal) R (v 2) (w 2)) (k0_pay645 (F := Ideal) R (v 2) (w 2)) = wides (normed R (cast v 2) (w 2)) := by sl_kernel_rfl
theorem wides_1 (R : FVec Ideal S256x1 .f32) : k0_pay643 (F := Ideal) (k0_pay638 (F := Ideal) R (v 1) (w 1)) (k0_pay639 (F := Ideal) R (v 1) (w 1)) (k0_pay640 (F := Ideal) R (v 1) (w 1)) = wides (normed R (cast v 1) (w 1)) := by sl_kernel_rfl
theorem codes_0 : k0_pay636 (F := Ideal) (k0_pay629 (F := Ideal) (sumAt v) (v 29) (v 30) (v 31) (v 0) (w 0)) (k0_pay630 (F := Ideal) (sumAt v) (v 29) (v 30) (v 31) (v 0) (w 0)) (k0_pay631 (F := Ideal) (sumAt v) (v 29) (v 30) (v 31) (v 0) (w 0)) (k0_pay632 (F := Ideal) (sumAt v) (v 29) (v 30) (v 31) (v 0) (w 0)) (k0_pay633 (F := Ideal) (sumAt v) (v 29) (v 30) (v 31) (v 0) (w 0)) (k0_pay634 (F := Ideal) (sumAt v) (v 29) (v 30) (v 31) (v 0) (w 0)) (Scalar.ofBits (F := Ideal) .f32 0x3F000000#32) = codes (normed (rootAt v) (cast v 0) (w 0)) := by sl_kernel_rfl
theorem wides_0 : k0_pay637 (F := Ideal) (k0_pay629 (F := Ideal) (sumAt v) (v 29) (v 30) (v 31) (v 0) (w 0)) (k0_pay630 (F := Ideal) (sumAt v) (v 29) (v 30) (v 31) (v 0) (w 0)) (k0_pay631 (F := Ideal) (sumAt v) (v 29) (v 30) (v 31) (v 0) (w 0)) (k0_pay632 (F := Ideal) (sumAt v) (v 29) (v 30) (v 31) (v 0) (w 0)) (k0_pay633 (F := Ideal) (sumAt v) (v 29) (v 30) (v 31) (v 0) (w 0)) (k0_pay634 (F := Ideal) (sumAt v) (v 29) (v 30) (v 31) (v 0) (w 0)) (Scalar.ofBits (F := Ideal) .f32 0x3F000000#32) = wides (normed (rootAt v) (cast v 0) (w 0)) := by sl_kernel_rfl
theorem scales_0 : k0_pay635 (F := Ideal) (k0_pay630 (F := Ideal) (sumAt v) (v 29) (v 30) (v 31) (v 0) (w 0)) (k0_pay631 (F := Ideal) (sumAt v) (v 29) (v 30) (v 31) (v 0) (w 0)) (k0_pay632 (F := Ideal) (sumAt v) (v 29) (v 30) (v 31) (v 0) (w 0)) (k0_pay633 (F := Ideal) (sumAt v) (v 29) (v 30) (v 31) (v 0) (w 0)) (k0_pay634 (F := Ideal) (sumAt v) (v 29) (v 30) (v 31) (v 0) (w 0)) (Scalar.ofBits (F := Ideal) .f32 0x3F000000#32) = scales (normed (rootAt v) (cast v 0) (w 0)) := by sl_kernel_rfl
theorem scales_1 : k0_pay641 (F := Ideal) (k0_pay639 (F := Ideal) (rootAt v) (v 1) (w 1)) (k0_pay640 (F := Ideal) (rootAt v) (v 1) (w 1)) = scales (normed (rootAt v) (cast v 1) (w 1)) := by sl_kernel_rfl
theorem scales_2 : k0_pay646 (F := Ideal) (k0_pay645 (F := Ideal) (rootAt v) (v 2) (w 2)) = scales (normed (rootAt v) (cast v 2) (w 2)) := by sl_kernel_rfl
theorem scales_3 : k0_pay650 (F := Ideal) (rootAt v) (v 3) (w 3) = scales (normed (rootAt v) (cast v 3) (w 3)) := by sl_kernel_rfl
theorem scales_4 : k0_pay656 (F := Ideal) (rootAt v) (v 4) (w 4) = scales (normed (rootAt v) (cast v 4) (w 4)) := by sl_kernel_rfl
theorem scales_5 : k0_pay663 (F := Ideal) (k0_pay661 (F := Ideal) (rootAt v) (v 5) (w 5)) (k0_pay662 (F := Ideal) (rootAt v) (v 5) (w 5)) (Scalar.ofBits (F := Ideal) .f32 0x00000000#32) = scales (normed (rootAt v) (cast v 5) (w 5)) := by sl_kernel_rfl
theorem scales_6 : k0_pay670 (F := Ideal) (k0_pay667 (F := Ideal) (rootAt v) (v 6) (w 6)) (k0_pay668 (F := Ideal) (rootAt v) (v 6) (w 6)) (k0_pay669 (F := Ideal) (rootAt v) (v 6) (w 6)) = scales (normed (rootAt v) (cast v 6) (w 6)) := by sl_kernel_rfl
theorem scales_7 : k0_pay676 (F := Ideal) (k0_pay674 (F := Ideal) (rootAt v) (v 7) (w 7)) (k0_pay675 (F := Ideal) ) = scales (normed (rootAt v) (cast v 7) (w 7)) := by sl_kernel_rfl
theorem scales_8 : k0_pay681 (F := Ideal) (k0_pay679 (F := Ideal) (rootAt v) (v 8)) (w 8) = scales (normed (rootAt v) (cast v 8) (w 8)) := by sl_kernel_rfl
theorem scales_9 : k0_pay685 (F := Ideal) (rootAt v) (v 9) (w 9) = scales (normed (rootAt v) (cast v 9) (w 9)) := by sl_kernel_rfl
theorem scales_10 : k0_pay694 (F := Ideal) (k0_pay692 (F := Ideal) (rootAt v) (v 10) (w 10)) (k0_pay693 (F := Ideal) (rootAt v) (v 10) (w 10)) = scales (normed (rootAt v) (cast v 10) (w 10)) := by sl_kernel_rfl
theorem scales_11 : k0_pay703 (F := Ideal) (k0_pay698 (F := Ideal) (rootAt v) (v 11) (w 11)) (k0_pay699 (F := Ideal) (rootAt v) (v 11) (w 11)) (k0_pay700 (F := Ideal) (rootAt v) (v 11) (w 11)) (k0_pay701 (F := Ideal) (rootAt v) (v 11) (w 11)) (k0_pay702 (F := Ideal) (rootAt v) (v 11) (w 11)) = scales (normed (rootAt v) (cast v 11) (w 11)) := by sl_kernel_rfl
theorem scales_12 : k0_pay710 (F := Ideal) (k0_pay707 (F := Ideal) (rootAt v) (v 12) (w 12)) (k0_pay708 (F := Ideal) (rootAt v) (v 12) (w 12)) (k0_pay709 (F := Ideal) ) = scales (normed (rootAt v) (cast v 12) (w 12)) := by sl_kernel_rfl
theorem scales_13 : k0_pay714 (F := Ideal) (k0_pay713 (F := Ideal) (rootAt v) (v 13) (w 13)) = scales (normed (rootAt v) (cast v 13) (w 13)) := by sl_kernel_rfl
theorem scales_14 : k0_pay718 (F := Ideal) (rootAt v) (v 14) (w 14) = scales (normed (rootAt v) (cast v 14) (w 14)) := by sl_kernel_rfl
theorem scales_15 : k0_pay723 (F := Ideal) (rootAt v) (v 15) (w 15) = scales (normed (rootAt v) (cast v 15) (w 15)) := by sl_kernel_rfl
theorem scales_16 : k0_pay730 (F := Ideal) (k0_pay728 (F := Ideal) (rootAt v) (v 16) (w 16)) (k0_pay729 (F := Ideal) (rootAt v) (v 16) (w 16)) = scales (normed (rootAt v) (cast v 16) (w 16)) := by sl_kernel_rfl
theorem scales_17 : k0_pay737 (F := Ideal) (k0_pay734 (F := Ideal) (rootAt v) (v 17) (w 17)) (k0_pay735 (F := Ideal) (rootAt v) (v 17) (w 17)) (k0_pay736 (F := Ideal) ) = scales (normed (rootAt v) (cast v 17) (w 17)) := by sl_kernel_rfl
theorem scales_18 : k0_pay742 (F := Ideal) (k0_pay741 (F := Ideal) (rootAt v) (v 18) (w 18)) (Scalar.ofBits (F := Ideal) .f32 0x3B124925#32) = scales (normed (rootAt v) (cast v 18) (w 18)) := by sl_kernel_rfl
theorem scales_19 : k0_pay748 (F := Ideal) (k0_pay745 (F := Ideal) (v 19)) (k0_pay746 (F := Ideal) (rootAt v)) (w 19) = scales (normed (rootAt v) (cast v 19) (w 19)) := by sl_kernel_rfl
theorem scales_20 : k0_pay752 (F := Ideal) (rootAt v) (v 20) (w 20) = scales (normed (rootAt v) (cast v 20) (w 20)) := by sl_kernel_rfl
theorem scales_21 : k0_pay761 (F := Ideal) (k0_pay758 (F := Ideal) (rootAt v) (v 21) (w 21)) (k0_pay759 (F := Ideal) (rootAt v) (v 21) (w 21)) (k0_pay760 (F := Ideal) ) = scales (normed (rootAt v) (cast v 21) (w 21)) := by sl_kernel_rfl
theorem scales_22 : k0_pay769 (F := Ideal) (k0_pay765 (F := Ideal) (rootAt v) (v 22) (w 22)) (k0_pay766 (F := Ideal) (rootAt v) (v 22) (w 22)) (k0_pay767 (F := Ideal) (rootAt v) (v 22) (w 22)) (k0_pay768 (F := Ideal) (rootAt v) (v 22) (w 22)) = scales (normed (rootAt v) (cast v 22) (w 22)) := by sl_kernel_rfl
theorem scales_23 : k0_pay776 (F := Ideal) (k0_pay773 (F := Ideal) (rootAt v) (v 23) (w 23)) (k0_pay774 (F := Ideal) (rootAt v) (v 23) (w 23)) (k0_pay775 (F := Ideal) ) = scales (normed (rootAt v) (cast v 23) (w 23)) := by sl_kernel_rfl
theorem scales_24 : k0_pay782 (F := Ideal) (k0_pay779 (F := Ideal) (rootAt v) (v 24)) (k0_pay780 (F := Ideal) (w 24)) = scales (normed (rootAt v) (cast v 24) (w 24)) := by sl_kernel_rfl
theorem scales_25 : k0_pay786 (F := Ideal) (rootAt v) (v 25) (w 25) = scales (normed (rootAt v) (cast v 25) (w 25)) := by sl_kernel_rfl
theorem scales_26 : k0_pay790 (F := Ideal) (rootAt v) (v 26) (w 26) = scales (normed (rootAt v) (cast v 26) (w 26)) := by sl_kernel_rfl
theorem scales_27 : k0_pay799 (F := Ideal) (k0_pay794 (F := Ideal) (rootAt v) (v 27) (w 27)) (k0_pay796 (F := Ideal) (rootAt v) (v 27) (w 27)) (k0_pay797 (F := Ideal) (rootAt v) (v 27) (w 27)) (k0_pay798 (F := Ideal) (rootAt v) (v 27) (w 27)) = scales (normed (rootAt v) (cast v 27) (w 27)) := by sl_kernel_rfl
theorem scales_28 : k0_pay805 (F := Ideal) (k0_pay803 (F := Ideal) (rootAt v) (v 28) (w 28)) (k0_pay804 (F := Ideal) (rootAt v) (v 28) (w 28)) (Scalar.ofBits (F := Ideal) .f32 0x40000000#32) = scales (normed (rootAt v) (cast v 28) (w 28)) := by sl_kernel_rfl
theorem scales_29 : k0_pay810 (F := Ideal) (k0_pay809 (F := Ideal) (rootAt v) (v 29) (w 29)) = scales (normed (rootAt v) (cast v 29) (w 29)) := by sl_kernel_rfl
theorem scales_30 : k0_pay815 (F := Ideal) (rootAt v) (k0_pay813 (F := Ideal) (v 30)) (w 30) = scales (normed (rootAt v) (cast v 30) (w 30)) := by sl_kernel_rfl
theorem scales_31 : k0_pay819 (F := Ideal) (rootAt v) (v 31) (w 31) = scales (normed (rootAt v) (cast v 31) (w 31)) := by sl_kernel_rfl

/-- The scales of all groups as rows, as the point arranges them. -/
def rowsOf (s : ℕ → FVec Ideal S256x1 .f32) : FVec Ideal S32x256 .f32 := k0_pay1 (F := Ideal) (s 29) (s 30) (s 31) (iota .tc S256x128 32 [1] iota_S256x128_d1_w32) (k0_pay829 (F := Ideal) (s 26) (s 27) (iota .tc S256x128 32 [1] iota_S256x128_d1_w32) (k0_pay827 (F := Ideal) (s 16) (s 17) (s 18) (s 19) (s 20) (s 21) (s 22) (s 23) (s 24) (s 25) (iota .tc S256x128 32 [1] iota_S256x128_d1_w32) (k0_pay825 (F := Ideal) (s 6) (s 7) (s 8) (s 9) (s 10) (s 11) (s 12) (s 13) (s 14) (s 15) (iota .tc S256x128 32 [1] iota_S256x128_d1_w32) (k0_pay823 (F := Ideal) (s 0) (s 1) (s 2) (s 3) (s 4) (s 5)) k0_pay824) (k0_pay826 (iota .tc S256x128 32 [1] iota_S256x128_d1_w32))) (k0_pay828 (iota .tc S256x128 32 [1] iota_S256x128_d1_w32))) (k0_pay830 (iota .tc S256x128 32 [1] iota_S256x128_d1_w32)) (k0_pay831 (F := Ideal) (s 28))

theorem rowsOf_eq (s : ℕ → FVec Ideal S256x1 .f32) : rowsOf s = rowsFrom (cols s 32) := by sl_kernel_rfl

/-- The scales of all groups, as the point computes them. -/
def rowsAt : FVec Ideal S32x256 .f32 := k0_pay1 (F := Ideal) (k0_pay810 (F := Ideal) (k0_pay809 (F := Ideal) (rootAt v) (v 29) (w 29))) (k0_pay815 (F := Ideal) (rootAt v) (k0_pay813 (F := Ideal) (v 30)) (w 30)) (k0_pay819 (F := Ideal) (rootAt v) (v 31) (w 31)) (iota .tc S256x128 32 [1] iota_S256x128_d1_w32) (k0_pay829 (F := Ideal) (k0_pay790 (F := Ideal) (rootAt v) (v 26) (w 26)) (k0_pay799 (F := Ideal) (k0_pay794 (F := Ideal) (rootAt v) (v 27) (w 27)) (k0_pay796 (F := Ideal) (rootAt v) (v 27) (w 27)) (k0_pay797 (F := Ideal) (rootAt v) (v 27) (w 27)) (k0_pay798 (F := Ideal) (rootAt v) (v 27) (w 27))) (iota .tc S256x128 32 [1] iota_S256x128_d1_w32) (k0_pay827 (F := Ideal) (k0_pay730 (F := Ideal) (k0_pay728 (F := Ideal) (rootAt v) (v 16) (w 16)) (k0_pay729 (F := Ideal) (rootAt v) (v 16) (w 16))) (k0_pay737 (F := Ideal) (k0_pay734 (F := Ideal) (rootAt v) (v 17) (w 17)) (k0_pay735 (F := Ideal) (rootAt v) (v 17) (w 17)) (k0_pay736 (F := Ideal) )) (k0_pay742 (F := Ideal) (k0_pay741 (F := Ideal) (rootAt v) (v 18) (w 18)) (Scalar.ofBits (F := Ideal) .f32 0x3B124925#32)) (k0_pay748 (F := Ideal) (k0_pay745 (F := Ideal) (v 19)) (k0_pay746 (F := Ideal) (rootAt v)) (w 19)) (k0_pay752 (F := Ideal) (rootAt v) (v 20) (w 20)) (k0_pay761 (F := Ideal) (k0_pay758 (F := Ideal) (rootAt v) (v 21) (w 21)) (k0_pay759 (F := Ideal) (rootAt v) (v 21) (w 21)) (k0_pay760 (F := Ideal) )) (k0_pay769 (F := Ideal) (k0_pay765 (F := Ideal) (rootAt v) (v 22) (w 22)) (k0_pay766 (F := Ideal) (rootAt v) (v 22) (w 22)) (k0_pay767 (F := Ideal) (rootAt v) (v 22) (w 22)) (k0_pay768 (F := Ideal) (rootAt v) (v 22) (w 22))) (k0_pay776 (F := Ideal) (k0_pay773 (F := Ideal) (rootAt v) (v 23) (w 23)) (k0_pay774 (F := Ideal) (rootAt v) (v 23) (w 23)) (k0_pay775 (F := Ideal) )) (k0_pay782 (F := Ideal) (k0_pay779 (F := Ideal) (rootAt v) (v 24)) (k0_pay780 (F := Ideal) (w 24))) (k0_pay786 (F := Ideal) (rootAt v) (v 25) (w 25)) (iota .tc S256x128 32 [1] iota_S256x128_d1_w32) (k0_pay825 (F := Ideal) (k0_pay670 (F := Ideal) (k0_pay667 (F := Ideal) (rootAt v) (v 6) (w 6)) (k0_pay668 (F := Ideal) (rootAt v) (v 6) (w 6)) (k0_pay669 (F := Ideal) (rootAt v) (v 6) (w 6))) (k0_pay676 (F := Ideal) (k0_pay674 (F := Ideal) (rootAt v) (v 7) (w 7)) (k0_pay675 (F := Ideal) )) (k0_pay681 (F := Ideal) (k0_pay679 (F := Ideal) (rootAt v) (v 8)) (w 8)) (k0_pay685 (F := Ideal) (rootAt v) (v 9) (w 9)) (k0_pay694 (F := Ideal) (k0_pay692 (F := Ideal) (rootAt v) (v 10) (w 10)) (k0_pay693 (F := Ideal) (rootAt v) (v 10) (w 10))) (k0_pay703 (F := Ideal) (k0_pay698 (F := Ideal) (rootAt v) (v 11) (w 11)) (k0_pay699 (F := Ideal) (rootAt v) (v 11) (w 11)) (k0_pay700 (F := Ideal) (rootAt v) (v 11) (w 11)) (k0_pay701 (F := Ideal) (rootAt v) (v 11) (w 11)) (k0_pay702 (F := Ideal) (rootAt v) (v 11) (w 11))) (k0_pay710 (F := Ideal) (k0_pay707 (F := Ideal) (rootAt v) (v 12) (w 12)) (k0_pay708 (F := Ideal) (rootAt v) (v 12) (w 12)) (k0_pay709 (F := Ideal) )) (k0_pay714 (F := Ideal) (k0_pay713 (F := Ideal) (rootAt v) (v 13) (w 13))) (k0_pay718 (F := Ideal) (rootAt v) (v 14) (w 14)) (k0_pay723 (F := Ideal) (rootAt v) (v 15) (w 15)) (iota .tc S256x128 32 [1] iota_S256x128_d1_w32) (k0_pay823 (F := Ideal) (k0_pay635 (F := Ideal) (k0_pay630 (F := Ideal) (sumAt v) (v 29) (v 30) (v 31) (v 0) (w 0)) (k0_pay631 (F := Ideal) (sumAt v) (v 29) (v 30) (v 31) (v 0) (w 0)) (k0_pay632 (F := Ideal) (sumAt v) (v 29) (v 30) (v 31) (v 0) (w 0)) (k0_pay633 (F := Ideal) (sumAt v) (v 29) (v 30) (v 31) (v 0) (w 0)) (k0_pay634 (F := Ideal) (sumAt v) (v 29) (v 30) (v 31) (v 0) (w 0)) (Scalar.ofBits (F := Ideal) .f32 0x3F000000#32)) (k0_pay641 (F := Ideal) (k0_pay639 (F := Ideal) (rootAt v) (v 1) (w 1)) (k0_pay640 (F := Ideal) (rootAt v) (v 1) (w 1))) (k0_pay646 (F := Ideal) (k0_pay645 (F := Ideal) (rootAt v) (v 2) (w 2))) (k0_pay650 (F := Ideal) (rootAt v) (v 3) (w 3)) (k0_pay656 (F := Ideal) (rootAt v) (v 4) (w 4)) (k0_pay663 (F := Ideal) (k0_pay661 (F := Ideal) (rootAt v) (v 5) (w 5)) (k0_pay662 (F := Ideal) (rootAt v) (v 5) (w 5)) (Scalar.ofBits (F := Ideal) .f32 0x00000000#32))) k0_pay824) (k0_pay826 (iota .tc S256x128 32 [1] iota_S256x128_d1_w32))) (k0_pay828 (iota .tc S256x128 32 [1] iota_S256x128_d1_w32))) (k0_pay830 (iota .tc S256x128 32 [1] iota_S256x128_d1_w32)) (k0_pay831 (F := Ideal) (k0_pay805 (F := Ideal) (k0_pay803 (F := Ideal) (rootAt v) (v 28) (w 28)) (k0_pay804 (F := Ideal) (rootAt v) (v 28) (w 28)) (Scalar.ofBits (F := Ideal) .f32 0x40000000#32)))

theorem rowsAt_eq : rowsAt v w = rowsFrom (cols (fun n => scales (normed (rootAt v) (cast v n) (w n))) 32) := by
  unfold rowsAt
  rw [scales_0 v w, scales_1 v w, scales_2 v w, scales_3 v w, scales_4 v w, scales_5 v w, scales_6 v w, scales_7 v w, scales_8 v w, scales_9 v w, scales_10 v w, scales_11 v w, scales_12 v w, scales_13 v w, scales_14 v w, scales_15 v w, scales_16 v w, scales_17 v w, scales_18 v w, scales_19 v w, scales_20 v w, scales_21 v w, scales_22 v w, scales_23 v w, scales_24 v w, scales_25 v w, scales_26 v w, scales_27 v w, scales_28 v w, scales_29 v w, scales_30 v w, scales_31 v w]
  exact rowsOf_eq (fun n => scales (normed (rootAt v) (cast v n) (w n)))

/-- The stores of the codes, the last first. -/
def codeList : List (View.Piece (Elt Ideal) S256x4096 .fp8e4m3) :=
  [⟨Rect.unit (s := S256x4096) ![0, 3968] ![256, 128] (inb_group 31 (by decide)), k0_pay821 (F := Ideal) (k0_pay820 (F := Ideal) (rootAt v) (v 31) (w 31)) (Scalar.ofBits (F := Ideal) .f32 0xC3E00000#32)⟩,
   ⟨Rect.unit (s := S256x4096) ![0, 3840] ![256, 128] (inb_group 30 (by decide)), k0_pay816 (F := Ideal) (rootAt v) (k0_pay813 (F := Ideal) (v 30)) (w 30)⟩,
   ⟨Rect.unit (s := S256x4096) ![0, 3712] ![256, 128] (inb_group 29 (by decide)), k0_pay811 (F := Ideal) (k0_pay808 (F := Ideal) (rootAt v) (v 29) (w 29)) (k0_pay809 (F := Ideal) (rootAt v) (v 29) (w 29))⟩,
   ⟨Rect.unit (s := S256x4096) ![0, 3584] ![256, 128] (inb_group 28 (by decide)), k0_pay806 (F := Ideal) (k0_pay802 (F := Ideal) (rootAt v) (v 28) (w 28)) (k0_pay803 (F := Ideal) (rootAt v) (v 28) (w 28)) (k0_pay804 (F := Ideal) (rootAt v) (v 28) (w 28)) (Scalar.ofBits (F := Ideal) .f32 0x40000000#32)⟩,
   ⟨Rect.unit (s := S256x4096) ![0, 3456] ![256, 128] (inb_group 27 (by decide)), k0_pay800 (F := Ideal) (k0_pay793 (F := Ideal) (rootAt v) (v 27) (w 27)) (k0_pay794 (F := Ideal) (rootAt v) (v 27) (w 27)) (k0_pay796 (F := Ideal) (rootAt v) (v 27) (w 27)) (k0_pay797 (F := Ideal) (rootAt v) (v 27) (w 27)) (k0_pay798 (F := Ideal) (rootAt v) (v 27) (w 27))⟩,
   ⟨Rect.unit (s := S256x4096) ![0, 3328] ![256, 128] (inb_group 26 (by decide)), k0_pay791 (F := Ideal) (k0_pay789 (F := Ideal) (rootAt v) (v 26) (w 26)) (k0_pay790 (F := Ideal) (rootAt v) (v 26) (w 26)) (Scalar.ofBits (F := Ideal) .f32 0x3F800000#32)⟩,
   ⟨Rect.unit (s := S256x4096) ![0, 3200] ![256, 128] (inb_group 25 (by decide)), k0_pay787 (F := Ideal) (rootAt v) (v 25) (w 25)⟩,
   ⟨Rect.unit (s := S256x4096) ![0, 3072] ![256, 128] (inb_group 24 (by decide)), k0_pay783 (F := Ideal) (k0_pay779 (F := Ideal) (rootAt v) (v 24)) (k0_pay780 (F := Ideal) (w 24))⟩,
   ⟨Rect.unit (s := S256x4096) ![0, 2944] ![256, 128] (inb_group 23 (by decide)), k0_pay777 (F := Ideal) (k0_pay772 (F := Ideal) (rootAt v) (v 23) (w 23)) (k0_pay773 (F := Ideal) (rootAt v) (v 23) (w 23)) (k0_pay774 (F := Ideal) (rootAt v) (v 23) (w 23)) (k0_pay775 (F := Ideal) )⟩,
   ⟨Rect.unit (s := S256x4096) ![0, 2816] ![256, 128] (inb_group 22 (by decide)), k0_pay770 (F := Ideal) (k0_pay764 (F := Ideal) (rootAt v) (v 22) (w 22)) (k0_pay765 (F := Ideal) (rootAt v) (v 22) (w 22)) (k0_pay766 (F := Ideal) (rootAt v) (v 22) (w 22)) (k0_pay767 (F := Ideal) (rootAt v) (v 22) (w 22)) (k0_pay768 (F := Ideal) (rootAt v) (v 22) (w 22))⟩,
   ⟨Rect.unit (s := S256x4096) ![0, 2688] ![256, 128] (inb_group 21 (by decide)), k0_pay762 (F := Ideal) (k0_pay756 (F := Ideal) (rootAt v) (v 21) (w 21)) (k0_pay758 (F := Ideal) (rootAt v) (v 21) (w 21)) (k0_pay759 (F := Ideal) (rootAt v) (v 21) (w 21)) (k0_pay760 (F := Ideal) )⟩,
   ⟨Rect.unit (s := S256x4096) ![0, 2560] ![256, 128] (inb_group 20 (by decide)), k0_pay754 (F := Ideal) (k0_pay753 (F := Ideal) (rootAt v) (v 20) (w 20)) (Scalar.ofBits (F := Ideal) .f32 0xC3E00000#32) (Scalar.ofBits (F := Ideal) .f32 0x43E00000#32)⟩,
   ⟨Rect.unit (s := S256x4096) ![0, 2432] ![256, 128] (inb_group 19 (by decide)), k0_pay749 (F := Ideal) (k0_pay745 (F := Ideal) (v 19)) (k0_pay746 (F := Ideal) (rootAt v)) (w 19)⟩,
   ⟨Rect.unit (s := S256x4096) ![0, 2304] ![256, 128] (inb_group 18 (by decide)), k0_pay743 (F := Ideal) (k0_pay740 (F := Ideal) (rootAt v) (v 18) (w 18)) (k0_pay741 (F := Ideal) (rootAt v) (v 18) (w 18)) (Scalar.ofBits (F := Ideal) .f32 0x3B124925#32)⟩,
   ⟨Rect.unit (s := S256x4096) ![0, 2176] ![256, 128] (inb_group 17 (by decide)), k0_pay738 (F := Ideal) (k0_pay733 (F := Ideal) (rootAt v) (v 17) (w 17)) (k0_pay734 (F := Ideal) (rootAt v) (v 17) (w 17)) (k0_pay735 (F := Ideal) (rootAt v) (v 17) (w 17)) (k0_pay736 (F := Ideal) )⟩,
   ⟨Rect.unit (s := S256x4096) ![0, 2048] ![256, 128] (inb_group 16 (by decide)), k0_pay731 (F := Ideal) (k0_pay727 (F := Ideal) (rootAt v) (v 16) (w 16)) (k0_pay728 (F := Ideal) (rootAt v) (v 16) (w 16)) (k0_pay729 (F := Ideal) (rootAt v) (v 16) (w 16))⟩,
   ⟨Rect.unit (s := S256x4096) ![0, 1920] ![256, 128] (inb_group 15 (by decide)), k0_pay725 (F := Ideal) (k0_pay722 (F := Ideal) (rootAt v) (v 15) (w 15)) (k0_pay723 (F := Ideal) (rootAt v) (v 15) (w 15)) (k0_pay724 (F := Ideal) )⟩,
   ⟨Rect.unit (s := S256x4096) ![0, 1792] ![256, 128] (inb_group 14 (by decide)), k0_pay719 (F := Ideal) (rootAt v) (v 14) (w 14)⟩,
   ⟨Rect.unit (s := S256x4096) ![0, 1664] ![256, 128] (inb_group 13 (by decide)), k0_pay715 (F := Ideal) (k0_pay713 (F := Ideal) (rootAt v) (v 13) (w 13))⟩,
   ⟨Rect.unit (s := S256x4096) ![0, 1536] ![256, 128] (inb_group 12 (by decide)), k0_pay711 (F := Ideal) (k0_pay706 (F := Ideal) (rootAt v) (v 12) (w 12)) (k0_pay707 (F := Ideal) (rootAt v) (v 12) (w 12)) (k0_pay708 (F := Ideal) (rootAt v) (v 12) (w 12)) (k0_pay709 (F := Ideal) )⟩,
   ⟨Rect.unit (s := S256x4096) ![0, 1408] ![256, 128] (inb_group 11 (by decide)), k0_pay704 (F := Ideal) (k0_pay697 (F := Ideal) (rootAt v) (v 11) (w 11)) (k0_pay698 (F := Ideal) (rootAt v) (v 11) (w 11)) (k0_pay699 (F := Ideal) (rootAt v) (v 11) (w 11)) (k0_pay700 (F := Ideal) (rootAt v) (v 11) (w 11)) (k0_pay701 (F := Ideal) (rootAt v) (v 11) (w 11)) (k0_pay702 (F := Ideal) (rootAt v) (v 11) (w 11))⟩,
   ⟨Rect.unit (s := S256x4096) ![0, 1280] ![256, 128] (inb_group 10 (by decide)), k0_pay695 (F := Ideal) (k0_pay690 (F := Ideal) (rootAt v) (v 10) (w 10)) (k0_pay692 (F := Ideal) (rootAt v) (v 10) (w 10)) (k0_pay693 (F := Ideal) (rootAt v) (v 10) (w 10))⟩,
   ⟨Rect.unit (s := S256x4096) ![0, 1152] ![256, 128] (inb_group 9 (by decide)), k0_pay688 (F := Ideal) (k0_pay686 (F := Ideal) (rootAt v) (v 9) (w 9)) (Scalar.ofBits (F := Ideal) .f32 0x43E00000#32) (k0_pay687 (F := Ideal) )⟩,
   ⟨Rect.unit (s := S256x4096) ![0, 1024] ![256, 128] (inb_group 8 (by decide)), k0_pay682 (F := Ideal) (k0_pay679 (F := Ideal) (rootAt v) (v 8)) (w 8)⟩,
   ⟨Rect.unit (s := S256x4096) ![0, 896] ![256, 128] (inb_group 7 (by decide)), k0_pay677 (F := Ideal) (k0_pay673 (F := Ideal) (rootAt v) (v 7) (w 7)) (k0_pay674 (F := Ideal) (rootAt v) (v 7) (w 7)) (k0_pay675 (F := Ideal) )⟩,
   ⟨Rect.unit (s := S256x4096) ![0, 768] ![256, 128] (inb_group 6 (by decide)), k0_pay671 (F := Ideal) (k0_pay666 (F := Ideal) (rootAt v) (v 6) (w 6)) (k0_pay667 (F := Ideal) (rootAt v) (v 6) (w 6)) (k0_pay668 (F := Ideal) (rootAt v) (v 6) (w 6)) (k0_pay669 (F := Ideal) (rootAt v) (v 6) (w 6))⟩,
   ⟨Rect.unit (s := S256x4096) ![0, 640] ![256, 128] (inb_group 5 (by decide)), k0_pay664 (F := Ideal) (k0_pay660 (F := Ideal) (rootAt v) (v 5) (w 5)) (k0_pay661 (F := Ideal) (rootAt v) (v 5) (w 5)) (k0_pay662 (F := Ideal) (rootAt v) (v 5) (w 5)) (Scalar.ofBits (F := Ideal) .f32 0x00000000#32)⟩,
   ⟨Rect.unit (s := S256x4096) ![0, 512] ![256, 128] (inb_group 4 (by decide)), k0_pay658 (F := Ideal) (k0_pay655 (F := Ideal) (rootAt v) (v 4) (w 4)) (k0_pay657 (F := Ideal) (rootAt v) (v 4) (w 4))⟩,
   ⟨Rect.unit (s := S256x4096) ![0, 384] ![256, 128] (inb_group 3 (by decide)), k0_pay651 (F := Ideal) (rootAt v) (v 3) (w 3)⟩,
   ⟨Rect.unit (s := S256x4096) ![0, 256] ![256, 128] (inb_group 2 (by decide)), k0_pay647 (F := Ideal) (k0_pay644 (F := Ideal) (rootAt v) (v 2) (w 2)) (k0_pay645 (F := Ideal) (rootAt v) (v 2) (w 2))⟩,
   ⟨Rect.unit (s := S256x4096) ![0, 128] ![256, 128] (inb_group 1 (by decide)), k0_pay642 (F := Ideal) (k0_pay638 (F := Ideal) (rootAt v) (v 1) (w 1)) (k0_pay639 (F := Ideal) (rootAt v) (v 1) (w 1)) (k0_pay640 (F := Ideal) (rootAt v) (v 1) (w 1))⟩,
   ⟨Rect.unit (s := S256x4096) ![0, 0] ![256, 128] (inb_group 0 (by decide)), k0_pay636 (F := Ideal) (k0_pay629 (F := Ideal) (sumAt v) (v 29) (v 30) (v 31) (v 0) (w 0)) (k0_pay630 (F := Ideal) (sumAt v) (v 29) (v 30) (v 31) (v 0) (w 0)) (k0_pay631 (F := Ideal) (sumAt v) (v 29) (v 30) (v 31) (v 0) (w 0)) (k0_pay632 (F := Ideal) (sumAt v) (v 29) (v 30) (v 31) (v 0) (w 0)) (k0_pay633 (F := Ideal) (sumAt v) (v 29) (v 30) (v 31) (v 0) (w 0)) (k0_pay634 (F := Ideal) (sumAt v) (v 29) (v 30) (v 31) (v 0) (w 0)) (Scalar.ofBits (F := Ideal) .f32 0x3F000000#32)⟩]

theorem codeList_eq : codeList v w = groupPieces (e := .fp8e4m3) (fun n => codes (normed (rootAt v) (cast v n) (w n))) 32 le_rfl :=
  group_cons (e := .fp8e4m3) 31 (by decide) (codes_31 v w (rootAt v)) <|
  group_cons (e := .fp8e4m3) 30 (by decide) (codes_30 v w (rootAt v)) <|
  group_cons (e := .fp8e4m3) 29 (by decide) (codes_29 v w (rootAt v)) <|
  group_cons (e := .fp8e4m3) 28 (by decide) (codes_28 v w (rootAt v)) <|
  group_cons (e := .fp8e4m3) 27 (by decide) (codes_27 v w (rootAt v)) <|
  group_cons (e := .fp8e4m3) 26 (by decide) (codes_26 v w (rootAt v)) <|
  group_cons (e := .fp8e4m3) 25 (by decide) (codes_25 v w (rootAt v)) <|
  group_cons (e := .fp8e4m3) 24 (by decide) (codes_24 v w (rootAt v)) <|
  group_cons (e := .fp8e4m3) 23 (by decide) (codes_23 v w (rootAt v)) <|
  group_cons (e := .fp8e4m3) 22 (by decide) (codes_22 v w (rootAt v)) <|
  group_cons (e := .fp8e4m3) 21 (by decide) (codes_21 v w (rootAt v)) <|
  group_cons (e := .fp8e4m3) 20 (by decide) (codes_20 v w (rootAt v)) <|
  group_cons (e := .fp8e4m3) 19 (by decide) (codes_19 v w (rootAt v)) <|
  group_cons (e := .fp8e4m3) 18 (by decide) (codes_18 v w (rootAt v)) <|
  group_cons (e := .fp8e4m3) 17 (by decide) (codes_17 v w (rootAt v)) <|
  group_cons (e := .fp8e4m3) 16 (by decide) (codes_16 v w (rootAt v)) <|
  group_cons (e := .fp8e4m3) 15 (by decide) (codes_15 v w (rootAt v)) <|
  group_cons (e := .fp8e4m3) 14 (by decide) (codes_14 v w (rootAt v)) <|
  group_cons (e := .fp8e4m3) 13 (by decide) (codes_13 v w (rootAt v)) <|
  group_cons (e := .fp8e4m3) 12 (by decide) (codes_12 v w (rootAt v)) <|
  group_cons (e := .fp8e4m3) 11 (by decide) (codes_11 v w (rootAt v)) <|
  group_cons (e := .fp8e4m3) 10 (by decide) (codes_10 v w (rootAt v)) <|
  group_cons (e := .fp8e4m3) 9 (by decide) (codes_9 v w (rootAt v)) <|
  group_cons (e := .fp8e4m3) 8 (by decide) (codes_8 v w (rootAt v)) <|
  group_cons (e := .fp8e4m3) 7 (by decide) (codes_7 v w (rootAt v)) <|
  group_cons (e := .fp8e4m3) 6 (by decide) (codes_6 v w (rootAt v)) <|
  group_cons (e := .fp8e4m3) 5 (by decide) (codes_5 v w (rootAt v)) <|
  group_cons (e := .fp8e4m3) 4 (by decide) (codes_4 v w (rootAt v)) <|
  group_cons (e := .fp8e4m3) 3 (by decide) (codes_3 v w (rootAt v)) <|
  group_cons (e := .fp8e4m3) 2 (by decide) (codes_2 v w (rootAt v)) <|
  group_cons (e := .fp8e4m3) 1 (by decide) (codes_1 v w (rootAt v)) <|
  group_cons (e := .fp8e4m3) 0 (by decide) (codes_0 v w) <| rfl

/-- The stores of the wides, the last first. -/
def wideList : List (View.Piece (Elt Ideal) S256x4096 .bf16) :=
  [⟨Rect.unit (s := S256x4096) ![0, 3968] ![256, 128] (inb_group 31 (by decide)), k0_pay822 (k0_pay819 (F := Ideal) (rootAt v) (v 31) (w 31)) (k0_pay820 (F := Ideal) (rootAt v) (v 31) (w 31)) (Scalar.ofBits (F := Ideal) .f32 0xC3E00000#32)⟩,
   ⟨Rect.unit (s := S256x4096) ![0, 3840] ![256, 128] (inb_group 30 (by decide)), k0_pay817 (F := Ideal) (rootAt v) (k0_pay813 (F := Ideal) (v 30)) (w 30)⟩,
   ⟨Rect.unit (s := S256x4096) ![0, 3712] ![256, 128] (inb_group 29 (by decide)), k0_pay812 (F := Ideal) (k0_pay808 (F := Ideal) (rootAt v) (v 29) (w 29)) (k0_pay809 (F := Ideal) (rootAt v) (v 29) (w 29))⟩,
   ⟨Rect.unit (s := S256x4096) ![0, 3584] ![256, 128] (inb_group 28 (by decide)), k0_pay807 (F := Ideal) (k0_pay802 (F := Ideal) (rootAt v) (v 28) (w 28)) (k0_pay803 (F := Ideal) (rootAt v) (v 28) (w 28)) (k0_pay804 (F := Ideal) (rootAt v) (v 28) (w 28)) (Scalar.ofBits (F := Ideal) .f32 0x40000000#32)⟩,
   ⟨Rect.unit (s := S256x4096) ![0, 3456] ![256, 128] (inb_group 27 (by decide)), k0_pay801 (F := Ideal) (k0_pay793 (F := Ideal) (rootAt v) (v 27) (w 27)) (k0_pay794 (F := Ideal) (rootAt v) (v 27) (w 27)) (k0_pay796 (F := Ideal) (rootAt v) (v 27) (w 27)) (k0_pay797 (F := Ideal) (rootAt v) (v 27) (w 27)) (k0_pay798 (F := Ideal) (rootAt v) (v 27) (w 27))⟩,
   ⟨Rect.unit (s := S256x4096) ![0, 3328] ![256, 128] (inb_group 26 (by decide)), k0_pay792 (F := Ideal) (k0_pay789 (F := Ideal) (rootAt v) (v 26) (w 26)) (k0_pay790 (F := Ideal) (rootAt v) (v 26) (w 26)) (Scalar.ofBits (F := Ideal) .f32 0x3F800000#32)⟩,
   ⟨Rect.unit (s := S256x4096) ![0, 3200] ![256, 128] (inb_group 25 (by decide)), k0_pay788 (F := Ideal) (k0_pay786 (F := Ideal) (rootAt v) (v 25) (w 25)) (k0_pay787 (F := Ideal) (rootAt v) (v 25) (w 25))⟩,
   ⟨Rect.unit (s := S256x4096) ![0, 3072] ![256, 128] (inb_group 24 (by decide)), k0_pay784 (F := Ideal) (k0_pay779 (F := Ideal) (rootAt v) (v 24)) (k0_pay780 (F := Ideal) (w 24))⟩,
   ⟨Rect.unit (s := S256x4096) ![0, 2944] ![256, 128] (inb_group 23 (by decide)), k0_pay778 (F := Ideal) (k0_pay772 (F := Ideal) (rootAt v) (v 23) (w 23)) (k0_pay773 (F := Ideal) (rootAt v) (v 23) (w 23)) (k0_pay774 (F := Ideal) (rootAt v) (v 23) (w 23)) (k0_pay775 (F := Ideal) )⟩,
   ⟨Rect.unit (s := S256x4096) ![0, 2816] ![256, 128] (inb_group 22 (by decide)), k0_pay771 (F := Ideal) (k0_pay764 (F := Ideal) (rootAt v) (v 22) (w 22)) (k0_pay765 (F := Ideal) (rootAt v) (v 22) (w 22)) (k0_pay766 (F := Ideal) (rootAt v) (v 22) (w 22)) (k0_pay767 (F := Ideal) (rootAt v) (v 22) (w 22)) (k0_pay768 (F := Ideal) (rootAt v) (v 22) (w 22))⟩,
   ⟨Rect.unit (s := S256x4096) ![0, 2688] ![256, 128] (inb_group 21 (by decide)), k0_pay763 (F := Ideal) (k0_pay756 (F := Ideal) (rootAt v) (v 21) (w 21)) (k0_pay758 (F := Ideal) (rootAt v) (v 21) (w 21)) (k0_pay759 (F := Ideal) (rootAt v) (v 21) (w 21)) (k0_pay760 (F := Ideal) )⟩,
   ⟨Rect.unit (s := S256x4096) ![0, 2560] ![256, 128] (inb_group 20 (by decide)), k0_pay755 (F := Ideal) (k0_pay752 (F := Ideal) (rootAt v) (v 20) (w 20)) (k0_pay753 (F := Ideal) (rootAt v) (v 20) (w 20)) (Scalar.ofBits (F := Ideal) .f32 0xC3E00000#32) (Scalar.ofBits (F := Ideal) .f32 0x43E00000#32)⟩,
   ⟨Rect.unit (s := S256x4096) ![0, 2432] ![256, 128] (inb_group 19 (by decide)), k0_pay750 (F := Ideal) (k0_pay745 (F := Ideal) (v 19)) (k0_pay746 (F := Ideal) (rootAt v)) (w 19)⟩,
   ⟨Rect.unit (s := S256x4096) ![0, 2304] ![256, 128] (inb_group 18 (by decide)), k0_pay744 (F := Ideal) (k0_pay740 (F := Ideal) (rootAt v) (v 18) (w 18)) (k0_pay741 (F := Ideal) (rootAt v) (v 18) (w 18)) (Scalar.ofBits (F := Ideal) .f32 0x3B124925#32)⟩,
   ⟨Rect.unit (s := S256x4096) ![0, 2176] ![256, 128] (inb_group 17 (by decide)), k0_pay739 (F := Ideal) (k0_pay733 (F := Ideal) (rootAt v) (v 17) (w 17)) (k0_pay734 (F := Ideal) (rootAt v) (v 17) (w 17)) (k0_pay735 (F := Ideal) (rootAt v) (v 17) (w 17)) (k0_pay736 (F := Ideal) )⟩,
   ⟨Rect.unit (s := S256x4096) ![0, 2048] ![256, 128] (inb_group 16 (by decide)), k0_pay732 (F := Ideal) (k0_pay727 (F := Ideal) (rootAt v) (v 16) (w 16)) (k0_pay728 (F := Ideal) (rootAt v) (v 16) (w 16)) (k0_pay729 (F := Ideal) (rootAt v) (v 16) (w 16))⟩,
   ⟨Rect.unit (s := S256x4096) ![0, 1920] ![256, 128] (inb_group 15 (by decide)), k0_pay726 (F := Ideal) (k0_pay722 (F := Ideal) (rootAt v) (v 15) (w 15)) (k0_pay723 (F := Ideal) (rootAt v) (v 15) (w 15)) (k0_pay724 (F := Ideal) )⟩,
   ⟨Rect.unit (s := S256x4096) ![0, 1792] ![256, 128] (inb_group 14 (by decide)), k0_pay721 (F := Ideal) (k0_pay718 (F := Ideal) (rootAt v) (v 14) (w 14)) (k0_pay720 (F := Ideal) (rootAt v) (v 14) (w 14))⟩,
   ⟨Rect.unit (s := S256x4096) ![0, 1664] ![256, 128] (inb_group 13 (by decide)), k0_pay716 (F := Ideal) (k0_pay713 (F := Ideal) (rootAt v) (v 13) (w 13))⟩,
   ⟨Rect.unit (s := S256x4096) ![0, 1536] ![256, 128] (inb_group 12 (by decide)), k0_pay712 (F := Ideal) (k0_pay706 (F := Ideal) (rootAt v) (v 12) (w 12)) (k0_pay707 (F := Ideal) (rootAt v) (v 12) (w 12)) (k0_pay708 (F := Ideal) (rootAt v) (v 12) (w 12)) (k0_pay709 (F := Ideal) )⟩,
   ⟨Rect.unit (s := S256x4096) ![0, 1408] ![256, 128] (inb_group 11 (by decide)), k0_pay705 (F := Ideal) (k0_pay697 (F := Ideal) (rootAt v) (v 11) (w 11)) (k0_pay698 (F := Ideal) (rootAt v) (v 11) (w 11)) (k0_pay699 (F := Ideal) (rootAt v) (v 11) (w 11)) (k0_pay700 (F := Ideal) (rootAt v) (v 11) (w 11)) (k0_pay701 (F := Ideal) (rootAt v) (v 11) (w 11)) (k0_pay702 (F := Ideal) (rootAt v) (v 11) (w 11))⟩,
   ⟨Rect.unit (s := S256x4096) ![0, 1280] ![256, 128] (inb_group 10 (by decide)), k0_pay696 (F := Ideal) (k0_pay690 (F := Ideal) (rootAt v) (v 10) (w 10)) (k0_pay692 (F := Ideal) (rootAt v) (v 10) (w 10)) (k0_pay693 (F := Ideal) (rootAt v) (v 10) (w 10))⟩,
   ⟨Rect.unit (s := S256x4096) ![0, 1152] ![256, 128] (inb_group 9 (by decide)), k0_pay689 (F := Ideal) (k0_pay685 (F := Ideal) (rootAt v) (v 9) (w 9)) (k0_pay686 (F := Ideal) (rootAt v) (v 9) (w 9)) (Scalar.ofBits (F := Ideal) .f32 0x43E00000#32) (k0_pay687 (F := Ideal) )⟩,
   ⟨Rect.unit (s := S256x4096) ![0, 1024] ![256, 128] (inb_group 8 (by decide)), k0_pay683 (F := Ideal) (k0_pay679 (F := Ideal) (rootAt v) (v 8)) (w 8)⟩,
   ⟨Rect.unit (s := S256x4096) ![0, 896] ![256, 128] (inb_group 7 (by decide)), k0_pay678 (F := Ideal) (k0_pay673 (F := Ideal) (rootAt v) (v 7) (w 7)) (k0_pay674 (F := Ideal) (rootAt v) (v 7) (w 7)) (k0_pay675 (F := Ideal) )⟩,
   ⟨Rect.unit (s := S256x4096) ![0, 768] ![256, 128] (inb_group 6 (by decide)), k0_pay672 (F := Ideal) (k0_pay666 (F := Ideal) (rootAt v) (v 6) (w 6)) (k0_pay667 (F := Ideal) (rootAt v) (v 6) (w 6)) (k0_pay668 (F := Ideal) (rootAt v) (v 6) (w 6)) (k0_pay669 (F := Ideal) (rootAt v) (v 6) (w 6))⟩,
   ⟨Rect.unit (s := S256x4096) ![0, 640] ![256, 128] (inb_group 5 (by decide)), k0_pay665 (F := Ideal) (k0_pay660 (F := Ideal) (rootAt v) (v 5) (w 5)) (k0_pay661 (F := Ideal) (rootAt v) (v 5) (w 5)) (k0_pay662 (F := Ideal) (rootAt v) (v 5) (w 5)) (Scalar.ofBits (F := Ideal) .f32 0x00000000#32)⟩,
   ⟨Rect.unit (s := S256x4096) ![0, 512] ![256, 128] (inb_group 4 (by decide)), k0_pay659 (F := Ideal) (k0_pay655 (F := Ideal) (rootAt v) (v 4) (w 4)) (k0_pay656 (F := Ideal) (rootAt v) (v 4) (w 4)) (k0_pay657 (F := Ideal) (rootAt v) (v 4) (w 4))⟩,
   ⟨Rect.unit (s := S256x4096) ![0, 384] ![256, 128] (inb_group 3 (by decide)), k0_pay654 (F := Ideal) (k0_pay652 (F := Ideal) (rootAt v) (v 3) (w 3)) (k0_pay653 (F := Ideal) (rootAt v) (v 3) (w 3))⟩,
   ⟨Rect.unit (s := S256x4096) ![0, 256] ![256, 128] (inb_group 2 (by decide)), k0_pay648 (F := Ideal) (k0_pay644 (F := Ideal) (rootAt v) (v 2) (w 2)) (k0_pay645 (F := Ideal) (rootAt v) (v 2) (w 2))⟩,
   ⟨Rect.unit (s := S256x4096) ![0, 128] ![256, 128] (inb_group 1 (by decide)), k0_pay643 (F := Ideal) (k0_pay638 (F := Ideal) (rootAt v) (v 1) (w 1)) (k0_pay639 (F := Ideal) (rootAt v) (v 1) (w 1)) (k0_pay640 (F := Ideal) (rootAt v) (v 1) (w 1))⟩,
   ⟨Rect.unit (s := S256x4096) ![0, 0] ![256, 128] (inb_group 0 (by decide)), k0_pay637 (F := Ideal) (k0_pay629 (F := Ideal) (sumAt v) (v 29) (v 30) (v 31) (v 0) (w 0)) (k0_pay630 (F := Ideal) (sumAt v) (v 29) (v 30) (v 31) (v 0) (w 0)) (k0_pay631 (F := Ideal) (sumAt v) (v 29) (v 30) (v 31) (v 0) (w 0)) (k0_pay632 (F := Ideal) (sumAt v) (v 29) (v 30) (v 31) (v 0) (w 0)) (k0_pay633 (F := Ideal) (sumAt v) (v 29) (v 30) (v 31) (v 0) (w 0)) (k0_pay634 (F := Ideal) (sumAt v) (v 29) (v 30) (v 31) (v 0) (w 0)) (Scalar.ofBits (F := Ideal) .f32 0x3F000000#32)⟩]

theorem wideList_eq : wideList v w = groupPieces (e := .bf16) (fun n => wides (normed (rootAt v) (cast v n) (w n))) 32 le_rfl :=
  group_cons (e := .bf16) 31 (by decide) (wides_31 v w (rootAt v)) <|
  group_cons (e := .bf16) 30 (by decide) (wides_30 v w (rootAt v)) <|
  group_cons (e := .bf16) 29 (by decide) (wides_29 v w (rootAt v)) <|
  group_cons (e := .bf16) 28 (by decide) (wides_28 v w (rootAt v)) <|
  group_cons (e := .bf16) 27 (by decide) (wides_27 v w (rootAt v)) <|
  group_cons (e := .bf16) 26 (by decide) (wides_26 v w (rootAt v)) <|
  group_cons (e := .bf16) 25 (by decide) (wides_25 v w (rootAt v)) <|
  group_cons (e := .bf16) 24 (by decide) (wides_24 v w (rootAt v)) <|
  group_cons (e := .bf16) 23 (by decide) (wides_23 v w (rootAt v)) <|
  group_cons (e := .bf16) 22 (by decide) (wides_22 v w (rootAt v)) <|
  group_cons (e := .bf16) 21 (by decide) (wides_21 v w (rootAt v)) <|
  group_cons (e := .bf16) 20 (by decide) (wides_20 v w (rootAt v)) <|
  group_cons (e := .bf16) 19 (by decide) (wides_19 v w (rootAt v)) <|
  group_cons (e := .bf16) 18 (by decide) (wides_18 v w (rootAt v)) <|
  group_cons (e := .bf16) 17 (by decide) (wides_17 v w (rootAt v)) <|
  group_cons (e := .bf16) 16 (by decide) (wides_16 v w (rootAt v)) <|
  group_cons (e := .bf16) 15 (by decide) (wides_15 v w (rootAt v)) <|
  group_cons (e := .bf16) 14 (by decide) (wides_14 v w (rootAt v)) <|
  group_cons (e := .bf16) 13 (by decide) (wides_13 v w (rootAt v)) <|
  group_cons (e := .bf16) 12 (by decide) (wides_12 v w (rootAt v)) <|
  group_cons (e := .bf16) 11 (by decide) (wides_11 v w (rootAt v)) <|
  group_cons (e := .bf16) 10 (by decide) (wides_10 v w (rootAt v)) <|
  group_cons (e := .bf16) 9 (by decide) (wides_9 v w (rootAt v)) <|
  group_cons (e := .bf16) 8 (by decide) (wides_8 v w (rootAt v)) <|
  group_cons (e := .bf16) 7 (by decide) (wides_7 v w (rootAt v)) <|
  group_cons (e := .bf16) 6 (by decide) (wides_6 v w (rootAt v)) <|
  group_cons (e := .bf16) 5 (by decide) (wides_5 v w (rootAt v)) <|
  group_cons (e := .bf16) 4 (by decide) (wides_4 v w (rootAt v)) <|
  group_cons (e := .bf16) 3 (by decide) (wides_3 v w (rootAt v)) <|
  group_cons (e := .bf16) 2 (by decide) (wides_2 v w (rootAt v)) <|
  group_cons (e := .bf16) 1 (by decide) (wides_1 v w (rootAt v)) <|
  group_cons (e := .bf16) 0 (by decide) (wides_0 v w) <| rfl

end Cert.OprojIdeal.Value

end
-- ==== Proof.OprojPays.lean ====
/- What one grid point of `oproj` stores, as lists of pieces of generic tiles: the widened weight blocks, the tiles of h1, and the groups of the normed rows quantised. -/
module

public import proofs.«01_k».proof.Proof.OprojGroups

@[expose] public section

set_option maxRecDepth 65536

noncomputable section

namespace Cert.OprojIdeal.Value

open Cert.OprojIdeal Cert.OprojIdeal.Gen Idealize.ShloMosaic Idealize.ShloMosaic.TcCoe Idealize.SL.Sem
open Cert.NormValue
open Cert.DownIdeal.Value (block)

/-! ## What the two cases store -/

section cases

variable (c : Dev nD) (i : grid0.Coords) (arg1 : Memref sig .tc .vmem S256x4096 .bf16) (harg1 : arg1.IsWhole) (arg2 : Memref sig .tc .vmem S256x2048 .bf16) (harg2 : arg2.IsWhole) (arg3 : Memref sig .tc .vmem S2048x4096 .fp8e4m3) (harg3 : arg3.IsWhole) (arg4 : Memref sig .tc .smem S16x32 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .fp8e4m3) (harg7 : arg7.IsWhole) (arg8 : Memref sig .tc .vmem S32x256 .f32) (harg8 : arg8.IsWhole) (arg9 : Memref sig .tc .vmem S256x4096 .bf16) (harg9 : arg9.IsWhole) (arg10 : Memref sig .tc .vmem S2048x4096 .bf16) (harg10 : arg10.IsWhole)
  (x0 : Vec Ideal S256x4096 .bf16) (x1 : Vec Ideal S256x2048 .bf16) (x2 : Vec Ideal S2048x4096 .fp8e4m3) (x3 : Vec Ideal S16x32 .f32) (x4 : Vec Ideal S1x4096 .f32) (xs0 : Vec Ideal S2048x4096 .bf16)

/-- The tiles of h1 of a later point, -/
abbrev tilesB : List (View.Piece (Elt Ideal) S256x4096 .f32) := tilePieces (e := .f32) (fun n h => h1Tile (xLoad arg1 harg1 x0 n h) (aLoad arg2 harg2 x1) (sLoad arg10 harg10 xs0 n h)) 8 le_rfl
/-- the blocks of the first point, -/
abbrev blocksA : List (View.Piece (Elt Ideal) S2048x4096 .bf16) := blockPieces (e := .bf16) (bAt arg3 harg3 x2 arg4 harg4 x3) 512 le_rfl
/-- and its tiles. -/
abbrev tilesA : List (View.Piece (Elt Ideal) S256x4096 .f32) := tilePieces (e := .f32) (fun n h => h1Tile (xLoad arg1 harg1 x0 n h) (aLoad arg2 harg2 x1) (sBack arg10 (blocksA arg3 harg3 arg4 harg4 x2 x3) n h)) 8 le_rfl

theorem tiles_B (hc0 : ¬cond0_0 i) : (kernelRun0_B c i arg1 harg1 arg2 harg2 arg3 harg3 arg4 harg4 arg5 harg5 arg6 harg6 arg7 harg7 arg8 harg8 arg9 harg9 arg10 harg10 hc0 x0 x1 x2 x3 x4 xs0).1 = tilesB arg1 harg1 arg2 harg2 arg10 harg10 x0 x1 xs0 := by
  sl_kernel_rfl
theorem codes_B (hc0 : ¬cond0_0 i) : (kernelRun0_B c i arg1 harg1 arg2 harg2 arg3 harg3 arg4 harg4 arg5 harg5 arg6 harg6 arg7 harg7 arg8 harg8 arg9 harg9 arg10 harg10 hc0 x0 x1 x2 x3 x4 xs0).2.1 = codeList (vAt arg6 (tilesB arg1 harg1 arg2 harg2 arg10 harg10 x0 x1 xs0)) (wAt arg5 harg5 x4) := by
  sl_kernel_rfl
theorem scales_B (hc0 : ¬cond0_0 i) : (kernelRun0_B c i arg1 harg1 arg2 harg2 arg3 harg3 arg4 harg4 arg5 harg5 arg6 harg6 arg7 harg7 arg8 harg8 arg9 harg9 arg10 harg10 hc0 x0 x1 x2 x3 x4 xs0).2.2.1 = [⟨Rect.unit (s := S32x256) ![0, 0] ![32, 256] inb_rows, rowsAt (vAt arg6 (tilesB arg1 harg1 arg2 harg2 arg10 harg10 x0 x1 xs0)) (wAt arg5 harg5 x4)⟩] := by
  sl_kernel_rfl
theorem wides_B (hc0 : ¬cond0_0 i) : (kernelRun0_B c i arg1 harg1 arg2 harg2 arg3 harg3 arg4 harg4 arg5 harg5 arg6 harg6 arg7 harg7 arg8 harg8 arg9 harg9 arg10 harg10 hc0 x0 x1 x2 x3 x4 xs0).2.2.2.1 = wideList (vAt arg6 (tilesB arg1 harg1 arg2 harg2 arg10 harg10 x0 x1 xs0)) (wAt arg5 harg5 x4) := by
  sl_kernel_rfl
theorem blocks_A (hc0 : cond0_0 i) : (kernelRun0_A c i arg1 harg1 arg2 harg2 arg3 harg3 arg4 harg4 arg5 harg5 arg6 harg6 arg7 harg7 arg8 harg8 arg9 harg9 arg10 harg10 hc0 x0 x1 x2 x3 x4).2.2.2.2.1 = blocksA arg3 harg3 arg4 harg4 x2 x3 := by
  sl_kernel_rfl
theorem tiles_A (hc0 : cond0_0 i) : (kernelRun0_A c i arg1 harg1 arg2 harg2 arg3 harg3 arg4 harg4 arg5 harg5 arg6 harg6 arg7 harg7 arg8 harg8 arg9 harg9 arg10 harg10 hc0 x0 x1 x2 x3 x4).1 = tilesA arg1 harg1 arg2 harg2 arg3 harg3 arg4 harg4 arg10 x0 x1 x2 x3 := by
  sl_kernel_rfl
theorem codes_A (hc0 : cond0_0 i) : (kernelRun0_A c i arg1 harg1 arg2 harg2 arg3 harg3 arg4 harg4 arg5 harg5 arg6 harg6 arg7 harg7 arg8 harg8 arg9 harg9 arg10 harg10 hc0 x0 x1 x2 x3 x4).2.1 = codeList (vAt arg6 (tilesA arg1 harg1 arg2 harg2 arg3 harg3 arg4 harg4 arg10 x0 x1 x2 x3)) (wAt arg5 harg5 x4) := by
  sl_kernel_rfl
theorem scales_A (hc0 : cond0_0 i) : (kernelRun0_A c i arg1 harg1 arg2 harg2 arg3 harg3 arg4 harg4 arg5 harg5 arg6 harg6 arg7 harg7 arg8 harg8 arg9 harg9 arg10 harg10 hc0 x0 x1 x2 x3 x4).2.2.1 = [⟨Rect.unit (s := S32x256) ![0, 0] ![32, 256] inb_rows, rowsAt (vAt arg6 (tilesA arg1 harg1 arg2 harg2 arg3 harg3 arg4 harg4 arg10 x0 x1 x2 x3)) (wAt arg5 harg5 x4)⟩] := by
  sl_kernel_rfl
theorem wides_A (hc0 : cond0_0 i) : (kernelRun0_A c i arg1 harg1 arg2 harg2 arg3 harg3 arg4 harg4 arg5 harg5 arg6 harg6 arg7 harg7 arg8 harg8 arg9 harg9 arg10 harg10 hc0 x0 x1 x2 x3 x4).2.2.2.1 = wideList (vAt arg6 (tilesA arg1 harg1 arg2 harg2 arg3 harg3 arg4 harg4 arg10 x0 x1 x2 x3)) (wAt arg5 harg5 x4) := by
  sl_kernel_rfl

end cases

end Cert.OprojIdeal.Value

end
-- ==== Proof.OprojClosed.lean ====
/- The results of `oproj` as functions of the argument arrays, index by index: h1, and the codes, the scales and their product of the normed rows of h1, quantised in groups of 128 columns. -/
module

public import proofs.«01_k».proof.Proof.NormTile

@[expose] public section

noncomputable section

namespace Cert.OprojValue

open Cert.NormIdeal Idealize.ShloMosaic Idealize.ShloMosaic.TcCoe Cert.NormValue

variable (a0 : Vec Ideal ⟨2, ![2048, 4096]⟩ .bf16) (a1 : Vec Ideal ⟨2, ![2048, 2048]⟩ .bf16) (a2 : Vec Ideal ⟨2, ![2048, 4096]⟩ .fp8e4m3) (a3 : Vec Ideal ⟨2, ![16, 32]⟩ .f32) (a4 : Vec Ideal ⟨2, ![1, 4096]⟩ .f32)

/-- A widened weight: the code times the scale of its block. -/
def weight (k : Fin 2048) (c : Fin 4096) : EReal := a2 (ix2 k c) * a3 (ix2 ⟨k.val / 128, by omega⟩ ⟨c.val / 128, by omega⟩)

/-- A row of h1: the input row plus the activations' row times the widened weights. -/
def row (r : Fin 2048) (c : Fin 4096) : EReal := a0 (ix2 r c) + ∑ k : Fin 2048, a1 (ix2 r k) * weight a2 a3 k c
/-- The weights of the norm. -/
def weights (k : Fin 4096) : EReal := a4 (ix2 0 k)

/-- h1, -/
def resH1 : Vec Ideal ⟨2, ![2048, 4096]⟩ .f32 := fun j => row a0 a1 a2 a3 (j 0) (j 1)

/-- the codes, -/
def resCodes : Vec Ideal ⟨2, ![2048, 4096]⟩ .fp8e4m3 := fun j => rowCode (row a0 a1 a2 a3 (j 0)) (weights a4) (j 1)

/-- the scales, -/
def resScales : Vec Ideal ⟨2, ![32, 2048]⟩ .f32 := fun j => rowScale (row a0 a1 a2 a3 (j 1)) (weights a4) (j 0)

/-- and the codes times their scales. -/
def resWide : Vec Ideal ⟨2, ![2048, 4096]⟩ .bf16 := fun j => rowWide (row a0 a1 a2 a3 (j 0)) (weights a4) (j 1)

end Cert.OprojValue

end
-- ==== Proof.OprojPoint.lean ====
/- What one grid point of `oproj` leaves, as functions of its blocks: the tile of h1, the widened weights, and the codes, the scales and their product of the normed rows of h1. -/
module

public import proofs.«01_k».proof.Proof.OprojPays
public import proofs.«01_k».proof.Proof.OprojClosed
public import proofs.«01_k».proof.Proof.UpIdealBlocks
public import Idealize.ShloMosaic.Lib.WholeRead
public import Idealize.ShloMosaic.Lib.Pipeline.ValueKit

@[expose] public section

set_option maxRecDepth 65536

noncomputable section

namespace Cert.OprojIdeal.Value

open Cert.OprojIdeal Cert.OprojIdeal.Gen Idealize.ShloMosaic Idealize.ShloMosaic.TcCoe Idealize.SL.Sem
open Cert.NormValue
open Cert.OprojValue (weight weights)
open Cert.DownIdeal.Value (block block_apply canon_of_piecesOf)

/-- A load after stores that cover a buffer with parts of `W` reads `W`. -/
theorem readCov_eq {s : Shape} {e : EltTy} (v : View sig .tc .vmem s e) (W : s.Idx → Elt Ideal e) (L : List (View.Piece (Elt Ideal) s e)) (B : LoadRect s)
    (h : View.PiecesOf W L) (hc : ∀ y, ∃ p ∈ L, y ∈ p.1.set) : v.readCov L B = fun j => W (B.idx j) := by
  rw [View.readCov_eq_canon']
  exact funext fun j => congrFun (canon_of_piecesOf W L h hc) _

/-! ## Where the boxes lie -/

theorem emb_tile (n : ℕ) (h : n < 8) (inb) (r : Fin 256) (z : Fin 512) :
    (Rect.unit (s := S256x4096) ![0, 512 * n] ![256, 512] inb).emb (ix2 r z) = ix2 r ⟨512 * n + z.val, by omega⟩ := by blk_ext
theorem emb_cols (n : ℕ) (h : n < 8) (inb) (k : Fin 2048) (z : Fin 512) :
    (Rect.unit (s := S2048x4096) ![0, 512 * n] ![2048, 512] inb).emb (ix2 k z) = ix2 k ⟨512 * n + z.val, by omega⟩ := by blk_ext
theorem emb_acts (inb) (r : Fin 256) (k : Fin 2048) : (Rect.unit (s := S256x2048) ![0, 0] ![256, 2048] inb).emb (ix2 r k) = ix2 r k := by blk_ext
theorem emb_group (n : ℕ) (h : n < 32) (inb) (r : Fin 256) (z : Fin 128) :
    (Rect.unit (s := S256x4096) ![0, 128 * n] ![256, 128] inb).emb (ix2 r z) = ix2 r ⟨128 * n + z.val, by omega⟩ := by blk_ext
theorem emb_weights (n : ℕ) (h : n < 32) (inb) (z : Fin 128) :
    (Rect.unit (s := S1x4096) ![0, 128 * n] ![1, 128] inb).emb (ix2 0 z) = ix2 0 ⟨128 * n + z.val, by omega⟩ := by blk_ext
theorem emb_block (n : ℕ) (h : n < 512) (inb) (a b : Fin 128) :
    (Rect.unit (s := S2048x4096) ![128 * (n / 32), 128 * (n % 32)] ![128, 128] inb).emb (ix2 a b) = ix2 ⟨128 * (n / 32) + a.val, by omega⟩ ⟨128 * (n % 32) + b.val, by omega⟩ := by blk_ext
theorem emb_scale (n : ℕ) (h : n < 512) (inb) (h1) :
    (Rect.unit (s := S16x32) ![n / 32, n % 32] ![1, 1] inb).emb (Shape.Idx.first h1) = ix2 ⟨n / 32, by omega⟩ ⟨n % 32, by omega⟩ := by blk_ext

/-! ## The widened weights -/

/-- The widened weights, -/
def wide (x2 : Vec Ideal S2048x4096 .fp8e4m3) (x3 : Vec Ideal S16x32 .f32) : Vec Ideal S2048x4096 .bf16 := fun j => weight x2 x3 (j 0) (j 1)

/-- of which each block stored is a part. -/
theorem bAt_piece (M : Memref sig .tc .vmem S2048x4096 .fp8e4m3) (hM : M.IsWhole) (x2 : Vec Ideal S2048x4096 .fp8e4m3) (K : Memref sig .tc .smem S16x32 .f32) (hK : K.IsWhole) (x3 : Vec Ideal S16x32 .f32)
    (n : ℕ) (h : n < 512) (x : S128x128.Idx) : bAt M hM x2 K hK x3 n h x = wide x2 x3 ((Rect.unit (s := S2048x4096) ![128 * (n / 32), 128 * (n % 32)] ![128, 128] (inb_block n h)).emb x) := by
  obtain ⟨a, b, rfl⟩ : ∃ (a : Fin 128) (b : Fin 128), x = ix2 a b := ⟨x 0, x 1, (ix2_eta x).symm⟩
  refine (block_apply _ _ _).trans ?_
  rw [hM.readAt_unread, hK.readAt_unread, emb_block n h]
  refine (congrArg₂ (fun p q : EReal => p * q) (congrArg x2 (emb_block n h (inb_block n h) a b)) (congrArg x3 (emb_scale n h (inb_scale n h) _))).trans ?_
  show x2 _ * x3 (ix2 ⟨n / 32, _⟩ ⟨n % 32, _⟩) = x2 _ * x3 (ix2 ⟨(128 * (n / 32) + a.val) / 128, _⟩ ⟨(128 * (n % 32) + b.val) / 128, _⟩)
  congr 3
  · exact Fin.ext (by show n / 32 = (128 * (n / 32) + a.val) / 128; omega)
  · exact Fin.ext (by show n % 32 = (128 * (n % 32) + b.val) / 128; omega)

theorem blocks_cover (f : ∀ n, n < 512 → S128x128.Idx → Elt Ideal .bf16) (y : S2048x4096.Idx) : ∃ p ∈ blockPieces (e := .bf16) f 512 le_rfl, y ∈ p.1.set :=
  View.cover_of_tiledL (s := S2048x4096) _ S128x128.size (by sl_kernel_rfl) y

theorem sBack_eq (M : Memref sig .tc .vmem S2048x4096 .bf16) (L : List (View.Piece (Elt Ideal) S2048x4096 .bf16)) (W : Vec Ideal S2048x4096 .bf16) (hL : View.PiecesOf W L) (hc : ∀ y, ∃ p ∈ L, y ∈ p.1.set)
    (n : ℕ) (h : n < 8) (j : S2048x512.Idx) : sBack M L n h j = W ((Rect.unit (s := S2048x4096) ![0, 512 * n] ![2048, 512] (inb_cols n h)).emb j) := by
  rw [sBack, readCov_eq M.view W L _ hL hc]; rfl

/-! ## h1 -/

/-- The tile of h1, for any widened weights `W`, -/
def h1Of (x0 : Vec Ideal S256x4096 .bf16) (x1 : Vec Ideal S256x2048 .bf16) (W : Vec Ideal S2048x4096 .bf16) : Vec Ideal S256x4096 .f32 :=
  fun j => x0 j + ∑ k : Fin 2048, x1 (ix2 (j 0) k) * W (ix2 k (j 1))

theorem h1Tile_apply (x : Vec Ideal S256x512 .bf16) (a : Vec Ideal S256x2048 .bf16) (w : Vec Ideal S2048x512 .bf16) (r : Fin 256) (z : Fin 512) :
    h1Tile x a w (ix2 r z) = x (ix2 r z) + ∑ k : Fin 2048, a (ix2 r k) * w (ix2 k z) := by
  pointwise [h1Tile, Ideal.ofBits_zero_f32]

/-- of which each tile stored is a part. -/
theorem tile_piece (M1 : Memref sig .tc .vmem S256x4096 .bf16) (hM1 : M1.IsWhole) (x0 : Vec Ideal S256x4096 .bf16) (M2 : Memref sig .tc .vmem S256x2048 .bf16) (hM2 : M2.IsWhole) (x1 : Vec Ideal S256x2048 .bf16)
    (W : Vec Ideal S2048x4096 .bf16) (n : ℕ) (h : n < 8) (w : Vec Ideal S2048x512 .bf16) (hw : ∀ j, w j = W ((Rect.unit (s := S2048x4096) ![0, 512 * n] ![2048, 512] (inb_cols n h)).emb j)) (x : S256x512.Idx) :
    h1Tile (xLoad M1 hM1 x0 n h) (aLoad M2 hM2 x1) w x = h1Of x0 x1 W ((Rect.unit (s := S256x4096) ![0, 512 * n] ![256, 512] (inb_tile n h)).emb x) := by
  obtain ⟨r, z, rfl⟩ : ∃ (r : Fin 256) (z : Fin 512), x = ix2 r z := ⟨x 0, x 1, (ix2_eta x).symm⟩
  have ex : xLoad M1 hM1 x0 n h (ix2 r z) = x0 (ix2 r ⟨512 * n + z.val, by omega⟩) := (hM1.readAt_unread _ _ _).trans (congrArg x0 (emb_tile n h _ r z))
  have ea : ∀ k, aLoad M2 hM2 x1 (ix2 r k) = x1 (ix2 r k) := fun k => (hM2.readAt_unread _ _ _).trans (congrArg x1 (emb_acts _ r k))
  have ew : ∀ k, w (ix2 k z) = W (ix2 k ⟨512 * n + z.val, by omega⟩) := fun k => (hw _).trans (congrArg W (emb_cols n h _ k z))
  rw [h1Tile_apply, ex, emb_tile n h]
  simp only [ea, ew]
  rfl

theorem tiles_cover (f : ∀ n, n < 8 → S256x512.Idx → Elt Ideal .f32) (y : S256x4096.Idx) : ∃ p ∈ tilePieces (e := .f32) f 8 le_rfl, y ∈ p.1.set :=
  View.cover_of_tiledL (s := S256x4096) _ S256x512.size (by sl_kernel_rfl) y

/-! ## The groups of the rows of a tile `H` of h1 -/

/-- What the point leaves of them: the codes, the scales and their product. -/
def codesOf (H : Vec Ideal S256x4096 .f32) (x4 : Vec Ideal S1x4096 .f32) : Vec Ideal S256x4096 .fp8e4m3 := fun j => rowCode (fun k => H (ix2 (j 0) k)) (weights x4) (j 1)
def scalesOf (H : Vec Ideal S256x4096 .f32) (x4 : Vec Ideal S1x4096 .f32) : Vec Ideal S32x256 .f32 := fun j => rowScale (fun k => H (ix2 (j 1) k)) (weights x4) (j 0)
def widesOf (H : Vec Ideal S256x4096 .f32) (x4 : Vec Ideal S1x4096 .f32) : Vec Ideal S256x4096 .bf16 := fun j => rowWide (fun k => H (ix2 (j 0) k)) (weights x4) (j 1)

section groups

variable (M : Memref sig .tc .vmem S256x4096 .f32) (L : List (View.Piece (Elt Ideal) S256x4096 .f32)) (H : Vec Ideal S256x4096 .f32) (hL : View.PiecesOf H L) (hc : ∀ y, ∃ p ∈ L, y ∈ p.1.set)
  (M5 : Memref sig .tc .vmem S1x4096 .f32) (hM5 : M5.IsWhole) (x4 : Vec Ideal S1x4096 .f32)

include hL hc in
theorem row_vAt (r : Fin 256) : Row (cast (vAt M L)) r (fun k => H (ix2 r k)) := by
  intro n x
  rw [cast_apply, vAt, dif_pos n.isLt, readCov_eq M.view H L _ hL hc]
  exact congrArg H (emb_group n.val n.isLt (inb_group n.val n.isLt) r x)

theorem weights_wAt (n : Fin 32) (x : Fin 128) : wAt M5 hM5 x4 n.val (ix2 0 x) = weights x4 ⟨128 * n.val + x.val, by omega⟩ := by
  rw [wAt, dif_pos n.isLt, hM5.readAt_unread]
  exact congrArg x4 (emb_weights n.val n.isLt (inb_weights n.val n.isLt) x)

theorem groups_cover {e : EltTy} (f : ℕ → S256x128.Idx → Elt Ideal e) (y : S256x4096.Idx) : ∃ p ∈ groupPieces (e := e) f 32 le_rfl, y ∈ p.1.set :=
  View.cover_of_tiledL (s := S256x4096) _ S256x128.size (by sl_kernel_rfl) y

include hL hc

theorem codes_left : View.canon (codeList (vAt M L) (wAt M5 hM5 x4)) = codesOf H x4 := by
  rw [codeList_eq]
  refine canon_of_piecesOf _ _ (groupPieces_of _ _ (fun n h x => ?_) 32 le_rfl) (groups_cover _)
  obtain ⟨r, z, rfl⟩ : ∃ (r : Fin 256) (z : Fin 128), x = ix2 r z := ⟨x 0, x 1, (ix2_eta x).symm⟩
  rw [emb_group n h, rootAt_eq]
  exact codes_row (row_vAt M L H hL hc r) (weights_wAt M5 hM5 x4) ⟨n, h⟩ z

theorem wides_left : View.canon (wideList (vAt M L) (wAt M5 hM5 x4)) = widesOf H x4 := by
  rw [wideList_eq]
  refine canon_of_piecesOf _ _ (groupPieces_of _ _ (fun n h x => ?_) 32 le_rfl) (groups_cover _)
  obtain ⟨r, z, rfl⟩ : ∃ (r : Fin 256) (z : Fin 128), x = ix2 r z := ⟨x 0, x 1, (ix2_eta x).symm⟩
  rw [emb_group n h, rootAt_eq]
  exact wides_row (row_vAt M L H hL hc r) (weights_wAt M5 hM5 x4) ⟨n, h⟩ z

theorem codes_covered (y : S256x4096.Idx) : ∃ p ∈ codeList (vAt M L) (wAt M5 hM5 x4), y ∈ p.1.set := by
  rw [codeList_eq]; exact groups_cover _ y
theorem wides_covered (y : S256x4096.Idx) : ∃ p ∈ wideList (vAt M L) (wAt M5 hM5 x4), y ∈ p.1.set := by
  rw [wideList_eq]; exact groups_cover _ y

omit hL hc in
theorem rows_covered (p : S32x256.Idx → Elt Ideal .f32) (y : S32x256.Idx) : ∃ q ∈ ([⟨Rect.unit (s := S32x256) ![0, 0] ![32, 256] inb_rows, p⟩] : List (View.Piece (Elt Ideal) S32x256 .f32)), y ∈ q.1.set :=
  View.cover_of_tiledL (s := S32x256) _ S32x256.size (by sl_kernel_rfl) y

theorem rows_left : View.canon ([⟨Rect.unit (s := S32x256) ![0, 0] ![32, 256] inb_rows, rowsAt (vAt M L) (wAt M5 hM5 x4)⟩] : List (View.Piece (Elt Ideal) S32x256 .f32)) = scalesOf H x4 := by
  refine canon_of_piecesOf _ _ ⟨fun x => ?_, trivial⟩ (rows_covered _)
  obtain ⟨n, r, rfl⟩ : ∃ (n : Fin 32) (r : Fin 256), x = ix2 n r := ⟨x 0, x 1, (ix2_eta x).symm⟩
  refine (congrFun (rowsAt_eq (vAt M L) (wAt M5 hM5 x4)) _).trans ?_
  rw [show (Rect.unit (s := S32x256) ![0, 0] ![32, 256] inb_rows).emb (ix2 n r) = ix2 n r by blk_ext, rows_at, rootAt_eq]
  exact scales_row (row_vAt M L H hL hc r) (weights_wAt M5 hM5 x4) n 0

end groups

/-! ## The two cases -/

section cases

variable (c : Dev nD) (i : grid0.Coords) (arg1 : Memref sig .tc .vmem S256x4096 .bf16) (harg1 : arg1.IsWhole) (arg2 : Memref sig .tc .vmem S256x2048 .bf16) (harg2 : arg2.IsWhole) (arg3 : Memref sig .tc .vmem S2048x4096 .fp8e4m3) (harg3 : arg3.IsWhole) (arg4 : Memref sig .tc .smem S16x32 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .fp8e4m3) (harg7 : arg7.IsWhole) (arg8 : Memref sig .tc .vmem S32x256 .f32) (harg8 : arg8.IsWhole) (arg9 : Memref sig .tc .vmem S256x4096 .bf16) (harg9 : arg9.IsWhole) (arg10 : Memref sig .tc .vmem S2048x4096 .bf16) (harg10 : arg10.IsWhole)
  (x0 : Vec Ideal S256x4096 .bf16) (x1 : Vec Ideal S256x2048 .bf16) (x2 : Vec Ideal S2048x4096 .fp8e4m3) (x3 : Vec Ideal S16x32 .f32) (x4 : Vec Ideal S1x4096 .f32) (xs0 : Vec Ideal S2048x4096 .bf16)

theorem blocksA_of : View.PiecesOf (wide x2 x3) (blocksA arg3 harg3 arg4 harg4 x2 x3) := blockPieces_of _ _ (bAt_piece arg3 harg3 x2 arg4 harg4 x3) 512 le_rfl

theorem tilesB_of : View.PiecesOf (h1Of x0 x1 xs0) (tilesB arg1 harg1 arg2 harg2 arg10 harg10 x0 x1 xs0) :=
  tilePieces_of _ _ (fun n h x => tile_piece arg1 harg1 x0 arg2 harg2 x1 xs0 n h _ (fun _ => harg10.readAt_unread _ _ _) x) 8 le_rfl

theorem tilesA_of : View.PiecesOf (h1Of x0 x1 (wide x2 x3)) (tilesA arg1 harg1 arg2 harg2 arg3 harg3 arg4 harg4 arg10 x0 x1 x2 x3) :=
  tilePieces_of _ _ (fun n h x => tile_piece arg1 harg1 x0 arg2 harg2 x1 (wide x2 x3) n h _
    (sBack_eq arg10 (blocksA arg3 harg3 arg4 harg4 x2 x3) (wide x2 x3) (blocksA_of arg3 harg3 arg4 harg4 x2 x3) (blocks_cover (bAt arg3 harg3 x2 arg4 harg4 x3)) n h) x) 8 le_rfl

theorem sout_A (hc0 : cond0_0 i) : sout0_A_0 c i arg1 harg1 arg2 harg2 arg3 harg3 arg4 harg4 arg5 harg5 arg6 harg6 arg7 harg7 arg8 harg8 arg9 harg9 arg10 harg10 hc0 x0 x1 x2 x3 x4 = wide x2 x3 := by
  unfold sout0_A_0
  rw [blocks_A, View.read_writes_eq_canon _ _ _ (blocks_cover _)]
  exact canon_of_piecesOf _ _ (blocksA_of arg3 harg3 arg4 harg4 x2 x3) (blocks_cover _)

theorem h1_A (hc0 : cond0_0 i) : out0_A_5 c i arg1 harg1 arg2 harg2 arg3 harg3 arg4 harg4 arg5 harg5 arg6 harg6 arg7 harg7 arg8 harg8 arg9 harg9 arg10 harg10 hc0 x0 x1 x2 x3 x4 = h1Of x0 x1 (wide x2 x3) := by
  unfold out0_A_5
  rw [tiles_A, View.read_writes_eq_canon _ _ _ (tiles_cover _)]
  exact canon_of_piecesOf _ _ (tilesA_of arg1 harg1 arg2 harg2 arg3 harg3 arg4 harg4 arg10 x0 x1 x2 x3) (tiles_cover _)

theorem codesOf_A (hc0 : cond0_0 i) : out0_A_6 c i arg1 harg1 arg2 harg2 arg3 harg3 arg4 harg4 arg5 harg5 arg6 harg6 arg7 harg7 arg8 harg8 arg9 harg9 arg10 harg10 hc0 x0 x1 x2 x3 x4 = codesOf (h1Of x0 x1 (wide x2 x3)) x4 := by
  unfold out0_A_6
  rw [codes_A, View.read_writes_eq_canon _ _ _ (codes_covered arg6 _ (h1Of x0 x1 (wide x2 x3)) (tilesA_of arg1 harg1 arg2 harg2 arg3 harg3 arg4 harg4 arg10 x0 x1 x2 x3) (tiles_cover _) arg5 harg5 x4)]
  exact codes_left arg6 _ (h1Of x0 x1 (wide x2 x3)) (tilesA_of arg1 harg1 arg2 harg2 arg3 harg3 arg4 harg4 arg10 x0 x1 x2 x3) (tiles_cover _) arg5 harg5 x4

theorem scalesOf_A (hc0 : cond0_0 i) : out0_A_7 c i arg1 harg1 arg2 harg2 arg3 harg3 arg4 harg4 arg5 harg5 arg6 harg6 arg7 harg7 arg8 harg8 arg9 harg9 arg10 harg10 hc0 x0 x1 x2 x3 x4 = scalesOf (h1Of x0 x1 (wide x2 x3)) x4 := by
  unfold out0_A_7
  rw [scales_A, View.read_writes_eq_canon _ _ _ (rows_covered _)]
  exact rows_left arg6 _ (h1Of x0 x1 (wide x2 x3)) (tilesA_of arg1 harg1 arg2 harg2 arg3 harg3 arg4 harg4 arg10 x0 x1 x2 x3) (tiles_cover _) arg5 harg5 x4

theorem widesOf_A (hc0 : cond0_0 i) : out0_A_8 c i arg1 harg1 arg2 harg2 arg3 harg3 arg4 harg4 arg5 harg5 arg6 harg6 arg7 harg7 arg8 harg8 arg9 harg9 arg10 harg10 hc0 x0 x1 x2 x3 x4 = widesOf (h1Of x0 x1 (wide x2 x3)) x4 := by
  unfold out0_A_8
  rw [wides_A, View.read_writes_eq_canon _ _ _ (wides_covered arg6 _ (h1Of x0 x1 (wide x2 x3)) (tilesA_of arg1 harg1 arg2 harg2 arg3 harg3 arg4 harg4 arg10 x0 x1 x2 x3) (tiles_cover _) arg5 harg5 x4)]
  exact wides_left arg6 _ (h1Of x0 x1 (wide x2 x3)) (tilesA_of arg1 harg1 arg2 harg2 arg3 harg3 arg4 harg4 arg10 x0 x1 x2 x3) (tiles_cover _) arg5 harg5 x4

theorem h1_B (hc0 : ¬cond0_0 i) : out0_B_5 c i arg1 harg1 arg2 harg2 arg3 harg3 arg4 harg4 arg5 harg5 arg6 harg6 arg7 harg7 arg8 harg8 arg9 harg9 arg10 harg10 hc0 x0 x1 x2 x3 x4 xs0 = h1Of x0 x1 xs0 := by
  unfold out0_B_5
  rw [tiles_B, View.read_writes_eq_canon _ _ _ (tiles_cover _)]
  exact canon_of_piecesOf _ _ (tilesB_of arg1 harg1 arg2 harg2 arg10 harg10 x0 x1 xs0) (tiles_cover _)

theorem codesOf_B (hc0 : ¬cond0_0 i) : out0_B_6 c i arg1 harg1 arg2 harg2 arg3 harg3 arg4 harg4 arg5 harg5 arg6 harg6 arg7 harg7 arg8 harg8 arg9 harg9 arg10 harg10 hc0 x0 x1 x2 x3 x4 xs0 = codesOf (h1Of x0 x1 xs0) x4 := by
  unfold out0_B_6
  rw [codes_B, View.read_writes_eq_canon _ _ _ (codes_covered arg6 _ (h1Of x0 x1 xs0) (tilesB_of arg1 harg1 arg2 harg2 arg10 harg10 x0 x1 xs0) (tiles_cover _) arg5 harg5 x4)]
  exact codes_left arg6 _ (h1Of x0 x1 xs0) (tilesB_of arg1 harg1 arg2 harg2 arg10 harg10 x0 x1 xs0) (tiles_cover _) arg5 harg5 x4

theorem scalesOf_B (hc0 : ¬cond0_0 i) : out0_B_7 c i arg1 harg1 arg2 harg2 arg3 harg3 arg4 harg4 arg5 harg5 arg6 harg6 arg7 harg7 arg8 harg8 arg9 harg9 arg10 harg10 hc0 x0 x1 x2 x3 x4 xs0 = scalesOf (h1Of x0 x1 xs0) x4 := by
  unfold out0_B_7
  rw [scales_B, View.read_writes_eq_canon _ _ _ (rows_covered _)]
  exact rows_left arg6 _ (h1Of x0 x1 xs0) (tilesB_of arg1 harg1 arg2 harg2 arg10 harg10 x0 x1 xs0) (tiles_cover _) arg5 harg5 x4

theorem widesOf_B (hc0 : ¬cond0_0 i) : out0_B_8 c i arg1 harg1 arg2 harg2 arg3 harg3 arg4 harg4 arg5 harg5 arg6 harg6 arg7 harg7 arg8 harg8 arg9 harg9 arg10 harg10 hc0 x0 x1 x2 x3 x4 xs0 = widesOf (h1Of x0 x1 xs0) x4 := by
  unfold out0_B_8
  rw [wides_B, View.read_writes_eq_canon _ _ _ (wides_covered arg6 _ (h1Of x0 x1 xs0) (tilesB_of arg1 harg1 arg2 harg2 arg10 harg10 x0 x1 xs0) (tiles_cover _) arg5 harg5 x4)]
  exact wides_left arg6 _ (h1Of x0 x1 xs0) (tilesB_of arg1 harg1 arg2 harg2 arg10 harg10 x0 x1 xs0) (tiles_cover _) arg5 harg5 x4

end cases

end Cert.OprojIdeal.Value

end
-- ==== Proof.OprojIdealValue.lean ====
/- The kernel `oproj` leaves the closed forms: the scratch holds the widened weights after every grid point, so each point leaves its parts of them, and the run read. -/
module

public import proofs.«01_k».proof.Proof.OprojPoint
public import proofs.«01_k».proof.Proof.Gen.OprojIdeal.Value

@[expose] public section

set_option maxRecDepth 16384

noncomputable section

namespace Cert.OprojIdeal.Value

open Cert.OprojIdeal Cert.OprojIdeal.Gen Idealize.ShloMosaic Idealize.ShloMosaic.TcCoe Idealize.SL.Sem
open Cert.NormValue (rowCode rowScale rowWide)
open Cert.OprojValue
open Idealize.ShloMosaic.Pipeline (Dat)

variable (m : (ℓ : Loc nD τ sig) → Buf (Elt Ideal) ℓ) (ρ : Dev nD → PrngReg)

/-- The argument arrays. -/
abbrev arr0 (c : Dev nD) : Vec Ideal S2048x4096 .bf16 := V m c (Pipeline.arrRef spec0 0)
abbrev arr1 (c : Dev nD) : Vec Ideal S2048x2048 .bf16 := V m c (Pipeline.arrRef spec0 1)
abbrev arr2 (c : Dev nD) : Vec Ideal S2048x4096 .fp8e4m3 := V m c (Pipeline.arrRef spec0 2)
abbrev arr3 (c : Dev nD) : Vec Ideal S16x32 .f32 := V m c (Pipeline.arrRef spec0 3)
abbrev arr4 (c : Dev nD) : Vec Ideal S1x4096 .f32 := V m c (Pipeline.arrRef spec0 4)

/-! Which block of each array a grid point takes. -/

theorem index0 : ∀ t : Fin cfg0.N, win0_0.index t = ![(grid0.coords t 0).val, 0] := (by decide +kernel : ∀ t : Fin grid0.N, win0_0.index t = ![(grid0.coords t 0).val, 0])
theorem index1 : ∀ t : Fin cfg0.N, win0_1.index t = ![(grid0.coords t 0).val, 0] := (by decide +kernel : ∀ t : Fin grid0.N, win0_1.index t = ![(grid0.coords t 0).val, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![(grid0.coords t 0).val, 0] := (by decide +kernel : ∀ t : Fin grid0.N, win0_5.index t = ![(grid0.coords t 0).val, 0])
theorem index6 : ∀ t : Fin cfg0.N, win0_6.index t = ![(grid0.coords t 0).val, 0] := (by decide +kernel : ∀ t : Fin grid0.N, win0_6.index t = ![(grid0.coords t 0).val, 0])
theorem index7 : ∀ t : Fin cfg0.N, win0_7.index t = ![0, (grid0.coords t 0).val] := (by decide +kernel : ∀ t : Fin grid0.N, win0_7.index t = ![0, (grid0.coords t 0).val])
theorem index8 : ∀ t : Fin cfg0.N, win0_8.index t = ![(grid0.coords t 0).val, 0] := (by decide +kernel : ∀ t : Fin grid0.N, win0_8.index t = ![(grid0.coords t 0).val, 0])

theorem iblk0_at (c : Dev nD) (t : Fin cfg0.N) (r : Fin 256) (k : Fin 4096) (z : Fin 2048) (hz : z.val = 256 * (grid0.coords t 0).val + r.val) :
    (iblk m c 0 t : Vec Ideal S256x4096 .bf16) (ix2 r k) = arr0 m c (ix2 z k) := by
  have h0 : (grid0.coords t 0).val < 8 := (grid0.coords t 0).isLt
  blk_ext [iblk, index0 t]
theorem iblk1_at (c : Dev nD) (t : Fin cfg0.N) (r : Fin 256) (k : Fin 2048) (z : Fin 2048) (hz : z.val = 256 * (grid0.coords t 0).val + r.val) :
    (iblk m c 1 t : Vec Ideal S256x2048 .bf16) (ix2 r k) = arr1 m c (ix2 z k) := by
  have h0 : (grid0.coords t 0).val < 8 := (grid0.coords t 0).isLt
  blk_ext [iblk, index1 t]
theorem iblk2_at (c : Dev nD) (t : Fin cfg0.N) (k : Fin 2048) (b : Fin 4096) : (iblk m c 2 t : Vec Ideal S2048x4096 .fp8e4m3) (ix2 k b) = arr2 m c (ix2 k b) := by
  blk_ext [iblk, index2 t]
theorem iblk3_at (c : Dev nD) (t : Fin cfg0.N) (k : Fin 16) (b : Fin 32) : (iblk m c 3 t : Vec Ideal S16x32 .f32) (ix2 k b) = arr3 m c (ix2 k b) := by
  blk_ext [iblk, index3 t]
theorem iblk4_at (c : Dev nD) (t : Fin cfg0.N) (k : Fin 4096) : (iblk m c 4 t : Vec Ideal S1x4096 .f32) (ix2 0 k) = arr4 m c (ix2 0 k) := by
  blk_ext [iblk, index4 t]

theorem wide_iblk (c : Dev nD) (t : Fin cfg0.N) : wide (iblk m c 2 t) (iblk m c 3 t) = wide (arr2 m c) (arr3 m c) := by
  funext j
  obtain ⟨k, b, rfl⟩ : ∃ (k : Fin 2048) (b : Fin 4096), j = ix2 k b := ⟨j 0, j 1, (ix2_eta j).symm⟩
  exact congrArg₂ (fun p q : EReal => p * q) (iblk2_at m c t k b) (iblk3_at m c t _ _)

theorem weights_iblk (c : Dev nD) (t : Fin cfg0.N) : weights (iblk m c 4 t) = weights (arr4 m c) := funext fun k => iblk4_at m c t k

/-! ## The grid points -/

/-- The scratch holds the widened weights after every point. -/
theorem scratch_eq (c : Dev nD) : ∀ (n : ℕ) (hn : n < cfg0.N), (outsAt0 m c n hn).2.2.2.2 = wide (arr2 m c) (arr3 m c)
  | 0, hn => by
    have e := outsAt0_A m c ⟨0, hn⟩ rfl
    rw [show outsAt0 m c 0 hn = _ from e, ← wide_iblk m c ⟨0, hn⟩]
    dsimp only
    exact sout_A ..
  | n + 1, hn => by
    by_cases h0 : (n + 1) % 8 = 0
    · have e := outsAt0_A m c ⟨n + 1, hn⟩ h0
      rw [show outsAt0 m c (n + 1) hn = _ from e, ← wide_iblk m c ⟨n + 1, hn⟩]
      dsimp only
      exact sout_A ..
    · have e := outsAt0_B m c ⟨n + 1, hn⟩ h0
      rw [show outsAt0 m c (n + 1) hn = _ from e]
      exact scratch_eq c n (Nat.lt_of_succ_lt hn)

/-- The tile of h1 of a point. -/
def tileAt (c : Dev nD) (t : Fin cfg0.N) : Vec Ideal S256x4096 .f32 := h1Of (iblk m c 0 t) (iblk m c 1 t) (wide (arr2 m c) (arr3 m c))

theorem h1_left (c : Dev nD) (t : Fin cfg0.N) : (outsAt0 m c t.val t.isLt).1 = tileAt m c t := by
  unfold tileAt
  by_cases h0 : t.val % 8 = 0
  · rw [outsAt0_A m c t h0, ← wide_iblk m c t]
    dsimp only
    exact h1_A ..
  · rw [outsAt0_B m c t h0, ← scratch_eq m c (t.val - 1) (Nat.lt_of_le_of_lt (Nat.sub_le _ _) t.isLt)]
    dsimp only
    exact h1_B ..

theorem codes_of (c : Dev nD) (t : Fin cfg0.N) : (outsAt0 m c t.val t.isLt).2.1 = codesOf (tileAt m c t) (iblk m c 4 t) := by
  unfold tileAt
  by_cases h0 : t.val % 8 = 0
  · rw [outsAt0_A m c t h0, ← wide_iblk m c t]
    dsimp only
    exact codesOf_A ..
  · rw [outsAt0_B m c t h0, ← scratch_eq m c (t.val - 1) (Nat.lt_of_le_of_lt (Nat.sub_le _ _) t.isLt)]
    dsimp only
    exact codesOf_B ..

theorem scales_of (c : Dev nD) (t : Fin cfg0.N) : (outsAt0 m c t.val t.isLt).2.2.1 = scalesOf (tileAt m c t) (iblk m c 4 t) := by
  unfold tileAt
  by_cases h0 : t.val % 8 = 0
  · rw [outsAt0_A m c t h0, ← wide_iblk m c t]
    dsimp only
    exact scalesOf_A ..
  · rw [outsAt0_B m c t h0, ← scratch_eq m c (t.val - 1) (Nat.lt_of_le_of_lt (Nat.sub_le _ _) t.isLt)]
    dsimp only
    exact scalesOf_B ..

theorem wides_of (c : Dev nD) (t : Fin cfg0.N) : (outsAt0 m c t.val t.isLt).2.2.2.1 = widesOf (tileAt m c t) (iblk m c 4 t) := by
  unfold tileAt
  by_cases h0 : t.val % 8 = 0
  · rw [outsAt0_A m c t h0, ← wide_iblk m c t]
    dsimp only
    exact widesOf_A ..
  · rw [outsAt0_B m c t h0, ← scratch_eq m c (t.val - 1) (Nat.lt_of_le_of_lt (Nat.sub_le _ _) t.isLt)]
    dsimp only
    exact widesOf_B ..

/-- The tile of h1 is the part of h1 at the point's rows. -/
theorem tileAt_at (c : Dev nD) (t : Fin cfg0.N) (r : Fin 256) (k : Fin 4096) (z : Fin 2048) (hz : z.val = 256 * (grid0.coords t 0).val + r.val) :
    tileAt m c t (ix2 r k) = row (arr0 m c) (arr1 m c) (arr2 m c) (arr3 m c) z k := by
  exact congrArg₂ (fun p q : EReal => p + q) (iblk0_at m c t r k z hz)
    (Finset.sum_congr rfl fun q _ => congrArg (fun p : EReal => p * weight (arr2 m c) (arr3 m c) q k) (iblk1_at m c t r q z hz))

theorem tileRow_eq (c : Dev nD) (t : Fin cfg0.N) (r : Fin 256) (z : Fin 2048) (hz : z.val = 256 * (grid0.coords t 0).val + r.val) :
    (fun k => tileAt m c t (ix2 r k)) = row (arr0 m c) (arr1 m c) (arr2 m c) (arr3 m c) z := funext fun k => tileAt_at m c t r k z hz

/-! ## The arrays after the run -/

theorem arrAt5_eq (c : Dev nD) : (dats m 0 c).arrAt 5 cfg0.N = resH1 (arr0 m c) (arr1 m c) (arr2 m c) (arr3 m c) := by
  refine (dats m 0 c).arrAt_eq_of_covers 5 _ (by decide +kernel) fun t hf y => ?_
  blk_simp
  rw [after0_5, h1_left]
  have h0 : (grid0.coords t 0).val < 8 := (grid0.coords t 0).isLt
  obtain ⟨r, k, rfl⟩ : ∃ (r : Fin 256) (k : Fin 4096), y = ix2 r k := ⟨y 0, y 1, (ix2_eta y).symm⟩
  refine (tileAt_at m c t r k ⟨256 * (grid0.coords t 0).val + r.val, by omega⟩ rfl).trans ?_
  show resH1 (arr0 m c) (arr1 m c) (arr2 m c) (arr3 m c) (ix2 ⟨256 * (grid0.coords t 0).val + r.val, _⟩ k) = _
  refine congrArg (resH1 _ _ _ _) ?_
  blk_ext [index5 t]

theorem arrAt6_eq (c : Dev nD) : (dats m 0 c).arrAt 6 cfg0.N = resCodes (arr0 m c) (arr1 m c) (arr2 m c) (arr3 m c) (arr4 m c) := by
  refine (dats m 0 c).arrAt_eq_of_covers 6 _ (by decide +kernel) fun t hf y => ?_
  blk_simp
  rw [after0_6, codes_of]
  have h0 : (grid0.coords t 0).val < 8 := (grid0.coords t 0).isLt
  obtain ⟨r, k, rfl⟩ : ∃ (r : Fin 256) (k : Fin 4096), y = ix2 r k := ⟨y 0, y 1, (ix2_eta y).symm⟩
  have e : codesOf (tileAt m c t) (iblk m c 4 t) (ix2 r k) = resCodes (arr0 m c) (arr1 m c) (arr2 m c) (arr3 m c) (arr4 m c) (ix2 ⟨256 * (grid0.coords t 0).val + r.val, by omega⟩ k) := by
    show rowCode (fun k => tileAt m c t (ix2 r k)) (weights _) k = rowCode (row _ _ _ _ ⟨256 * (grid0.coords t 0).val + r.val, _⟩) (weights _) k
    rw [tileRow_eq m c t r ⟨256 * (grid0.coords t 0).val + r.val, by omega⟩ rfl, weights_iblk]
  refine e.trans (congrArg (resCodes _ _ _ _ _) ?_)
  blk_ext [index6 t]

theorem arrAt7_eq (c : Dev nD) : (dats m 0 c).arrAt 7 cfg0.N = resScales (arr0 m c) (arr1 m c) (arr2 m c) (arr3 m c) (arr4 m c) := by
  refine (dats m 0 c).arrAt_eq_of_covers 7 _ (by decide +kernel) fun t hf y => ?_
  blk_simp
  rw [after0_7, scales_of]
  have h0 : (grid0.coords t 0).val < 8 := (grid0.coords t 0).isLt
  obtain ⟨n, r, rfl⟩ : ∃ (n : Fin 32) (r : Fin 256), y = ix2 n r := ⟨y 0, y 1, (ix2_eta y).symm⟩
  have e : scalesOf (tileAt m c t) (iblk m c 4 t) (ix2 n r) = resScales (arr0 m c) (arr1 m c) (arr2 m c) (arr3 m c) (arr4 m c) (ix2 n ⟨256 * (grid0.coords t 0).val + r.val, by omega⟩) := by
    show rowScale (fun k => tileAt m c t (ix2 r k)) (weights _) n = rowScale (row _ _ _ _ ⟨256 * (grid0.coords t 0).val + r.val, _⟩) (weights _) n
    rw [tileRow_eq m c t r ⟨256 * (grid0.coords t 0).val + r.val, by omega⟩ rfl, weights_iblk]
  refine e.trans (congrArg (resScales _ _ _ _ _) ?_)
  blk_ext [index7 t]

theorem arrAt8_eq (c : Dev nD) : (dats m 0 c).arrAt 8 cfg0.N = resWide (arr0 m c) (arr1 m c) (arr2 m c) (arr3 m c) (arr4 m c) := by
  refine (dats m 0 c).arrAt_eq_of_covers 8 _ (by decide +kernel) fun t hf y => ?_
  blk_simp
  rw [after0_8, wides_of]
  have h0 : (grid0.coords t 0).val < 8 := (grid0.coords t 0).isLt
  obtain ⟨r, k, rfl⟩ : ∃ (r : Fin 256) (k : Fin 4096), y = ix2 r k := ⟨y 0, y 1, (ix2_eta y).symm⟩
  have e : widesOf (tileAt m c t) (iblk m c 4 t) (ix2 r k) = resWide (arr0 m c) (arr1 m c) (arr2 m c) (arr3 m c) (arr4 m c) (ix2 ⟨256 * (grid0.coords t 0).val + r.val, by omega⟩ k) := by
    show rowWide (fun k => tileAt m c t (ix2 r k)) (weights _) k = rowWide (row _ _ _ _ ⟨256 * (grid0.coords t 0).val + r.val, _⟩) (weights _) k
    rw [tileRow_eq m c t r ⟨256 * (grid0.coords t 0).val + r.val, by omega⟩ rfl, weights_iblk]
  refine e.trans (congrArg (resWide _ _ _ _ _) ?_)
  blk_ext [index8 t]

/-- The run: each result array at its closed form of the arguments, the arguments kept. -/
theorem run_eq : θ_run defs (onTc (τ := τ) (main (F := Ideal))) ⟨m, fun _ => 0, ρ⟩ fun r => ∀ c : Dev nD,
      r.2.mem ((c : Thread nD τ).loc main_v0_0) = resH1 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = resCodes (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = resScales (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_3) = resWide (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (arrAt5_eq m c), (h c).2.1.trans (arrAt6_eq m c), (h c).2.2.1.trans (arrAt7_eq m c), (h c).2.2.2.1.trans (arrAt8_eq m c), (h c).2.2.2.2⟩) (run_blocks m ρ)

end Cert.OprojIdeal.Value

end
-- ==== Proof.OprojRefRun.lean ====
/- The run of the reference of `oproj`: its one point leaves each output array whole, at the payload that it stores. -/
module

public import proofs.«01_k».proof.Proof.Gen.OprojRefIdeal.Frame
public import Idealize.ShloMosaic.Lib.Pipeline.Value

@[expose] public section

noncomputable section

namespace Cert.OprojRefIdeal.Hand

open Cert.OprojRefIdeal Cert.OprojRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_3) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S2048x4096.Idx) : ((cfg0.win 0).blk t).view.emb j = j := by
  obtain ⟨e0, e1⟩ := idx_zero0 t
  funext a; apply Fin.ext
  match a with
  | ⟨0, _⟩ => show win0_0.index t (0 : Fin 2) * 2048 + 1 * (j 0).val = (j 0).val; omega
  | ⟨1, _⟩ => show win0_0.index t (1 : Fin 2) * 4096 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S2048x2048.Idx) : ((cfg0.win 1).blk t).view.emb j = j := by
  obtain ⟨e0, e1⟩ := idx_zero1 t
  funext a; apply Fin.ext
  match a with
  | ⟨0, _⟩ => show win0_1.index t (0 : Fin 2) * 2048 + 1 * (j 0).val = (j 0).val; omega
  | ⟨1, _⟩ => show win0_1.index t (1 : Fin 2) * 2048 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S2048x4096.Idx) : ((cfg0.win 2).blk t).view.emb j = j := by
  obtain ⟨e0, e1⟩ := idx_zero2 t
  funext a; apply Fin.ext
  match a with
  | ⟨0, _⟩ => show win0_2.index t (0 : Fin 2) * 2048 + 1 * (j 0).val = (j 0).val; omega
  | ⟨1, _⟩ => show win0_2.index t (1 : Fin 2) * 4096 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S16x32.Idx) : ((cfg0.win 3).blk t).view.emb j = j := by
  obtain ⟨e0, e1⟩ := idx_zero3 t
  funext a; apply Fin.ext
  match a with
  | ⟨0, _⟩ => show win0_3.index t (0 : Fin 2) * 16 + 1 * (j 0).val = (j 0).val; omega
  | ⟨1, _⟩ => show win0_3.index t (1 : Fin 2) * 32 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S1x4096.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 4096 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S2048x4096.Idx) : ((cfg0.win 5).blk t).view.emb j = j := by
  obtain ⟨e0, e1⟩ := idx_zero5 t
  funext a; apply Fin.ext
  match a with
  | ⟨0, _⟩ => show win0_5.index t (0 : Fin 2) * 2048 + 1 * (j 0).val = (j 0).val; omega
  | ⟨1, _⟩ => show win0_5.index t (1 : Fin 2) * 4096 + 1 * (j 1).val = (j 1).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S2048x4096.Idx) : ((cfg0.win 6).blk t).view.emb j = j := by
  obtain ⟨e0, e1⟩ := idx_zero6 t
  funext a; apply Fin.ext
  match a with
  | ⟨0, _⟩ => show win0_6.index t (0 : Fin 2) * 2048 + 1 * (j 0).val = (j 0).val; omega
  | ⟨1, _⟩ => show win0_6.index t (1 : Fin 2) * 4096 + 1 * (j 1).val = (j 1).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S32x2048.Idx) : ((cfg0.win 7).blk t).view.emb j = j := by
  obtain ⟨e0, e1⟩ := idx_zero7 t
  funext a; apply Fin.ext
  match a with
  | ⟨0, _⟩ => show win0_7.index t (0 : Fin 2) * 32 + 1 * (j 0).val = (j 0).val; omega
  | ⟨1, _⟩ => show win0_7.index t (1 : Fin 2) * 2048 + 1 * (j 1).val = (j 1).val; omega

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S2048x4096.Idx) : ((cfg0.win 8).blk t).view.emb j = j := by
  obtain ⟨e0, e1⟩ := idx_zero8 t
  funext a; apply Fin.ext
  match a with
  | ⟨0, _⟩ => show win0_8.index t (0 : Fin 2) * 2048 + 1 * (j 0).val = (j 0).val; omega
  | ⟨1, _⟩ => show win0_8.index t (1 : Fin 2) * 4096 + 1 * (j 1).val = (j 1).val; omega

/-! ### Output window 5: the array after the run -/

/-- What the window's array ends holding: `out0_5` applied to the argument arrays in place of the input blocks (a value that the
    frame states apart, `kK_payN a…`, keeps its loads inside its own definition). -/
abbrev G5 (a0 : Vec F S2048x4096 .bf16) (a1 : Vec F S2048x2048 .bf16) (a2 : Vec F S2048x4096 .fp8e4m3) (a3 : Vec F S16x32 .f32) (a4 : Vec F S1x4096 .f32) : Vec F S2048x4096 .f32 :=
  k0_pay6 a0 a1 a2 a3

/-- A load of the whole of a block reads the block, and the one store through the whole rectangle leaves its payload. -/
theorem out5_eq (a0 : Vec F S2048x4096 .bf16) (a1 : Vec F S2048x2048 .bf16) (a2 : Vec F S2048x4096 .fp8e4m3) (a3 : Vec F S16x32 .f32) (a4 : Vec F S1x4096 .f32) : out0_5 (F := F) a0 a1 a2 a3 a4 = G5 a0 a1 a2 a3 a4 := by
  unfold out0_5
  rw [View.canon_unit_zero hz5, View.ld_unit_zero (S := S2048x4096) hz0 _ a0, View.ld_unit_zero (S := S2048x2048) hz1 _ a1, View.ld_unit_zero (S := S2048x4096) hz2 _ a2, View.ld_unit_zero (S := S16x32) hz3 _ a3]

/-- Cutting the point's block out of `X` and reading `X` through the block's view give the same. -/
theorem cut5_eq (t : Fin cfg0.N) (X : Vec F S2048x4096 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S2048x4096.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks (a value that the
    frame states apart, `kK_payN a…`, keeps its loads inside its own definition). -/
abbrev G6 (a0 : Vec F S2048x4096 .bf16) (a1 : Vec F S2048x2048 .bf16) (a2 : Vec F S2048x4096 .fp8e4m3) (a3 : Vec F S16x32 .f32) (a4 : Vec F S1x4096 .f32) : Vec F S2048x4096 .fp8e4m3 :=
  k0_pay4 (k0_pay11 a0 a1 a2 a3 a4) (k0_pay12 a0 a1 a2 a3 a4) (k0_pay13 a0 a1 a2 a3 a4) (k0_pay14 a0 a1 a2 a3 a4)

/-- The one store through the whole rectangle leaves its payload. -/
theorem out6_eq (a0 : Vec F S2048x4096 .bf16) (a1 : Vec F S2048x2048 .bf16) (a2 : Vec F S2048x4096 .fp8e4m3) (a3 : Vec F S16x32 .f32) (a4 : Vec F S1x4096 .f32) : out0_6 (F := F) a0 a1 a2 a3 a4 = G6 a0 a1 a2 a3 a4 := by
  unfold out0_6
  rw [View.canon_unit_zero hz6]

/-- Cutting the point's block out of `X` and reading `X` through the block's view give the same. -/
theorem cut6_eq (t : Fin cfg0.N) (X : Vec F S2048x4096 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S2048x4096.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

/-! ### Output window 7: the array after the run -/

/-- What the window's array ends holding: `out0_7` applied to the argument arrays in place of the input blocks (a value that the
    frame states apart, `kK_payN a…`, keeps its loads inside its own definition). -/
abbrev G7 (a0 : Vec F S2048x4096 .bf16) (a1 : Vec F S2048x2048 .bf16) (a2 : Vec F S2048x4096 .fp8e4m3) (a3 : Vec F S16x32 .f32) (a4 : Vec F S1x4096 .f32) : Vec F S32x2048 .f32 :=
  k0_pay2 (k0_pay12 a0 a1 a2 a3 a4) (k0_pay13 a0 a1 a2 a3 a4) (k0_pay14 a0 a1 a2 a3 a4)

/-- The one store through the whole rectangle leaves its payload. -/
theorem out7_eq (a0 : Vec F S2048x4096 .bf16) (a1 : Vec F S2048x2048 .bf16) (a2 : Vec F S2048x4096 .fp8e4m3) (a3 : Vec F S16x32 .f32) (a4 : Vec F S1x4096 .f32) : out0_7 (F := F) a0 a1 a2 a3 a4 = G7 a0 a1 a2 a3 a4 := by
  unfold out0_7
  rw [View.canon_unit_zero hz7]

/-- Cutting the point's block out of `X` and reading `X` through the block's view give the same. -/
theorem cut7_eq (t : Fin cfg0.N) (X : Vec F S32x2048 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4)) := by
  show (cfg0.win 7).cut (grid0.coords t) ((dats m 0 c).after 7 t) = _
  rw [after0_7, out7_eq, iblk0_eq, iblk1_eq, iblk2_eq, iblk3_eq, iblk4_eq]
  exact cut7_eq t _

/-- Every index of the array is in the point's block. -/
theorem covered7 (i : S32x2048.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 7 (G7 (V m c main_arg0) (V m c main_arg1) (V m c main_arg2) (V m c main_arg3) (V m c main_arg4)) (fun t _ => flushed7_eq m c t) covered7).trans (by rw [V_main_arg0, V_main_arg1, V_main_arg2, V_main_arg3, V_main_arg4])

/-! ### Output window 8: the array after the run -/

/-- What the window's array ends holding: `out0_8` applied to the argument arrays in place of the input blocks (a value that the
    frame states apart, `kK_payN a…`, keeps its loads inside its own definition). -/
abbrev G8 (a0 : Vec F S2048x4096 .bf16) (a1 : Vec F S2048x2048 .bf16) (a2 : Vec F S2048x4096 .fp8e4m3) (a3 : Vec F S16x32 .f32) (a4 : Vec F S1x4096 .f32) : Vec F S2048x4096 .bf16 :=
  k0_pay5 (k0_pay11 a0 a1 a2 a3 a4) (k0_pay12 a0 a1 a2 a3 a4) (k0_pay13 a0 a1 a2 a3 a4) (k0_pay14 a0 a1 a2 a3 a4)

/-- The one store through the whole rectangle leaves its payload. -/
theorem out8_eq (a0 : Vec F S2048x4096 .bf16) (a1 : Vec F S2048x2048 .bf16) (a2 : Vec F S2048x4096 .fp8e4m3) (a3 : Vec F S16x32 .f32) (a4 : Vec F S1x4096 .f32) : out0_8 (F := F) a0 a1 a2 a3 a4 = G8 a0 a1 a2 a3 a4 := by
  unfold out0_8
  rw [View.canon_unit_zero hz8]

/-- Cutting the point's block out of `X` and reading `X` through the block's view give the same. -/
theorem cut8_eq (t : Fin cfg0.N) (X : Vec F S2048x4096 .bf16) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4)) := by
  show (cfg0.win 8).cut (grid0.coords t) ((dats m 0 c).after 8 t) = _
  rw [after0_8, out8_eq, iblk0_eq, iblk1_eq, iblk2_eq, iblk3_eq, iblk4_eq]
  exact cut8_eq t _

/-- Every index of the array is in the point's block. -/
theorem covered8 (i : S2048x4096.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 8 (G8 (V m c main_arg0) (V m c main_arg1) (V m c main_arg2) (V m c main_arg3) (V m c main_arg4)) (fun t _ => flushed8_eq m c t) covered8).trans (by rw [V_main_arg0, V_main_arg1, V_main_arg2, V_main_arg3, V_main_arg4])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_3) = G8 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      (post8 m r h c).trans (final8 m c),
      kept_main_arg0 m r h c,
      kept_main_arg1 m r h c,
      kept_main_arg2 m r h c,
      kept_main_arg3 m r h c,
      kept_main_arg4 m r h c⟩)
    (run_main m ρ)

end Cert.OprojRefIdeal.Hand

end
-- ==== Proof.OprojRefValue.lean ====
/- The reference of `oproj` leaves the closed forms. -/
module

public import proofs.«01_k».proof.Proof.OprojClosed
public import proofs.«01_k».proof.Proof.NormRefValue
public import proofs.«01_k».proof.Proof.OprojRefRun

@[expose] public section

set_option maxRecDepth 16384

noncomputable section

namespace Cert.OprojRefIdeal.Hand

open Cert.OprojRefIdeal Cert.OprojRefIdeal.Gen Idealize.ShloMosaic Idealize.ShloMosaic.TcCoe Idealize.SL.Sem
open Cert.UpValue Cert.OprojValue
open Cert.NormValue hiding row weights resCodes resScales resWide
open Cert.NormRefIdeal.Hand (amaxOf amaxOf_at exponentOf exponentOf_at codesIn codesIn_at exp2_at group_column)

variable (a0 : Vec Ideal S2048x4096 .bf16) (a1 : Vec Ideal S2048x2048 .bf16) (a2 : Vec Ideal S2048x4096 .fp8e4m3) (a3 : Vec Ideal S16x32 .f32) (a4 : Vec Ideal S1x4096 .f32)

/-- h1. -/
theorem pay6_at (r : Fin 2048) (c : Fin 4096) : k0_pay6 a0 a1 a2 a3 (ix2 r c) = row a0 a1 a2 a3 r c := by
  pointwise [k0_pay6, row, weight, Ideal.ofBits_zero_f32]

/-- Rows normed and arranged in groups, of any rows `p`. -/
def normedOf (p : FVec Ideal S2048x4096 .f32) (v18 : Vec Ideal S1x4096 .f32) : FVec Ideal S32x2048x128 .f32 :=
  transpose S32x2048x128 [1, 0, 2] (shapeCast S2048x32x128 (mulf (divf p (broadcastTo S2048x4096 (sqrt (addf (divf (shapeCast S2048x1
    (multiReduction .add [1] S2048 (mulf p p) 0x00000000#32 reduces_S2048x4096_S2048 (.inl rfl) rfl) shapeCasts_S2048_S2048x1) (broadcast S2048x1 (Scalar.ofBits .f32 0x45800000#32)))
    (broadcast S2048x1 (Scalar.ofBits .f32 0x358637BD#32)))) broadcasts_S2048x1_S2048x4096)) (broadcastTo S2048x4096 v18 broadcasts_S1x4096_S2048x4096)) shapeCasts_S2048x4096_S2048x32x128)
    transposes_S2048x32x128_p1_0_2_S32x2048x128

theorem normedOf_at (p : FVec Ideal S2048x4096 .f32) (f : Fin 4096 → EReal) (r : Fin 2048) (hf : ∀ c, p (ix2 r c) = f c) (n : Fin 32) (x : Fin 128) :
    normedOf p a4 (ix3 n r x) = group f (weights a4) n x := by
  obtain rfl : f = fun c => p (ix2 r c) := funext fun c => (hf c).symm
  show _ = p (ix2 r ⟨128 * n.val + x.val, _⟩) * rootOf (fun c => p (ix2 r c)) * weights a4 ⟨128 * n.val + x.val, _⟩
  rw [← div_root]
  pointwise [normedOf, weights, Ideal.ofBits_zero_f32]
  simp only [Nat.mul_comm n.val 128]

theorem pay7_eq : k0_pay7 a0 a1 a2 a3 a4 = normedOf (k0_pay6 a0 a1 a2 a3) a4 := rfl

theorem pay7_at (n : Fin 32) (r : Fin 2048) (x : Fin 128) : k0_pay7 a0 a1 a2 a3 a4 (ix3 n r x) = group (row a0 a1 a2 a3 r) (weights a4) n x := by
  rw [pay7_eq]
  exact normedOf_at a4 _ _ r (pay6_at a0 a1 a2 a3 r) n x

/-- The exponents. -/
def expo : FVec Ideal S32x2048 .f32 := exponentOf (amaxOf (k0_pay7 a0 a1 a2 a3 a4))

theorem expo_at (n : Fin 32) (r : Fin 2048) : expo a0 a1 a2 a3 a4 (ix2 n r) = GroupScale.exponent (step (group (row a0 a1 a2 a3 r) (weights a4) n)) := by
  rw [expo, exponentOf_at, amaxOf_at, step]
  simp only [pay7_at]

theorem pay2_eq : k0_pay2 (k0_pay8 a0 a1 a2 a3 a4) (k0_pay9 a0 a1 a2 a3 a4) k0_pay10 = exp2 (expo a0 a1 a2 a3 a4) := rfl
theorem pay3_eq : k0_pay3 (k0_pay7 a0 a1 a2 a3 a4) (k0_pay8 a0 a1 a2 a3 a4) (k0_pay9 a0 a1 a2 a3 a4) k0_pay10 = codesIn (k0_pay7 a0 a1 a2 a3 a4) (expo a0 a1 a2 a3 a4) := rfl

theorem scales_at (n : Fin 32) (r : Fin 2048) : k0_pay2 (k0_pay8 a0 a1 a2 a3 a4) (k0_pay9 a0 a1 a2 a3 a4) k0_pay10 (ix2 n r) = rowScale (row a0 a1 a2 a3 r) (weights a4) n := by
  rw [pay2_eq]
  refine (exp2_at _ _).trans ?_
  rw [expo_at]; rfl

theorem codes_at (n : Fin 32) (r : Fin 2048) (x : Fin 128) : k0_pay3 (k0_pay7 a0 a1 a2 a3 a4) (k0_pay8 a0 a1 a2 a3 a4) (k0_pay9 a0 a1 a2 a3 a4) k0_pay10 (ix3 n r x)
    = code (group (row a0 a1 a2 a3 r) (weights a4) n) (group (row a0 a1 a2 a3 r) (weights a4) n x) := by
  rw [pay3_eq, codesIn_at, expo_at, pay7_at]; rfl

theorem rowCode_at (r : Fin 2048) (c : Fin 4096) : k0_pay3 (k0_pay7 a0 a1 a2 a3 a4) (k0_pay8 a0 a1 a2 a3 a4) (k0_pay9 a0 a1 a2 a3 a4) k0_pay10 (ix3 ⟨c.val / 128, by omega⟩ r ⟨c.val % 128, by omega⟩)
    = rowCode (row a0 a1 a2 a3 r) (weights a4) c := by
  rw [codes_at, group_column]; rfl

theorem pay4_at (p : FVec Ideal S32x2048x128 .f32) (u v : FVec Ideal S32x2048 .f32) (w) (r : Fin 2048) (c : Fin 4096) :
    k0_pay4 p u v w (ix2 r c) = k0_pay3 p u v w (ix3 ⟨c.val / 128, by omega⟩ r ⟨c.val % 128, by omega⟩) := by
  unfold k0_pay4
  generalize k0_pay3 p u v w = q
  pointwise

theorem pay5_at (p : FVec Ideal S32x2048x128 .f32) (u v : FVec Ideal S32x2048 .f32) (w) (r : Fin 2048) (c : Fin 4096) :
    k0_pay5 p u v w (ix2 r c) = k0_pay3 p u v w (ix3 ⟨c.val / 128, by omega⟩ r ⟨c.val % 128, by omega⟩) * k0_pay2 u v w (ix2 ⟨c.val / 128, by omega⟩ r) := by
  unfold k0_pay5
  generalize k0_pay3 p u v w = q
  generalize k0_pay2 u v w = s
  pointwise

/-- The stored payloads are the closed forms. -/
theorem h1_eq : k0_pay6 a0 a1 a2 a3 = resH1 a0 a1 a2 a3 := by
  funext j
  obtain ⟨r, c, rfl⟩ : ∃ (r : Fin 2048) (c : Fin 4096), j = ix2 r c := ⟨j 0, j 1, (ix2_eta j).symm⟩
  rw [pay6_at]; rfl

theorem codes_eq : k0_pay4 (k0_pay7 a0 a1 a2 a3 a4) (k0_pay8 a0 a1 a2 a3 a4) (k0_pay9 a0 a1 a2 a3 a4) k0_pay10 = resCodes a0 a1 a2 a3 a4 := by
  funext j
  obtain ⟨r, c, rfl⟩ : ∃ (r : Fin 2048) (c : Fin 4096), j = ix2 r c := ⟨j 0, j 1, (ix2_eta j).symm⟩
  rw [pay4_at, rowCode_at]; rfl

theorem scales_eq : k0_pay2 (k0_pay8 a0 a1 a2 a3 a4) (k0_pay9 a0 a1 a2 a3 a4) k0_pay10 = resScales a0 a1 a2 a3 a4 := by
  funext j
  obtain ⟨n, r, rfl⟩ : ∃ (n : Fin 32) (r : Fin 2048), j = ix2 n r := ⟨j 0, j 1, (ix2_eta j).symm⟩
  rw [scales_at]; rfl

theorem wide_eq : k0_pay5 (k0_pay7 a0 a1 a2 a3 a4) (k0_pay8 a0 a1 a2 a3 a4) (k0_pay9 a0 a1 a2 a3 a4) k0_pay10 = resWide a0 a1 a2 a3 a4 := by
  funext j
  obtain ⟨r, c, rfl⟩ : ∃ (r : Fin 2048) (c : Fin 4096), j = ix2 r c := ⟨j 0, j 1, (ix2_eta j).symm⟩
  rw [pay5_at, rowCode_at, scales_at]; rfl

/-! The loads of whole arrays are the arrays. -/

theorem ld0 (a : Vec Ideal S2048x4096 .bf16) : View.ld a r0_0 = a := by funext j; exact congrArg a (show (Rect.unit (s := _) ![0, 0] _ _).emb j = j by blk_ext)
theorem ld1 : View.ld a1 r0_1 = a1 := by funext j; exact congrArg a1 (show (Rect.unit (s := _) ![0, 0] _ _).emb j = j by blk_ext)
theorem ld2 (a : Vec Ideal S2048x4096 .fp8e4m3) : View.ld a r0_0 = a := by funext j; exact congrArg a (show (Rect.unit (s := _) ![0, 0] _ _).emb j = j by blk_ext)
theorem ld3 : View.ld a3 r0_2 = a3 := by funext j; exact congrArg a3 (show (Rect.unit (s := _) ![0, 0] _ _).emb j = j by blk_ext)
theorem ld4 : View.ld a4 r0_3 = a4 := by funext j; exact congrArg a4 (show (Rect.unit (s := _) ![0, 0] _ _).emb j = j by blk_ext)

theorem G5_eq : G5 a0 a1 a2 a3 a4 = resH1 a0 a1 a2 a3 := h1_eq a0 a1 a2 a3
theorem G6_eq : G6 a0 a1 a2 a3 a4 = resCodes a0 a1 a2 a3 a4 := by
  unfold G6 k0_pay11 k0_pay12 k0_pay13 k0_pay14
  rw [ld0, ld1, ld2, ld3, ld4, codes_eq]
theorem G7_eq : G7 a0 a1 a2 a3 a4 = resScales a0 a1 a2 a3 a4 := by
  unfold G7 k0_pay12 k0_pay13 k0_pay14
  rw [ld0, ld1, ld2, ld3, ld4, scales_eq]
theorem G8_eq : G8 a0 a1 a2 a3 a4 = resWide a0 a1 a2 a3 a4 := by
  unfold G8 k0_pay11 k0_pay12 k0_pay13 k0_pay14
  rw [ld0, ld1, ld2, ld3, ld4, wide_eq]

end Cert.OprojRefIdeal.Hand

end
-- ==== Proof.lean ====
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.DownIdeal.Value
public import proofs.«01_k».proof.Proof.Gen.DownRefIdeal.Value
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormRefIdeal.Skeleton
public import proofs.«01_k».proof.Proof.Gen.NormRefIdeal.Launch
public import proofs.«01_k».proof.Proof.Gen.NormRefIdeal.Points
public import proofs.«01_k».proof.Proof.Gen.NormRefIdeal.Frame
public import proofs.«01_k».proof.Proof.Gen.NormIdeal.Value
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojRefIdeal
public import proofs.«01_k».proof.Proof.Gen.OprojRefIdeal.Skeleton
public import proofs.«01_k».proof.Proof.Gen.OprojRefIdeal.Launch
public import proofs.«01_k».proof.Proof.Gen.OprojRefIdeal.Points
public import proofs.«01_k».proof.Proof.Gen.OprojRefIdeal.Frame
public import proofs.«01_k».proof.Proof.Gen.OprojIdeal.Value
public import proofs.«01_k».proof.Proof.DownValue
public import proofs.«01_k».proof.Proof.UpFrame
public import proofs.«01_k».proof.Proof.UpIdealFrame
public import proofs.«01_k».proof.Proof.UpIdealValue
public import proofs.«01_k».proof.Proof.UpRefValue
public import proofs.«01_k».proof.Proof.NormIdealValue
public import proofs.«01_k».proof.Proof.NormRefValue
public import proofs.«01_k».proof.Proof.OprojIdealValue
public import proofs.«01_k».proof.Proof.OprojRefValue
public import Idealize.ShloMosaic.Adequacy
public import Idealize.ShloMosaic.Init

@[expose] public section

noncomputable section

namespace Cert.Proof

open Idealize.ShloMosaic Idealize.SL.Sem Cert.Down

/-- Both runs leave `Cert.DownIdeal.Value.result` of the kernel's four arguments in the result. -/
theorem algebraic_down [Cert.DownIdeal.Facts] [Cert.DownRefIdeal.Facts] : algebraic_DownIdeal_DownRefIdeal := by
  intro m ρ m' ρ' _ hag
  refine ⟨fun c => Cert.DownRefIdeal.Value.G4 _ _ _ _, (θ_run _ _ _).mono (fun r h c => ⟨(h c).1.trans ?_, (h c).2⟩) (Cert.DownIdeal.Value.run_blocks m ρ),
    (θ_run _ _ _).mono (fun r h c => ⟨(h c).1, (h c).2⟩) (Cert.DownRefIdeal.Value.run m' ρ')⟩
  beta_reduce
  rw [Cert.DownIdeal.Value.arrAt_eq, Cert.DownRefIdeal.Value.G4_apply, (hag c).1, (hag c).2.1, (hag c).2.2.1, (hag c).2.2.2]

/-- Both runs leave the codes, the scales and the wide products of `Cert.UpValue` of the kernel's three arguments in the results. -/
theorem algebraic_up [Cert.UpIdeal.Facts] [Cert.UpRefIdeal.Facts] : algebraic_UpIdeal_UpRefIdeal := by
  intro m ρ m' ρ' _ hag
  refine ⟨fun c => Cert.UpValue.resCodes _ _ _, fun c => Cert.UpValue.resScales _ _ _, fun c => Cert.UpValue.resWide _ _ _,
    Cert.UpIdeal.Value.run_eq m ρ,
    (θ_run _ _ _).mono (fun r h c => ⟨(h c).1.trans ?_, (h c).2.1.trans ?_, (h c).2.2.1.trans ?_, (h c).2.2.2⟩) (Cert.UpRefIdeal.Hand.run m' ρ')⟩
  · rw [Cert.UpRefIdeal.Hand.G3_eq, (hag c).1, (hag c).2.1, (hag c).2.2]
  · rw [Cert.UpRefIdeal.Hand.G4_eq, (hag c).1, (hag c).2.1, (hag c).2.2]
  · rw [Cert.UpRefIdeal.Hand.G5_eq, (hag c).1, (hag c).2.1, (hag c).2.2]

/-- Both runs leave the codes, the scales and the wide products of `Cert.NormValue` of the kernel's two arguments in the results. -/
theorem algebraic_norm [Cert.NormIdeal.Facts] [Cert.NormRefIdeal.Facts] : algebraic_NormIdeal_NormRefIdeal := by
  intro m ρ m' ρ' _ hag
  refine ⟨fun c => Cert.NormValue.resCodes _ _, fun c => Cert.NormValue.resScales _ _, fun c => Cert.NormValue.resWide _ _,
    Cert.NormIdeal.Value.run_eq m ρ,
    (θ_run _ _ _).mono (fun r h c => ⟨(h c).1.trans ?_, (h c).2.1.trans ?_, (h c).2.2.1.trans ?_, (h c).2.2.2⟩) (Cert.NormRefIdeal.Hand.run m' ρ')⟩
  · rw [Cert.NormRefIdeal.Hand.G2_eq, (hag c).1, (hag c).2]
  · rw [Cert.NormRefIdeal.Hand.G3_eq, (hag c).1, (hag c).2]
  · rw [Cert.NormRefIdeal.Hand.G4_eq, (hag c).1, (hag c).2]

/-- Both runs leave h1 and the codes, the scales and the wide products of `Cert.OprojValue` of the kernel's five arguments in the results. -/
theorem algebraic_oproj [Cert.OprojIdeal.Facts] [Cert.OprojRefIdeal.Facts] : algebraic_OprojIdeal_OprojRefIdeal := by
  intro m ρ m' ρ' _ hag
  refine ⟨fun c => Cert.OprojValue.resH1 _ _ _ _, fun c => Cert.OprojValue.resCodes _ _ _ _ _, fun c => Cert.OprojValue.resScales _ _ _ _ _, fun c => Cert.OprojValue.resWide _ _ _ _ _,
    Cert.OprojIdeal.Value.run_eq m ρ,
    (θ_run _ _ _).mono (fun r h c => ⟨(h c).1.trans ?_, (h c).2.1.trans ?_, (h c).2.2.1.trans ?_, (h c).2.2.2.1.trans ?_, (h c).2.2.2.2⟩) (Cert.OprojRefIdeal.Hand.run m' ρ')⟩
  · rw [Cert.OprojRefIdeal.Hand.G5_eq, (hag c).1, (hag c).2.1, (hag c).2.2.1, (hag c).2.2.2.1]
  · rw [Cert.OprojRefIdeal.Hand.G6_eq, (hag c).1, (hag c).2.1, (hag c).2.2.1, (hag c).2.2.2.1, (hag c).2.2.2.2]
  · rw [Cert.OprojRefIdeal.Hand.G7_eq, (hag c).1, (hag c).2.1, (hag c).2.2.1, (hag c).2.2.2.1, (hag c).2.2.2.2]
  · rw [Cert.OprojRefIdeal.Hand.G8_eq, (hag c).1, (hag c).2.1, (hag c).2.2.1, (hag c).2.2.2.1, (hag c).2.2.2.2]

theorem claim : Cert.Claim := ⟨Cert.Down.Gen.facts, Cert.DownIdeal.Gen.facts, Cert.DownRefIdeal.Gen.facts,
  Cert.Up.Gen.facts, Cert.UpIdeal.Gen.facts, Cert.UpRefIdeal.Gen.facts,
  Cert.Norm.Gen.facts, Cert.NormIdeal.Gen.facts, Cert.NormRefIdeal.Gen.facts,
  Cert.Oproj.Gen.facts, Cert.OprojIdeal.Gen.facts, Cert.OprojRefIdeal.Gen.facts,
  fun m ρ _ => Cert.Down.Gen.frame m ρ, fun m ρ _ => Cert.DownIdeal.Gen.frame m ρ, fun m ρ _ => Cert.DownRefIdeal.Gen.frame m ρ,
  fun m ρ _ => Cert.Up.Hand.frame m ρ, fun m ρ _ => Cert.UpIdeal.Hand.frame m ρ, fun m ρ _ => Cert.UpRefIdeal.Gen.frame m ρ,
  fun m ρ _ => Cert.Norm.Gen.frame m ρ, fun m ρ _ => Cert.NormIdeal.Gen.frame m ρ, fun m ρ _ => Cert.NormRefIdeal.Gen.frame m ρ,
  fun m ρ _ => Cert.Oproj.Gen.frame m ρ, fun m ρ _ => Cert.OprojIdeal.Gen.frame m ρ, fun m ρ _ => Cert.OprojRefIdeal.Gen.frame m ρ,
  trivial, algebraic_down, trivial, algebraic_up, trivial, algebraic_norm, trivial, algebraic_oproj⟩

end Cert.Proof

end
